-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def Pre_Residual (m : (ℓ : Loc Cert.Residual.nD Cert.Residual.τ Cert.Residual.sig) → Buf (Elt Bits) ℓ) : Prop :=
  True

def Pre_ResidualIdeal (m : (ℓ : Loc Cert.ResidualIdeal.nD Cert.ResidualIdeal.τ Cert.ResidualIdeal.sig) → Buf (Elt Ideal) ℓ) : Prop :=
  True

def Pre_ResidualReferenceIdeal (m : (ℓ : Loc Cert.ResidualReferenceIdeal.nD Cert.ResidualReferenceIdeal.τ Cert.ResidualReferenceIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadReferenceIdeal (m : (ℓ : Loc Cert.HeadReferenceIdeal.nD Cert.HeadReferenceIdeal.τ Cert.HeadReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2)
      ∧ r.2.mem ((c.tc : Thread Cert.PleReferenceIdeal.nD Cert.PleReferenceIdeal.τ).loc Cert.PleReferenceIdeal.main_arg3) = m ((c.tc : Thread Cert.PleReferenceIdeal.nD Cert.PleReferenceIdeal.τ).loc Cert.PleReferenceIdeal.main_arg3))
      ∧ r.2.sem = fun _ => 0)

def quiescent_Residual [hResidual : Cert.Residual.Facts] : Prop :=
  ∀ (m : (ℓ : Loc Cert.Residual.nD Cert.Residual.τ Cert.Residual.sig) → Buf (Elt Bits) ℓ) (g : Dev Cert.Residual.nD → PrngReg), Pre_Residual m →
    θ_run (Cert.Residual.defs (F := Bits)) (onTc (τ := Cert.Residual.τ) (Cert.Residual.main (F := Bits))) ⟨m, fun _ => 0, g⟩ (fun r => (∀ c : Dev Cert.Residual.nD,
      r.2.mem ((c.tc : Thread Cert.Residual.nD Cert.Residual.τ).loc Cert.Residual.main_arg0) = m ((c.tc : Thread Cert.Residual.nD Cert.Residual.τ).loc Cert.Residual.main_arg0)
      ∧ r.2.mem ((c.tc : Thread Cert.Residual.nD Cert.Residual.τ).loc Cert.Residual.main_arg1) = m ((c.tc : Thread Cert.Residual.nD Cert.Residual.τ).loc Cert.Residual.main_arg1)
      ∧ r.2.mem ((c.tc : Thread Cert.Residual.nD Cert.Residual.τ).loc Cert.Residual.main_arg2) = m ((c.tc : Thread Cert.Residual.nD Cert.Residual.τ).loc Cert.Residual.main_arg2))
      ∧ r.2.sem = fun _ => 0)

def quiescent_ResidualIdeal [hResidualIdeal : Cert.ResidualIdeal.Facts] : Prop :=
  ∀ (m : (ℓ : Loc Cert.ResidualIdeal.nD Cert.ResidualIdeal.τ Cert.ResidualIdeal.sig) → Buf (Elt Ideal) ℓ) (g : Dev Cert.ResidualIdeal.nD → PrngReg), Pre_ResidualIdeal m →
    θ_run (Cert.ResidualIdeal.defs (F := Ideal)) (onTc (τ := Cert.ResidualIdeal.τ) (Cert.ResidualIdeal.main (F := Ideal))) ⟨m, fun _ => 0, g⟩ (fun r => (∀ c : Dev Cert.ResidualIdeal.nD,
      r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
      ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
      ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2))
      ∧ r.2.sem = fun _ => 0)

def quiescent_ResidualReferenceIdeal [hResidualReferenceIdeal : Cert.ResidualReferenceIdeal.Facts] : Prop :=
  ∀ (m : (ℓ : Loc Cert.ResidualReferenceIdeal.nD Cert.ResidualReferenceIdeal.τ Cert.ResidualReferenceIdeal.sig) → Buf (Elt Ideal) ℓ) (g : Dev Cert.ResidualReferenceIdeal.nD → PrngReg), Pre_ResidualReferenceIdeal m →
    θ_run (Cert.ResidualReferenceIdeal.defs (F := Ideal)) (onTc (τ := Cert.ResidualReferenceIdeal.τ) (Cert.ResidualReferenceIdeal.main (F := Ideal))) ⟨m, fun _ => 0, g⟩ (fun r => (∀ c : Dev Cert.ResidualReferenceIdeal.nD,
      r.2.mem ((c.tc : Thread Cert.ResidualReferenceIdeal.nD Cert.ResidualReferenceIdeal.τ).loc Cert.ResidualReferenceIdeal.main_arg0) = m ((c.tc : Thread Cert.ResidualReferenceIdeal.nD Cert.ResidualReferenceIdeal.τ).loc Cert.ResidualReferenceIdeal.main_arg0)
      ∧ r.2.mem ((c.tc : Thread Cert.ResidualReferenceIdeal.nD Cert.ResidualReferenceIdeal.τ).loc Cert.ResidualReferenceIdeal.main_arg1) = m ((c.tc : Thread Cert.ResidualReferenceIdeal.nD Cert.ResidualReferenceIdeal.τ).loc Cert.ResidualReferenceIdeal.main_arg1)
      ∧ r.2.mem ((c.tc : Thread Cert.ResidualReferenceIdeal.nD Cert.ResidualReferenceIdeal.τ).loc Cert.ResidualReferenceIdeal.main_arg2) = m ((c.tc : Thread Cert.ResidualReferenceIdeal.nD Cert.ResidualReferenceIdeal.τ).loc Cert.ResidualReferenceIdeal.main_arg2))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11)
      ∧ r.2.mem ((c.tc : Thread Cert.Tail.nD Cert.Tail.τ).loc Cert.Tail.main_arg12) = m ((c.tc : Thread Cert.Tail.nD Cert.Tail.τ).loc Cert.Tail.main_arg12))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9)
      ∧ r.2.mem ((c.tc : Thread Cert.TailReferenceIdeal.nD Cert.TailReferenceIdeal.τ).loc Cert.TailReferenceIdeal.main_arg10) = m ((c.tc : Thread Cert.TailReferenceIdeal.nD Cert.TailReferenceIdeal.τ).loc Cert.TailReferenceIdeal.main_arg10)
      ∧ r.2.mem ((c.tc : Thread Cert.TailReferenceIdeal.nD Cert.TailReferenceIdeal.τ).loc Cert.TailReferenceIdeal.main_arg11) = m ((c.tc : Thread Cert.TailReferenceIdeal.nD Cert.TailReferenceIdeal.τ).loc Cert.TailReferenceIdeal.main_arg11)
      ∧ r.2.mem ((c.tc : Thread Cert.TailReferenceIdeal.nD Cert.TailReferenceIdeal.τ).loc Cert.TailReferenceIdeal.main_arg12) = m ((c.tc : Thread Cert.TailReferenceIdeal.nD Cert.TailReferenceIdeal.τ).loc Cert.TailReferenceIdeal.main_arg12))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2))
      ∧ r.2.sem = fun _ => 0)

def quiescent_HeadReferenceIdeal [hHeadReferenceIdeal : Cert.HeadReferenceIdeal.Facts] : Prop :=
  ∀ (m : (ℓ : Loc Cert.HeadReferenceIdeal.nD Cert.HeadReferenceIdeal.τ Cert.HeadReferenceIdeal.sig) → Buf (Elt Ideal) ℓ) (g : Dev Cert.HeadReferenceIdeal.nD → PrngReg), Pre_HeadReferenceIdeal m →
    θ_run (Cert.HeadReferenceIdeal.defs (F := Ideal)) (onTc (τ := Cert.HeadReferenceIdeal.τ) (Cert.HeadReferenceIdeal.main (F := Ideal))) ⟨m, fun _ => 0, g⟩ (fun r => (∀ c : Dev Cert.HeadReferenceIdeal.nD,
      r.2.mem ((c.tc : Thread Cert.HeadReferenceIdeal.nD Cert.HeadReferenceIdeal.τ).loc Cert.HeadReferenceIdeal.main_arg0) = m ((c.tc : Thread Cert.HeadReferenceIdeal.nD Cert.HeadReferenceIdeal.τ).loc Cert.HeadReferenceIdeal.main_arg0)
      ∧ r.2.mem ((c.tc : Thread Cert.HeadReferenceIdeal.nD Cert.HeadReferenceIdeal.τ).loc Cert.HeadReferenceIdeal.main_arg1) = m ((c.tc : Thread Cert.HeadReferenceIdeal.nD Cert.HeadReferenceIdeal.τ).loc Cert.HeadReferenceIdeal.main_arg1)
      ∧ r.2.mem ((c.tc : Thread Cert.HeadReferenceIdeal.nD Cert.HeadReferenceIdeal.τ).loc Cert.HeadReferenceIdeal.main_arg2) = m ((c.tc : Thread Cert.HeadReferenceIdeal.nD Cert.HeadReferenceIdeal.τ).loc Cert.HeadReferenceIdeal.main_arg2))
      ∧ r.2.sem = fun _ => 0)

def preserves_Kernel_KernelIdeal : Prop :=
  IdealRules.named_const.Statement Cert.KernelIdeal.κ "scale" .f32 0x3E0293EE#32 (((Real.sqrt 128)⁻¹ * (Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v14)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v14) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v19) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v4)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v1) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3))

def preserves_Ple_PleIdeal : Prop :=
  True

def algebraic_PleIdeal_PleReferenceIdeal [hPleIdeal : Cert.PleIdeal.Facts] [hPleReferenceIdeal : Cert.PleReferenceIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleIdeal m →
    (∀ c : Dev Cert.PleIdeal.nD,
      m' ((c.tc : Thread Cert.PleReferenceIdeal.nD Cert.PleReferenceIdeal.τ).loc Cert.PleReferenceIdeal.main_arg0) = m ((c.tc : Thread Cert.PleIdeal.nD Cert.PleIdeal.τ).loc Cert.PleIdeal.main_arg0)
      ∧ m' ((c.tc : Thread Cert.PleReferenceIdeal.nD Cert.PleReferenceIdeal.τ).loc Cert.PleReferenceIdeal.main_arg1) = m ((c.tc : Thread Cert.PleIdeal.nD Cert.PleIdeal.τ).loc Cert.PleIdeal.main_arg1)
      ∧ m' ((c.tc : Thread Cert.PleReferenceIdeal.nD Cert.PleReferenceIdeal.τ).loc Cert.PleReferenceIdeal.main_arg2) = m ((c.tc : Thread Cert.PleIdeal.nD Cert.PleIdeal.τ).loc Cert.PleIdeal.main_arg2)
      ∧ m' ((c.tc : Thread Cert.PleReferenceIdeal.nD Cert.PleReferenceIdeal.τ).loc Cert.PleReferenceIdeal.main_arg3) = m ((c.tc : Thread Cert.PleIdeal.nD Cert.PleIdeal.τ).loc Cert.PleIdeal.main_arg3)) →
    ∃ (v0 : (c : Dev Cert.PleIdeal.nD) → Buf (Elt Ideal) ((c.tc : Thread Cert.PleIdeal.nD Cert.PleIdeal.τ).loc Cert.PleIdeal.main_v3)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v3) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v8) = v0 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1)
          ∧ r.2.mem ((c.tc : Thread Cert.PleReferenceIdeal.nD Cert.PleReferenceIdeal.τ).loc Cert.PleReferenceIdeal.main_arg2) = m' ((c.tc : Thread Cert.PleReferenceIdeal.nD Cert.PleReferenceIdeal.τ).loc Cert.PleReferenceIdeal.main_arg2)
          ∧ r.2.mem ((c.tc : Thread Cert.PleReferenceIdeal.nD Cert.PleReferenceIdeal.τ).loc Cert.PleReferenceIdeal.main_arg3) = m' ((c.tc : Thread Cert.PleReferenceIdeal.nD Cert.PleReferenceIdeal.τ).loc Cert.PleReferenceIdeal.main_arg3))

def preserves_Residual_ResidualIdeal : Prop :=
  True

def algebraic_ResidualIdeal_ResidualReferenceIdeal [hResidualIdeal : Cert.ResidualIdeal.Facts] [hResidualReferenceIdeal : Cert.ResidualReferenceIdeal.Facts] : Prop :=
  ∀ (m : (ℓ : Loc Cert.ResidualIdeal.nD Cert.ResidualIdeal.τ Cert.ResidualIdeal.sig) → Buf (Elt Ideal) ℓ) (g : Dev Cert.ResidualIdeal.nD → PrngReg)
    (m' : (ℓ : Loc Cert.ResidualReferenceIdeal.nD Cert.ResidualReferenceIdeal.τ Cert.ResidualReferenceIdeal.sig) → Buf (Elt Ideal) ℓ) (g' : Dev Cert.ResidualReferenceIdeal.nD → PrngReg), Pre_ResidualIdeal m →
    (∀ c : Dev Cert.ResidualIdeal.nD,
      m' ((c.tc : Thread Cert.ResidualReferenceIdeal.nD Cert.ResidualReferenceIdeal.τ).loc Cert.ResidualReferenceIdeal.main_arg0) = m ((c.tc : Thread Cert.ResidualIdeal.nD Cert.ResidualIdeal.τ).loc Cert.ResidualIdeal.main_arg0)
      ∧ m' ((c.tc : Thread Cert.ResidualReferenceIdeal.nD Cert.ResidualReferenceIdeal.τ).loc Cert.ResidualReferenceIdeal.main_arg1) = m ((c.tc : Thread Cert.ResidualIdeal.nD Cert.ResidualIdeal.τ).loc Cert.ResidualIdeal.main_arg1)
      ∧ m' ((c.tc : Thread Cert.ResidualReferenceIdeal.nD Cert.ResidualReferenceIdeal.τ).loc Cert.ResidualReferenceIdeal.main_arg2) = m ((c.tc : Thread Cert.ResidualIdeal.nD Cert.ResidualIdeal.τ).loc Cert.ResidualIdeal.main_arg2)) →
    ∃ (v0 : (c : Dev Cert.ResidualIdeal.nD) → Buf (Elt Ideal) ((c.tc : Thread Cert.ResidualIdeal.nD Cert.ResidualIdeal.τ).loc Cert.ResidualIdeal.main_v1)),
      θ_run (Cert.ResidualIdeal.defs (F := Ideal)) (onTc (τ := Cert.ResidualIdeal.τ) (Cert.ResidualIdeal.main (F := Ideal))) ⟨m, fun _ => 0, g⟩ (fun r => ∀ c : Dev Cert.ResidualIdeal.nD,
          r.2.mem ((c.tc : Thread Cert.ResidualIdeal.nD Cert.ResidualIdeal.τ).loc Cert.ResidualIdeal.main_v1) = v0 c
          ∧ r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
          ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
          ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2))
      ∧ θ_run (Cert.ResidualReferenceIdeal.defs (F := Ideal)) (onTc (τ := Cert.ResidualReferenceIdeal.τ) (Cert.ResidualReferenceIdeal.main (F := Ideal))) ⟨m', fun _ => 0, g'⟩ (fun r => ∀ c : Dev Cert.ResidualReferenceIdeal.nD,
          r.2.mem ((c.tc : Thread Cert.ResidualReferenceIdeal.nD Cert.ResidualReferenceIdeal.τ).loc Cert.ResidualReferenceIdeal.main_v13) = v0 c
          ∧ r.2.mem ((c.tc : Thread Cert.ResidualReferenceIdeal.nD Cert.ResidualReferenceIdeal.τ).loc Cert.ResidualReferenceIdeal.main_arg0) = m' ((c.tc : Thread Cert.ResidualReferenceIdeal.nD Cert.ResidualReferenceIdeal.τ).loc Cert.ResidualReferenceIdeal.main_arg0)
          ∧ r.2.mem ((c.tc : Thread Cert.ResidualReferenceIdeal.nD Cert.ResidualReferenceIdeal.τ).loc Cert.ResidualReferenceIdeal.main_arg1) = m' ((c.tc : Thread Cert.ResidualReferenceIdeal.nD Cert.ResidualReferenceIdeal.τ).loc Cert.ResidualReferenceIdeal.main_arg1)
          ∧ r.2.mem ((c.tc : Thread Cert.ResidualReferenceIdeal.nD Cert.ResidualReferenceIdeal.τ).loc Cert.ResidualReferenceIdeal.main_arg2) = m' ((c.tc : Thread Cert.ResidualReferenceIdeal.nD Cert.ResidualReferenceIdeal.τ).loc Cert.ResidualReferenceIdeal.main_arg2))

def preserves_Tail_TailIdeal : Prop :=
  True

def algebraic_TailIdeal_TailReferenceIdeal [hTailIdeal : Cert.TailIdeal.Facts] [hTailReferenceIdeal : Cert.TailReferenceIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)
      ∧ m' ((c.tc : Thread Cert.TailReferenceIdeal.nD Cert.TailReferenceIdeal.τ).loc Cert.TailReferenceIdeal.main_arg4) = m ((c.tc : Thread Cert.TailIdeal.nD Cert.TailIdeal.τ).loc Cert.TailIdeal.main_arg4)
      ∧ m' ((c.tc : Thread Cert.TailReferenceIdeal.nD Cert.TailReferenceIdeal.τ).loc Cert.TailReferenceIdeal.main_arg5) = m ((c.tc : Thread Cert.TailIdeal.nD Cert.TailIdeal.τ).loc Cert.TailIdeal.main_arg5)
      ∧ m' ((c.tc : Thread Cert.TailReferenceIdeal.nD Cert.TailReferenceIdeal.τ).loc Cert.TailReferenceIdeal.main_arg6) = m ((c.tc : Thread Cert.TailIdeal.nD Cert.TailIdeal.τ).loc Cert.TailIdeal.main_arg6)
      ∧ m' ((c.tc : Thread Cert.TailReferenceIdeal.nD Cert.TailReferenceIdeal.τ).loc Cert.TailReferenceIdeal.main_arg7) = m ((c.tc : Thread Cert.TailIdeal.nD Cert.TailIdeal.τ).loc Cert.TailIdeal.main_arg7)
      ∧ m' ((c.tc : Thread Cert.TailReferenceIdeal.nD Cert.TailReferenceIdeal.τ).loc Cert.TailReferenceIdeal.main_arg8) = m ((c.tc : Thread Cert.TailIdeal.nD Cert.TailIdeal.τ).loc Cert.TailIdeal.main_arg8)
      ∧ m' ((c.tc : Thread Cert.TailReferenceIdeal.nD Cert.TailReferenceIdeal.τ).loc Cert.TailReferenceIdeal.main_arg9) = m ((c.tc : Thread Cert.TailIdeal.nD Cert.TailIdeal.τ).loc Cert.TailIdeal.main_arg9)
      ∧ m' ((c.tc : Thread Cert.TailReferenceIdeal.nD Cert.TailReferenceIdeal.τ).loc Cert.TailReferenceIdeal.main_arg10) = m ((c.tc : Thread Cert.TailIdeal.nD Cert.TailIdeal.τ).loc Cert.TailIdeal.main_arg10)
      ∧ m' ((c.tc : Thread Cert.TailReferenceIdeal.nD Cert.TailReferenceIdeal.τ).loc Cert.TailReferenceIdeal.main_arg11) = m ((c.tc : Thread Cert.TailIdeal.nD Cert.TailIdeal.τ).loc Cert.TailIdeal.main_arg11)
      ∧ m' ((c.tc : Thread Cert.TailReferenceIdeal.nD Cert.TailReferenceIdeal.τ).loc Cert.TailReferenceIdeal.main_arg12) = m ((c.tc : Thread Cert.TailIdeal.nD Cert.TailIdeal.τ).loc Cert.TailIdeal.main_arg12)) →
    ∃ (v0 : (c : Dev Cert.TailIdeal.nD) → Buf (Elt Ideal) ((c.tc : Thread Cert.TailIdeal.nD Cert.TailIdeal.τ).loc Cert.TailIdeal.main_v12)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v12) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m ((c.tc : Thread Cert.TailIdeal.nD Cert.TailIdeal.τ).loc Cert.TailIdeal.main_arg12))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v65) = v0 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6)
          ∧ r.2.mem ((c.tc : Thread Cert.TailReferenceIdeal.nD Cert.TailReferenceIdeal.τ).loc Cert.TailReferenceIdeal.main_arg7) = m' ((c.tc : Thread Cert.TailReferenceIdeal.nD Cert.TailReferenceIdeal.τ).loc Cert.TailReferenceIdeal.main_arg7)
          ∧ r.2.mem ((c.tc : Thread Cert.TailReferenceIdeal.nD Cert.TailReferenceIdeal.τ).loc Cert.TailReferenceIdeal.main_arg8) = m' ((c.tc : Thread Cert.TailReferenceIdeal.nD Cert.TailReferenceIdeal.τ).loc Cert.TailReferenceIdeal.main_arg8)
          ∧ r.2.mem ((c.tc : Thread Cert.TailReferenceIdeal.nD Cert.TailReferenceIdeal.τ).loc Cert.TailReferenceIdeal.main_arg9) = m' ((c.tc : Thread Cert.TailReferenceIdeal.nD Cert.TailReferenceIdeal.τ).loc Cert.TailReferenceIdeal.main_arg9)
          ∧ r.2.mem ((c.tc : Thread Cert.TailReferenceIdeal.nD Cert.TailReferenceIdeal.τ).loc Cert.TailReferenceIdeal.main_arg10) = m' ((c.tc : Thread Cert.TailReferenceIdeal.nD Cert.TailReferenceIdeal.τ).loc Cert.TailReferenceIdeal.main_arg10)
          ∧ r.2.mem ((c.tc : Thread Cert.TailReferenceIdeal.nD Cert.TailReferenceIdeal.τ).loc Cert.TailReferenceIdeal.main_arg11) = m' ((c.tc : Thread Cert.TailReferenceIdeal.nD Cert.TailReferenceIdeal.τ).loc Cert.TailReferenceIdeal.main_arg11)
          ∧ r.2.mem ((c.tc : Thread Cert.TailReferenceIdeal.nD Cert.TailReferenceIdeal.τ).loc Cert.TailReferenceIdeal.main_arg12) = m' ((c.tc : Thread Cert.TailReferenceIdeal.nD Cert.TailReferenceIdeal.τ).loc Cert.TailReferenceIdeal.main_arg12))

def preserves_Head_HeadIdeal : Prop :=
  True

def algebraic_HeadIdeal_HeadReferenceIdeal [hHeadIdeal : Cert.HeadIdeal.Facts] [hHeadReferenceIdeal : Cert.HeadReferenceIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadReferenceIdeal.nD Cert.HeadReferenceIdeal.τ Cert.HeadReferenceIdeal.sig) → Buf (Elt Ideal) ℓ) (g' : Dev Cert.HeadReferenceIdeal.nD → PrngReg), Pre_HeadIdeal m →
    (∀ c : Dev Cert.HeadIdeal.nD,
      m' ((c.tc : Thread Cert.HeadReferenceIdeal.nD Cert.HeadReferenceIdeal.τ).loc Cert.HeadReferenceIdeal.main_arg0) = m ((c.tc : Thread Cert.HeadIdeal.nD Cert.HeadIdeal.τ).loc Cert.HeadIdeal.main_arg0)
      ∧ m' ((c.tc : Thread Cert.HeadReferenceIdeal.nD Cert.HeadReferenceIdeal.τ).loc Cert.HeadReferenceIdeal.main_arg1) = m ((c.tc : Thread Cert.HeadIdeal.nD Cert.HeadIdeal.τ).loc Cert.HeadIdeal.main_arg1)
      ∧ m' ((c.tc : Thread Cert.HeadReferenceIdeal.nD Cert.HeadReferenceIdeal.τ).loc Cert.HeadReferenceIdeal.main_arg2) = m ((c.tc : Thread Cert.HeadIdeal.nD Cert.HeadIdeal.τ).loc Cert.HeadIdeal.main_arg2)) →
    ∃ (v0 : (c : Dev Cert.HeadIdeal.nD) → Buf (Elt Ideal) ((c.tc : Thread Cert.HeadIdeal.nD Cert.HeadIdeal.τ).loc Cert.HeadIdeal.main_v15)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v15) = v0 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2))
      ∧ θ_run (Cert.HeadReferenceIdeal.defs (F := Ideal)) (onTc (τ := Cert.HeadReferenceIdeal.τ) (Cert.HeadReferenceIdeal.main (F := Ideal))) ⟨m', fun _ => 0, g'⟩ (fun r => ∀ c : Dev Cert.HeadReferenceIdeal.nD,
          r.2.mem ((c.tc : Thread Cert.HeadReferenceIdeal.nD Cert.HeadReferenceIdeal.τ).loc Cert.HeadReferenceIdeal.main_v32) = v0 c
          ∧ r.2.mem ((c.tc : Thread Cert.HeadReferenceIdeal.nD Cert.HeadReferenceIdeal.τ).loc Cert.HeadReferenceIdeal.main_arg0) = m' ((c.tc : Thread Cert.HeadReferenceIdeal.nD Cert.HeadReferenceIdeal.τ).loc Cert.HeadReferenceIdeal.main_arg0)
          ∧ r.2.mem ((c.tc : Thread Cert.HeadReferenceIdeal.nD Cert.HeadReferenceIdeal.τ).loc Cert.HeadReferenceIdeal.main_arg1) = m' ((c.tc : Thread Cert.HeadReferenceIdeal.nD Cert.HeadReferenceIdeal.τ).loc Cert.HeadReferenceIdeal.main_arg1)
          ∧ r.2.mem ((c.tc : Thread Cert.HeadReferenceIdeal.nD Cert.HeadReferenceIdeal.τ).loc Cert.HeadReferenceIdeal.main_arg2) = m' ((c.tc : Thread Cert.HeadReferenceIdeal.nD Cert.HeadReferenceIdeal.τ).loc Cert.HeadReferenceIdeal.main_arg2))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hOutProj : Cert.OutProj.Facts) (hOutProjIdeal : Cert.OutProjIdeal.Facts) (hOutProjReferenceIdeal : Cert.OutProjReferenceIdeal.Facts) (hPle : Cert.Ple.Facts) (hPleIdeal : Cert.PleIdeal.Facts) (hPleReferenceIdeal : Cert.PleReferenceIdeal.Facts) (hResidual : Cert.Residual.Facts) (hResidualIdeal : Cert.ResidualIdeal.Facts) (hResidualReferenceIdeal : Cert.ResidualReferenceIdeal.Facts) (hTail : Cert.Tail.Facts) (hTailIdeal : Cert.TailIdeal.Facts) (hTailReferenceIdeal : Cert.TailReferenceIdeal.Facts) (hHead : Cert.Head.Facts) (hHeadIdeal : Cert.HeadIdeal.Facts) (hHeadReferenceIdeal : Cert.HeadReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_InProj (hInProj := hInProj)
    ∧ quiescent_InProjIdeal (hInProjIdeal := hInProjIdeal)
    ∧ quiescent_InProjReferenceIdeal (hInProjReferenceIdeal := hInProjReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_Ple (hPle := hPle)
    ∧ quiescent_PleIdeal (hPleIdeal := hPleIdeal)
    ∧ quiescent_PleReferenceIdeal (hPleReferenceIdeal := hPleReferenceIdeal)
    ∧ quiescent_Residual (hResidual := hResidual)
    ∧ quiescent_ResidualIdeal (hResidualIdeal := hResidualIdeal)
    ∧ quiescent_ResidualReferenceIdeal (hResidualReferenceIdeal := hResidualReferenceIdeal)
    ∧ quiescent_Tail (hTail := hTail)
    ∧ quiescent_TailIdeal (hTailIdeal := hTailIdeal)
    ∧ quiescent_TailReferenceIdeal (hTailReferenceIdeal := hTailReferenceIdeal)
    ∧ quiescent_Head (hHead := hHead)
    ∧ quiescent_HeadIdeal (hHeadIdeal := hHeadIdeal)
    ∧ quiescent_HeadReferenceIdeal (hHeadReferenceIdeal := hHeadReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_InProj_InProjIdeal
    ∧ algebraic_InProjIdeal_InProjReferenceIdeal (hInProjIdeal := hInProjIdeal) (hInProjReferenceIdeal := hInProjReferenceIdeal)
    ∧ preserves_OutProj_OutProjIdeal
    ∧ algebraic_OutProjIdeal_OutProjReferenceIdeal (hOutProjIdeal := hOutProjIdeal) (hOutProjReferenceIdeal := hOutProjReferenceIdeal)
    ∧ preserves_Ple_PleIdeal
    ∧ algebraic_PleIdeal_PleReferenceIdeal (hPleIdeal := hPleIdeal) (hPleReferenceIdeal := hPleReferenceIdeal)
    ∧ preserves_Residual_ResidualIdeal
    ∧ algebraic_ResidualIdeal_ResidualReferenceIdeal (hResidualIdeal := hResidualIdeal) (hResidualReferenceIdeal := hResidualReferenceIdeal)
    ∧ preserves_Tail_TailIdeal
    ∧ algebraic_TailIdeal_TailReferenceIdeal (hTailIdeal := hTailIdeal) (hTailReferenceIdeal := hTailReferenceIdeal)
    ∧ preserves_Head_HeadIdeal
    ∧ algebraic_HeadIdeal_HeadReferenceIdeal (hHeadIdeal := hHeadIdeal) (hHeadReferenceIdeal := hHeadReferenceIdeal)
-- ==== Pre_finite_scores.lean ====
abbrev S16384x2048 : Shape := ⟨2, ![16384, 2048]⟩
abbrev S16384x512 : Shape := ⟨2, ![16384, 512]⟩
abbrev S16384x12288 : Shape := ⟨2, ![16384, 12288]⟩
abbrev S_ : Shape := ⟨0, ![]⟩

class Facts : Prop where
  bcast_S_S16384x2048 : S_.BroadcastsInDim S16384x2048 (![] : Fin 0 → Fin S16384x2048.rank)
  bcast_S_S16384x512 : S_.BroadcastsInDim S16384x512 (![] : Fin 0 → Fin S16384x512.rank)

variable [Facts]

def fn {F : FTy → Type} [FloatOps F] (main_arg0 : FVec F S16384x2048 .f32) (main_arg1 : FVec F S16384x512 .f32) (main_arg2 : FVec F S16384x512 .f32) (main_arg3 : FVec F S16384x12288 .f32) : IVec S16384x2048 1 × IVec S16384x512 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_v3 : FVec F S16384x512 .f32 := Host.absf main_arg1
  let main_cst_0 : FVec F S_ .f32 := constant S_ .f32 0x7F800000#32
  let main_v4 : FVec F S16384x512 .f32 := broadcastInDim S16384x512 ![] bcast_S_S16384x512 main_cst_0
  let main_v5 : IVec S16384x512 1 := cmpf .olt main_v3 main_v4
  (main_v2, main_v5)
-- ==== Kernel.lean ====
abbrev S16384x2048 : Shape := ⟨2, ![16384, 2048]⟩
abbrev S16384x512 : Shape := ⟨2, ![16384, 512]⟩
abbrev S16384x12288 : Shape := ⟨2, ![16384, 12288]⟩
abbrev S256x512 : Shape := ⟨2, ![256, 512]⟩
abbrev S8192x128 : Shape := ⟨2, ![8192, 128]⟩
abbrev S1024x128 : Shape := ⟨2, ![1024, 128]⟩
abbrev S2x1024x256 : Shape := ⟨3, ![2, 1024, 256]⟩
abbrev S2x1024x128 : Shape := ⟨3, ![2, 1024, 128]⟩
abbrev S256x128 : Shape := ⟨2, ![256, 128]⟩
abbrev S1024x256 : Shape := ⟨2, ![1024, 256]⟩
abbrev S1x1024x256 : Shape := ⟨3, ![1, 1024, 256]⟩
abbrev S1x32x256 : Shape := ⟨3, ![1, 32, 256]⟩
abbrev S32x256 : Shape := ⟨2, ![32, 256]⟩
abbrev S32 : Shape := ⟨1, ![32]⟩
abbrev S32x1 : Shape := ⟨2, ![32, 1]⟩
abbrev S32x128 : Shape := ⟨2, ![32, 128]⟩
abbrev S1x32x128 : Shape := ⟨3, ![1, 32, 128]⟩
abbrev S1x1024x128 : Shape := ⟨3, ![1, 1024, 128]⟩
abbrev S1024 : Shape := ⟨1, ![1024]⟩
abbrev S1024x1 : Shape := ⟨2, ![1024, 1]⟩

abbrev nBuf : Space → Nat
  | .hbm => 7
  | .vmem => 17
  | .smem => 0
  | _ => 0

abbrev bufTy : (tb : Table) → Fin (tcTables nBuf tb) → BufTy
  | .hbm, ⟨0, _⟩ => ⟨S16384x2048, .f32⟩
  | .hbm, ⟨1, _⟩ => ⟨S16384x512, .f32⟩
  | .hbm, ⟨2, _⟩ => ⟨S16384x512, .f32⟩
  | .hbm, ⟨3, _⟩ => ⟨S16384x12288, .f32⟩
  | .hbm, ⟨4, _⟩ => ⟨S16384x512, .bf16⟩
  | .hbm, ⟨5, _⟩ => ⟨S16384x512, .bf16⟩
  | .hbm, ⟨6, _⟩ => ⟨S16384x2048, .bf16⟩
  | .local _ .vmem, ⟨0, _⟩ => ⟨S256x512, .f32⟩
  | .local _ .vmem, ⟨1, _⟩ => ⟨S256x512, .f32⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x512, .f32⟩
  | .local _ .vmem, ⟨7, _⟩ => ⟨S256x512, .f32⟩
  | .local _ .vmem, ⟨8, _⟩ => ⟨S256x512, .bf16⟩
  | .local _ .vmem, ⟨9, _⟩ => ⟨S256x512, .bf16⟩
  | .local _ .vmem, ⟨10, _⟩ => ⟨S1024x128, .bf16⟩
  | .local _ .vmem, ⟨11, _⟩ => ⟨S2x1024x256, .f32⟩
  | .local _ .vmem, ⟨12, _⟩ => ⟨S2x1024x256, .bf16⟩
  | .local _ .vmem, ⟨13, _⟩ => ⟨S2x1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 32], ![false, false, false]⟩

def k0_mult1 : BitVec 32 :=
  let c0_i32 : BitVec 32 := 0#32
  c0_i32
def k0_mult2 : BitVec 32 :=
  let c256_i32 : BitVec 32 := 256#32
  c256_i32
def k0_mult3 : BitVec 32 :=
  let c512_i32 : BitVec 32 := 512#32
  c512_i32
def k0_mult4 : BitVec 32 :=
  let c0_i32_1735 : BitVec 32 := 0#32
  c0_i32_1735
@[reducible] def k0_t1_loop : Scf.Loop 32 :=
  let c0_i32_1743 : BitVec 32 := 0#32
  let c14_i32 : BitVec 32 := 14#32
  let v2369 : BitVec 32 := Scalar.addi c0_i32_1743 c14_i32
  let c1_i32 : BitVec 32 := 1#32
  ⟨c0_i32_1743, v2369, c1_i32⟩
def k0_mult5 (k0_t1 : Fin k0_t1_loop.trips) : BitVec 32 :=
  let c2_i32_3847 : BitVec 32 := 2#32
  let c2_i32 : BitVec 32 := 2#32
  let c0_i32_1743 : BitVec 32 := 0#32
  let c1_i32 : BitVec 32 := 1#32
  let arg15 : BitVec 32 := Scf.iv c0_i32_1743 c1_i32 k0_t1
  let v5131 : BitVec 32 := Scalar.muli c2_i32 arg15
  let v5132 : BitVec 32 := Scalar.addi c2_i32_3847 v5131
  let c1_i32_3848 : BitVec 32 := 1#32
  let v5133 : BitVec 32 := Scalar.addi v5132 c1_i32_3848
  let c256_i32_3849 : BitVec 32 := 256#32
  let v5134 : BitVec 32 := Scalar.muli v5133 c256_i32_3849
  v5134
def k0_off1 (k0_t1 : Fin k0_t1_loop.trips) : Fin 2 → Nat :=
  let c2_i32_3847 : BitVec 32 := 2#32
  let c2_i32 : BitVec 32 := 2#32
  let c0_i32_1743 : BitVec 32 := 0#32
  let c1_i32 : BitVec 32 := 1#32
  let arg15 : BitVec 32 := Scf.iv c0_i32_1743 c1_i32 k0_t1
  let v5131 : BitVec 32 := Scalar.muli c2_i32 arg15
  let v5132 : BitVec 32 := Scalar.addi c2_i32_3847 v5131
  let c1_i32_3848 : BitVec 32 := 1#32
  let v5133 : BitVec 32 := Scalar.addi v5132 c1_i32_3848
  let c256_i32_3849 : BitVec 32 := 256#32
  let v5134 : BitVec 32 := Scalar.muli v5133 c256_i32_3849
  let v5135 : BitVec 32 := v5134
  let v5136 : Index := Scalar.indexCast v5135
  let c0_3850 : Index := 0#32
  ![v5136.toNat, 0]
def k0_mult6 (k0_t1 : Fin k0_t1_loop.trips) : BitVec 32 :=
  let c2_i32_3847 : BitVec 32 := 2#32
  let c2_i32 : BitVec 32 := 2#32
  let c0_i32_1743 : BitVec 32 := 0#32
  let c1_i32 : BitVec 32 := 1#32
  let arg15 : BitVec 32 := Scf.iv c0_i32_1743 c1_i32 k0_t1
  let v5131 : BitVec 32 := Scalar.muli c2_i32 arg15
  let v5132 : BitVec 32 := Scalar.addi c2_i32_3847 v5131
  let c1_i32_4881 : BitVec 32 := 1#32
  let v6488 : BitVec 32 := Scalar.subi v5132 c1_i32_4881
  let c256_i32_4882 : BitVec 32 := 256#32
  let v6489 : BitVec 32 := Scalar.muli v6488 c256_i32_4882
  v6489
def k0_off2 (k0_t1 : Fin k0_t1_loop.trips) : Fin 2 → Nat :=
  let c2_i32_3847 : BitVec 32 := 2#32
  let c2_i32 : BitVec 32 := 2#32
  let c0_i32_1743 : BitVec 32 := 0#32
  let c1_i32 : BitVec 32 := 1#32
  let arg15 : BitVec 32 := Scf.iv c0_i32_1743 c1_i32 k0_t1
  let v5131 : BitVec 32 := Scalar.muli c2_i32 arg15
  let v5132 : BitVec 32 := Scalar.addi c2_i32_3847 v5131
  let c1_i32_4881 : BitVec 32 := 1#32
  let v6488 : BitVec 32 := Scalar.subi v5132 c1_i32_4881
  let c256_i32_4882 : BitVec 32 := 256#32
  let v6489 : BitVec 32 := Scalar.muli v6488 c256_i32_4882
  let v6490 : BitVec 32 := v6489
  let v6491 : Index := Scalar.indexCast v6490
  let c0_4883 : Index := 0#32
  ![v6491.toNat, 0]
def k0_mult7 (k0_t1 : Fin k0_t1_loop.trips) : BitVec 32 :=
  let c2_i32_3847 : BitVec 32 := 2#32
  let c2_i32 : BitVec 32 := 2#32
  let c0_i32_1743 : BitVec 32 := 0#32
  let c1_i32 : BitVec 32 := 1#32
  let arg15 : BitVec 32 := Scf.iv c0_i32_1743 c1_i32 k0_t1
  let v5131 : BitVec 32 := Scalar.muli c2_i32 arg15
  let v5132 : BitVec 32 := Scalar.addi c2_i32_3847 v5131
  let c1_i32_4895 : BitVec 32 := 1#32
  let v6505 : BitVec 32 := Scalar.addi v5132 c1_i32_4895
  let c1_i32_4896 : BitVec 32 := 1#32
  let v6506 : BitVec 32 := Scalar.addi v6505 c1_i32_4896
  let c256_i32_4897 : BitVec 32 := 256#32
  let v6507 : BitVec 32 := Scalar.muli v6506 c256_i32_4897
  v6507
def k0_off3 (k0_t1 : Fin k0_t1_loop.trips) : Fin 2 → Nat :=
  let c2_i32_3847 : BitVec 32 := 2#32
  let c2_i32 : BitVec 32 := 2#32
  let c0_i32_1743 : BitVec 32 := 0#32
  let c1_i32 : BitVec 32 := 1#32
  let arg15 : BitVec 32 := Scf.iv c0_i32_1743 c1_i32 k0_t1
  let v5131 : BitVec 32 := Scalar.muli c2_i32 arg15
  let v5132 : BitVec 32 := Scalar.addi c2_i32_3847 v5131
  let c1_i32_4895 : BitVec 32 := 1#32
  let v6505 : BitVec 32 := Scalar.addi v5132 c1_i32_4895
  let c1_i32_4896 : BitVec 32 := 1#32
  let v6506 : BitVec 32 := Scalar.addi v6505 c1_i32_4896
  let c256_i32_4897 : BitVec 32 := 256#32
  let v6507 : BitVec 32 := Scalar.muli v6506 c256_i32_4897
  let v6508 : BitVec 32 := v6507
  let v6509 : Index := Scalar.indexCast v6508
  let c0_4898 : Index := 0#32
  ![v6509.toNat, 0]
def k0_mult8 (k0_t1 : Fin k0_t1_loop.trips) : BitVec 32 :=
  let c2_i32_3847 : BitVec 32 := 2#32
  let c2_i32 : BitVec 32 := 2#32
  let c0_i32_1743 : BitVec 32 := 0#32
  let c1_i32 : BitVec 32 := 1#32
  let arg15 : BitVec 32 := Scf.iv c0_i32_1743 c1_i32 k0_t1
  let v5131 : BitVec 32 := Scalar.muli c2_i32 arg15
  let v5132 : BitVec 32 := Scalar.addi c2_i32_3847 v5131
  let c1_i32_4895 : BitVec 32 := 1#32
  let v6505 : BitVec 32 := Scalar.addi v5132 c1_i32_4895
  let c1_i32_5929 : BitVec 32 := 1#32
  let v7861 : BitVec 32 := Scalar.subi v6505 c1_i32_5929
  let c256_i32_5930 : BitVec 32 := 256#32
  let v7862 : BitVec 32 := Scalar.muli v7861 c256_i32_5930
  v7862
def k0_off4 (k0_t1 : Fin k0_t1_loop.trips) : Fin 2 → Nat :=
  let c2_i32_3847 : BitVec 32 := 2#32
  let c2_i32 : BitVec 32 := 2#32
  let c0_i32_1743 : BitVec 32 := 0#32
  let c1_i32 : BitVec 32 := 1#32
  let arg15 : BitVec 32 := Scf.iv c0_i32_1743 c1_i32 k0_t1
  let v5131 : BitVec 32 := Scalar.muli c2_i32 arg15
  let v5132 : BitVec 32 := Scalar.addi c2_i32_3847 v5131
  let c1_i32_4895 : BitVec 32 := 1#32
  let v6505 : BitVec 32 := Scalar.addi v5132 c1_i32_4895
  let c1_i32_5929 : BitVec 32 := 1#32
  let v7861 : BitVec 32 := Scalar.subi v6505 c1_i32_5929
  let c256_i32_5930 : BitVec 32 := 256#32
  let v7862 : BitVec 32 := Scalar.muli v7861 c256_i32_5930
  let v7863 : BitVec 32 := v7862
  let v7864 : Index := Scalar.indexCast v7863
  let c0_5931 : Index := 0#32
  ![v7864.toNat, 0]
def k0_mult9 : BitVec 32 :=
  let c7936_i32 : BitVec 32 := 7936#32
  c7936_i32
def k0_mult10 : BitVec 32 :=
  let c7424_i32 : BitVec 32 := 7424#32
  c7424_i32
def k0_mult11 : BitVec 32 :=
  let c7680_i32 : BitVec 32 := 7680#32
  c7680_i32
def k0_mult12 : BitVec 32 :=
  let c7936_i32_3824 : BitVec 32 := 7936#32
  c7936_i32_3824
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "scale" => some (((Real.sqrt 128)⁻¹ * (Real.log 2)⁻¹ : ℝ) : EReal)
  | _ => none
-- ==== ReferenceIdeal.lean ====
abbrev S16384x2048 : Shape := ⟨2, ![16384, 2048]⟩
abbrev S16384x512 : Shape := ⟨2, ![16384, 512]⟩
abbrev S16384x12288 : Shape := ⟨2, ![16384, 12288]⟩
abbrev S2x8192x4x4x128 : Shape := ⟨5, ![2, 8192, 4, 4, 128]⟩
abbrev S2x8192x4x128 : Shape := ⟨4, ![2, 8192, 4, 128]⟩
abbrev S2x4x8192x8192x4 : Shape := ⟨5, ![2, 4, 8192, 8192, 4]⟩
abbrev S2x4x4x8192x8192 : Shape := ⟨5, ![2, 4, 4, 8192, 8192]⟩
abbrev S_ : Shape := ⟨0, ![]⟩
abbrev S2x4x4x8192 : Shape := ⟨4, ![2, 4, 4, 8192]⟩
abbrev S2x4x4x8192x1 : Shape := ⟨5, ![2, 4, 4, 8192, 1]⟩
abbrev S2x4x128x4x8192 : Shape := ⟨5, ![2, 4, 128, 4, 8192]⟩

abbrev nBuf : Space → Nat
  | .hbm => 42
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x512, .f32⟩
  | .hbm, ⟨2, _⟩ => ⟨S16384x512, .f32⟩
  | .hbm, ⟨3, _⟩ => ⟨S16384x12288, .f32⟩
  | .hbm, ⟨4, _⟩ => ⟨S2x8192x4x4x128, .f32⟩
  | .hbm, ⟨5, _⟩ => ⟨S2x8192x4x128, .f32⟩
  | .hbm, ⟨6, _⟩ => ⟨S2x8192x4x128, .f32⟩
  | .hbm, ⟨7, _⟩ => ⟨S2x4x8192x8192x4, .f32⟩
  | .hbm, ⟨8, _⟩ => ⟨S2x4x4x8192x8192, .f32⟩
  | .hbm, ⟨9, _⟩ => ⟨S_, .f32⟩
  | .hbm, ⟨10, _⟩ => ⟨S_, .f32⟩
  | .hbm, ⟨11, _⟩ => ⟨S2x4x4x8192x8192, .f32⟩
  | .hbm, ⟨12, _⟩ => ⟨S2x4x4x8192x8192, .f32⟩
  | .hbm, ⟨13, _⟩ => ⟨S_, .f32⟩
  | .hbm, ⟨14, _⟩ => ⟨S2x4x4x8192, .f32⟩
  | .hbm, ⟨15, _⟩ => ⟨S_, .f32⟩
  | .hbm, ⟨16, _⟩ => ⟨S2x4x4x8192, .f32⟩
  | .hbm, ⟨17, _⟩ => ⟨S2x4x4x8192, .f32⟩
  | .hbm, ⟨18, _⟩ => ⟨S2x4x4x8192x1, .f32⟩
  | .hbm, ⟨19, _⟩ => ⟨S2x4x4x8192x8192, .f32⟩
  | .hbm, ⟨20, _⟩ => ⟨S2x4x4x8192x8192, .f32⟩
  | .hbm, ⟨21, _⟩ => ⟨S2x4x4x8192x8192, .f32⟩
  | .hbm, ⟨22, _⟩ => ⟨S_, .f32⟩
  | .hbm, ⟨23, _⟩ => ⟨S2x4x4x8192, .f32⟩
  | .hbm, ⟨24, _⟩ => ⟨S2x4x4x8192x1, .f32⟩
  | .hbm, ⟨25, _⟩ => ⟨S2x4x4x8192x8192, .f32⟩
  | .hbm, ⟨26, _⟩ => ⟨S2x4x4x8192x8192, .f32⟩
  | .hbm, ⟨27, _⟩ => ⟨S2x4x128x4x8192, .f32⟩
  | .hbm, ⟨28, _⟩ => ⟨S2x8192x4x4x128, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S_, .f32⟩
  | .hbm, ⟨34, _⟩ => ⟨S16384x2048, .f32⟩
  | .hbm, ⟨35, _⟩ => ⟨S16384x2048, .f32⟩
  | .hbm, ⟨36, _⟩ => ⟨S_, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== InProj.lean ====
abbrev S16384x4096 : Shape := ⟨2, ![16384, 4096]⟩
abbrev S4096x12304 : Shape := ⟨2, ![4096, 12304]⟩
abbrev S4096x2048 : Shape := ⟨2, ![4096, 2048]⟩
abbrev S4096x16x2x2x32 : Shape := ⟨5, ![4096, 16, 2, 2, 32]⟩
abbrev S4096x7168 : Shape := ⟨2, ![4096, 7168]⟩
abbrev S4096x512 : Shape := ⟨2, ![4096, 512]⟩
abbrev S4096x4x2x2x32 : Shape := ⟨5, ![4096, 4, 2, 2, 32]⟩
abbrev S4096x12288 : Shape := ⟨2, ![4096, 12288]⟩
abbrev S16384x12288 : Shape := ⟨2, ![16384, 12288]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 17
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S4096x12304, .f32⟩
  | .hbm, ⟨2, _⟩ => ⟨S4096x2048, .f32⟩
  | .hbm, ⟨3, _⟩ => ⟨S4096x16x2x2x32, .f32⟩
  | .hbm, ⟨4, _⟩ => ⟨S4096x16x2x2x32, .f32⟩
  | .hbm, ⟨5, _⟩ => ⟨S4096x2048, .f32⟩
  | .hbm, ⟨6, _⟩ => ⟨S4096x2048, .f32⟩
  | .hbm, ⟨7, _⟩ => ⟨S4096x7168, .f32⟩
  | .hbm, ⟨8, _⟩ => ⟨S4096x512, .f32⟩
  | .hbm, ⟨9, _⟩ => ⟨S4096x4x2x2x32, .f32⟩
  | .hbm, ⟨10, _⟩ => ⟨S4096x4x2x2x32, .f32⟩
  | .hbm, ⟨11, _⟩ => ⟨S4096x512, .f32⟩
  | .hbm, ⟨12, _⟩ => ⟨S4096x512, .f32⟩
  | .hbm, ⟨13, _⟩ => ⟨S4096x12288, .f32⟩
  | .hbm, ⟨14, _⟩ => ⟨S4096x12288, .bf16⟩
  | .hbm, ⟨15, _⟩ => ⟨S16384x4096, .bf16⟩
  | .hbm, ⟨16, _⟩ => ⟨S16384x12288, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjReferenceIdeal.lean ====
abbrev S16384x4096 : Shape := ⟨2, ![16384, 4096]⟩
abbrev S4096x12304 : Shape := ⟨2, ![4096, 12304]⟩
abbrev S16384x12304 : Shape := ⟨2, ![16384, 12304]⟩
abbrev S16384x1024 : Shape := ⟨2, ![16384, 1024]⟩
abbrev S16384x16 : Shape := ⟨2, ![16384, 16]⟩
abbrev S16384x2048 : Shape := ⟨2, ![16384, 2048]⟩
abbrev S16384x512 : Shape := ⟨2, ![16384, 512]⟩
abbrev S16384x16x2x2x32 : Shape := ⟨5, ![16384, 16, 2, 2, 32]⟩
abbrev S16384x4x2x2x32 : Shape := ⟨5, ![16384, 4, 2, 2, 32]⟩
abbrev S16384x12288 : Shape := ⟨2, ![16384, 12288]⟩

abbrev nBuf : Space → Nat
  | .hbm => 22
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x12304, .f32⟩
  | .hbm, ⟨2, _⟩ => ⟨S16384x12304, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x16, .f32⟩
  | .hbm, ⟨11, _⟩ => ⟨S16384x2048, .f32⟩
  | .hbm, ⟨12, _⟩ => ⟨S16384x512, .f32⟩
  | .hbm, ⟨13, _⟩ => ⟨S16384x512, .f32⟩
  | .hbm, ⟨14, _⟩ => ⟨S16384x2048, .f32⟩
  | .hbm, ⟨15, _⟩ => ⟨S16384x16x2x2x32, .f32⟩
  | .hbm, ⟨16, _⟩ => ⟨S16384x16x2x2x32, .f32⟩
  | .hbm, ⟨17, _⟩ => ⟨S16384x2048, .f32⟩
  | .hbm, ⟨18, _⟩ => ⟨S16384x4x2x2x32, .f32⟩
  | .hbm, ⟨19, _⟩ => ⟨S16384x4x2x2x32, .f32⟩
  | .hbm, ⟨20, _⟩ => ⟨S16384x512, .f32⟩
  | .hbm, ⟨21, _⟩ => ⟨S16384x12288, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩

abbrev nD : Nat := 1
abbrev τ : Topo := Topo.v7x

variable {F : FTy → Type} [FloatOps F]
-- ==== OutProj.lean ====
abbrev S16384x1024 : Shape := ⟨2, ![16384, 1024]⟩
abbrev S16384x2048 : Shape := ⟨2, ![16384, 2048]⟩
abbrev S4096x4096 : Shape := ⟨2, ![4096, 4096]⟩
abbrev S16384x4096 : Shape := ⟨2, ![16384, 4096]⟩
abbrev S1024x1024 : Shape := ⟨2, ![1024, 1024]⟩
abbrev S1024x2048 : Shape := ⟨2, ![1024, 2048]⟩
abbrev S2048x1024 : Shape := ⟨2, ![2048, 1024]⟩

abbrev nBuf : Space → Nat
  | .hbm => 9
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x2048, .f32⟩
  | .hbm, ⟨3, _⟩ => ⟨S4096x4096, .f32⟩
  | .hbm, ⟨4, _⟩ => ⟨S16384x1024, .bf16⟩
  | .hbm, ⟨5, _⟩ => ⟨S16384x1024, .bf16⟩
  | .hbm, ⟨6, _⟩ => ⟨S16384x2048, .bf16⟩
  | .hbm, ⟨7, _⟩ => ⟨S4096x4096, .bf16⟩
  | .hbm, ⟨8, _⟩ => ⟨S16384x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S2048x1024, .bf16⟩
  | .local _ .vmem, ⟨11, _⟩ => ⟨S2048x1024, .bf16⟩
  | .local _ .vmem, ⟨12, _⟩ => ⟨S1024x1024, .f32⟩
  | .local _ .vmem, ⟨13, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutProjReferenceIdeal.lean ====
abbrev S16384x1024 : Shape := ⟨2, ![16384, 1024]⟩
abbrev S16384x2048 : Shape := ⟨2, ![16384, 2048]⟩
abbrev S4096x4096 : Shape := ⟨2, ![4096, 4096]⟩
abbrev S16384x4096 : Shape := ⟨2, ![16384, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x2048, .f32⟩
  | .hbm, ⟨3, _⟩ => ⟨S4096x4096, .f32⟩
  | .hbm, ⟨4, _⟩ => ⟨S16384x4096, .f32⟩
  | .hbm, ⟨5, _⟩ => ⟨S16384x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== Ple.lean ====
abbrev S16384x256 : Shape := ⟨2, ![16384, 256]⟩
abbrev S16384x4096 : Shape := ⟨2, ![16384, 4096]⟩
abbrev S256x4096 : Shape := ⟨2, ![256, 4096]⟩
abbrev S4096x4096 : Shape := ⟨2, ![4096, 4096]⟩
abbrev S1024x256 : Shape := ⟨2, ![1024, 256]⟩
abbrev S1024x4096 : Shape := ⟨2, ![1024, 4096]⟩
abbrev S256x1024 : Shape := ⟨2, ![256, 1024]⟩
abbrev S4096x1024 : Shape := ⟨2, ![4096, 1024]⟩
abbrev S1024x1024 : Shape := ⟨2, ![1024, 1024]⟩

abbrev nBuf : Space → Nat
  | .hbm => 8
  | .vmem => 10
  | .smem => 0
  | _ => 0

abbrev bufTy : (tb : Table) → Fin (tcTables nBuf tb) → BufTy
  | .hbm, ⟨0, _⟩ => ⟨S16384x256, .f32⟩
  | .hbm, ⟨1, _⟩ => ⟨S16384x4096, .f32⟩
  | .hbm, ⟨2, _⟩ => ⟨S256x4096, .f32⟩
  | .hbm, ⟨3, _⟩ => ⟨S4096x4096, .f32⟩
  | .hbm, ⟨4, _⟩ => ⟨S16384x4096, .bf16⟩
  | .hbm, ⟨5, _⟩ => ⟨S256x4096, .bf16⟩
  | .hbm, ⟨6, _⟩ => ⟨S4096x4096, .bf16⟩
  | .hbm, ⟨7, _⟩ => ⟨S16384x4096, .f32⟩
  | .local _ .vmem, ⟨0, _⟩ => ⟨S1024x256, .f32⟩
  | .local _ .vmem, ⟨1, _⟩ => ⟨S1024x256, .f32⟩
  | .local _ .vmem, ⟨2, _⟩ => ⟨S1024x4096, .bf16⟩
  | .local _ .vmem, ⟨3, _⟩ => ⟨S1024x4096, .bf16⟩
  | .local _ .vmem, ⟨4, _⟩ => ⟨S256x1024, .bf16⟩
  | .local _ .vmem, ⟨5, _⟩ => ⟨S256x1024, .bf16⟩
  | .local _ .vmem, ⟨6, _⟩ => ⟨S4096x1024, .bf16⟩
  | .local _ .vmem, ⟨7, _⟩ => ⟨S4096x1024, .bf16⟩
  | .local _ .vmem, ⟨8, _⟩ => ⟨S1024x1024, .f32⟩
  | .local _ .vmem, ⟨9, _⟩ => ⟨S1024x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== PleReferenceIdeal.lean ====
abbrev S16384x256 : Shape := ⟨2, ![16384, 256]⟩
abbrev S16384x4096 : Shape := ⟨2, ![16384, 4096]⟩
abbrev S256x4096 : Shape := ⟨2, ![256, 4096]⟩
abbrev S4096x4096 : Shape := ⟨2, ![4096, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x4096, .f32⟩
  | .hbm, ⟨2, _⟩ => ⟨S256x4096, .f32⟩
  | .hbm, ⟨3, _⟩ => ⟨S4096x4096, .f32⟩
  | .hbm, ⟨4, _⟩ => ⟨S16384x4096, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S16384x4096, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Residual.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096, .f32⟩
  | .hbm, ⟨3, _⟩ => ⟨S1x4096, .f32⟩
  | .hbm, ⟨4, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ResidualReferenceIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Tail.lean ====
abbrev S16384x4096 : Shape := ⟨2, ![16384, 4096]⟩
abbrev S16384x1024 : Shape := ⟨2, ![16384, 1024]⟩
abbrev S16384x12288 : Shape := ⟨2, ![16384, 12288]⟩
abbrev S16384x2048 : Shape := ⟨2, ![16384, 2048]⟩
abbrev S16384x256 : Shape := ⟨2, ![16384, 256]⟩
abbrev S1024 : Shape := ⟨1, ![1024]⟩
abbrev S4096x4096 : Shape := ⟨2, ![4096, 4096]⟩
abbrev S4096 : Shape := ⟨1, ![4096]⟩
abbrev S256x4096 : Shape := ⟨2, ![256, 4096]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1024x1024 : Shape := ⟨2, ![1024, 1024]⟩
abbrev S1024x2048 : Shape := ⟨2, ![1024, 2048]⟩
abbrev S2048x1024 : Shape := ⟨2, ![2048, 1024]⟩
abbrev S1x4096 : Shape := ⟨2, ![1, 4096]⟩
abbrev S256 : Shape := ⟨1, ![256]⟩
abbrev S256x1 : Shape := ⟨2, ![256, 1]⟩
abbrev S1024x256 : Shape := ⟨2, ![1024, 256]⟩
abbrev S1024x4096 : Shape := ⟨2, ![1024, 4096]⟩
abbrev S256x1024 : Shape := ⟨2, ![256, 1024]⟩
abbrev S4096x1024 : Shape := ⟨2, ![4096, 1024]⟩

abbrev nBuf : Space → Nat
  | .hbm => 27
  | .vmem => 51
  | .smem => 0
  | _ => 0

abbrev bufTy : (tb : Table) → Fin (tcTables nBuf tb) → BufTy
  | .hbm, ⟨0, _⟩ => ⟨S16384x4096, .f32⟩
  | .hbm, ⟨1, _⟩ => ⟨S16384x1024, .f32⟩
  | .hbm, ⟨2, _⟩ => ⟨S16384x1024, .f32⟩
  | .hbm, ⟨3, _⟩ => ⟨S16384x12288, .f32⟩
  | .hbm, ⟨4, _⟩ => ⟨S16384x1024, .f32⟩
  | .hbm, ⟨5, _⟩ => ⟨S16384x2048, .f32⟩
  | .hbm, ⟨6, _⟩ => ⟨S16384x256, .f32⟩
  | .hbm, ⟨7, _⟩ => ⟨S1024, .f32⟩
  | .hbm, ⟨8, _⟩ => ⟨S4096x4096, .f32⟩
  | .hbm, ⟨9, _⟩ => ⟨S4096, .f32⟩
  | .hbm, ⟨10, _⟩ => ⟨S256x4096, .f32⟩
  | .hbm, ⟨11, _⟩ => ⟨S4096x4096, .f32⟩
  | .hbm, ⟨12, _⟩ => ⟨S4096, .f32⟩
  | .hbm, ⟨13, _⟩ => ⟨S1x1024, .f32⟩
  | .hbm, ⟨14, _⟩ => ⟨S16384x1024, .bf16⟩
  | .hbm, ⟨15, _⟩ => ⟨S16384x1024, .bf16⟩
  | .hbm, ⟨16, _⟩ => ⟨S16384x2048, .bf16⟩
  | .hbm, ⟨17, _⟩ => ⟨S4096x4096, .bf16⟩
  | .hbm, ⟨18, _⟩ => ⟨S16384x4096, .f32⟩
  | .hbm, ⟨19, _⟩ => ⟨S1x4096, .f32⟩
  | .hbm, ⟨20, _⟩ => ⟨S16384x4096, .f32⟩
  | .hbm, ⟨21, _⟩ => ⟨S16384x4096, .bf16⟩
  | .hbm, ⟨22, _⟩ => ⟨S256x4096, .bf16⟩
  | .hbm, ⟨23, _⟩ => ⟨S4096x4096, .bf16⟩
  | .hbm, ⟨24, _⟩ => ⟨S16384x4096, .f32⟩
  | .hbm, ⟨25, _⟩ => ⟨S1x4096, .f32⟩
  | .hbm, ⟨26, _⟩ => ⟨S16384x4096, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x2048, .bf16⟩
  | .local _ .vmem, ⟨16, _⟩ => ⟨S1024x2048, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S2048x1024, .bf16⟩
  | .local _ .vmem, ⟨22, _⟩ => ⟨S2048x1024, .bf16⟩
  | .local _ .vmem, ⟨23, _⟩ => ⟨S1024x1024, .f32⟩
  | .local _ .vmem, ⟨24, _⟩ => ⟨S1024x1024, .f32⟩
  | .local _ .vmem, ⟨25, _⟩ => ⟨S256x4096, .f32⟩
  | .local _ .vmem, ⟨26, _⟩ => ⟨S256x4096, .f32⟩
  | .local _ .vmem, ⟨27, _⟩ => ⟨S256x4096, .f32⟩
  | .local _ .vmem, ⟨28, _⟩ => ⟨S256x4096, .f32⟩
  | .local _ .vmem, ⟨29, _⟩ => ⟨S1x4096, .f32⟩
  | .local _ .vmem, ⟨30, _⟩ => ⟨S256x4096, .f32⟩
  | .local _ .vmem, ⟨31, _⟩ => ⟨S256x4096, .f32⟩
  | .local _ .vmem, ⟨32, _⟩ => ⟨S256x4096, .bf16⟩
  | .local _ .vmem, ⟨33, _⟩ => ⟨S256x4096, .bf16⟩
  | .local _ .vmem, ⟨34, _⟩ => ⟨S1024x256, .f32⟩
  | .local _ .vmem, ⟨35, _⟩ => ⟨S1024x256, .f32⟩
  | .local _ .vmem, ⟨36, _⟩ => ⟨S1024x4096, .bf16⟩
  | .local _ .vmem, ⟨37, _⟩ => ⟨S1024x4096, .bf16⟩
  | .local _ .vmem, ⟨38, _⟩ => ⟨S256x1024, .bf16⟩
  | .local _ .vmem, ⟨39, _⟩ => ⟨S256x1024, .bf16⟩
  | .local _ .vmem, ⟨40, _⟩ => ⟨S4096x1024, .bf16⟩
  | .local _ .vmem, ⟨41, _⟩ => ⟨S4096x1024, .bf16⟩
  | .local _ .vmem, ⟨42, _⟩ => ⟨S1024x1024, .f32⟩
  | .local _ .vmem, ⟨43, _⟩ => ⟨S1024x1024, .f32⟩
  | .local _ .vmem, ⟨44, _⟩ => ⟨S256x4096, .f32⟩
  | .local _ .vmem, ⟨45, _⟩ => ⟨S256x4096, .f32⟩
  | .local _ .vmem, ⟨46, _⟩ => ⟨S256x4096, .f32⟩
  | .local _ .vmem, ⟨47, _⟩ => ⟨S256x4096, .f32⟩
  | .local _ .vmem, ⟨48, _⟩ => ⟨S1x4096, .f32⟩
  | .local _ .vmem, ⟨49, _⟩ => ⟨S256x4096, .f32⟩
  | .local _ .vmem, ⟨50, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg4_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg3_1 : Ref sig .tc := ⟨.vmem, 41, rfl⟩
abbrev cc3_stg4_0 : Ref sig .tc := ⟨.vmem, 42, rfl⟩
abbrev cc3_stg4_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg3_1 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22
abbrev cc1_sem6_0 : DmaSem sig := 23
abbrev cc1_sem6_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem3_0 : DmaSem sig := 30
abbrev cc2_sem3_1 : DmaSem sig := 31
abbrev cc2_sem4_0 : DmaSem sig := 32
abbrev cc2_sem4_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem3_1 : DmaSem sig := 41
abbrev cc3_sem4_0 : DmaSem sig := 42
abbrev cc3_sem4_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem3_0 : DmaSem sig := 49
abbrev cc4_sem3_1 : DmaSem sig := 50

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc1_transform_5 (i : grid1.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S2048x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1024x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x4096 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨2, ![16, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x4096 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S256x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S4096x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S1024x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨1, ![64], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x4096 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x4096 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S256x4096 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]
-- ==== TailReferenceIdeal.lean ====
abbrev S16384x4096 : Shape := ⟨2, ![16384, 4096]⟩
abbrev S16384x1024 : Shape := ⟨2, ![16384, 1024]⟩
abbrev S16384x12288 : Shape := ⟨2, ![16384, 12288]⟩
abbrev S16384x2048 : Shape := ⟨2, ![16384, 2048]⟩
abbrev S16384x256 : Shape := ⟨2, ![16384, 256]⟩
abbrev S1024 : Shape := ⟨1, ![1024]⟩
abbrev S4096x4096 : Shape := ⟨2, ![4096, 4096]⟩
abbrev S4096 : Shape := ⟨1, ![4096]⟩
abbrev S256x4096 : Shape := ⟨2, ![256, 4096]⟩
abbrev S16384x4x256 : Shape := ⟨3, ![16384, 4, 256]⟩
abbrev S_ : Shape := ⟨0, ![]⟩
abbrev S16384x4 : Shape := ⟨2, ![16384, 4]⟩
abbrev S16384x4x1 : Shape := ⟨3, ![16384, 4, 1]⟩
abbrev S1x1024 : Shape := ⟨2, ![1, 1024]⟩
abbrev S16384 : Shape := ⟨1, ![16384]⟩
abbrev S16384x1 : Shape := ⟨2, ![16384, 1]⟩
abbrev S1x4096 : Shape := ⟨2, ![1, 4096]⟩

abbrev nBuf : Space → Nat
  | .hbm => 100
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x1024, .f32⟩
  | .hbm, ⟨2, _⟩ => ⟨S16384x1024, .f32⟩
  | .hbm, ⟨3, _⟩ => ⟨S16384x12288, .f32⟩
  | .hbm, ⟨4, _⟩ => ⟨S16384x1024, .f32⟩
  | .hbm, ⟨5, _⟩ => ⟨S16384x2048, .f32⟩
  | .hbm, ⟨6, _⟩ => ⟨S16384x256, .f32⟩
  | .hbm, ⟨7, _⟩ => ⟨S1024, .f32⟩
  | .hbm, ⟨8, _⟩ => ⟨S4096x4096, .f32⟩
  | .hbm, ⟨9, _⟩ => ⟨S4096, .f32⟩
  | .hbm, ⟨10, _⟩ => ⟨S256x4096, .f32⟩
  | .hbm, ⟨11, _⟩ => ⟨S4096x4096, .f32⟩
  | .hbm, ⟨12, _⟩ => ⟨S4096, .f32⟩
  | .hbm, ⟨13, _⟩ => ⟨S16384x1024, .f32⟩
  | .hbm, ⟨14, _⟩ => ⟨S16384x4x256, .f32⟩
  | .hbm, ⟨15, _⟩ => ⟨S16384x4x256, .f32⟩
  | .hbm, ⟨16, _⟩ => ⟨S_, .f32⟩
  | .hbm, ⟨17, _⟩ => ⟨S16384x4, .f32⟩
  | .hbm, ⟨18, _⟩ => ⟨S16384x4x1, .f32⟩
  | .hbm, ⟨19, _⟩ => ⟨S_, .f32⟩
  | .hbm, ⟨20, _⟩ => ⟨S16384x4x1, .f32⟩
  | .hbm, ⟨21, _⟩ => ⟨S16384x4x1, .f32⟩
  | .hbm, ⟨22, _⟩ => ⟨S_, .f32⟩
  | .hbm, ⟨23, _⟩ => ⟨S16384x4x1, .f32⟩
  | .hbm, ⟨24, _⟩ => ⟨S16384x4x1, .f32⟩
  | .hbm, ⟨25, _⟩ => ⟨S16384x4x1, .f32⟩
  | .hbm, ⟨26, _⟩ => ⟨S16384x4x256, .f32⟩
  | .hbm, ⟨27, _⟩ => ⟨S16384x4x256, .f32⟩
  | .hbm, ⟨28, _⟩ => ⟨S16384x1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x4096, .f32⟩
  | .hbm, ⟨54, _⟩ => ⟨S16384x4096, .f32⟩
  | .hbm, ⟨55, _⟩ => ⟨S16384x4096, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S16384x1, .f32⟩
  | .hbm, ⟨66, _⟩ => ⟨S16384x4096, .f32⟩
  | .hbm, ⟨67, _⟩ => ⟨S16384x4096, .f32⟩
  | .hbm, ⟨68, _⟩ => ⟨S1x4096, .f32⟩
  | .hbm, ⟨69, _⟩ => ⟨S16384x4096, .f32⟩
  | .hbm, ⟨70, _⟩ => ⟨S16384x4096, .f32⟩
  | .hbm, ⟨71, _⟩ => ⟨S16384x4096, .f32⟩
  | .hbm, ⟨72, _⟩ => ⟨S16384x4096, .f32⟩
  | .hbm, ⟨73, _⟩ => ⟨S16384x4096, .f32⟩
  | .hbm, ⟨74, _⟩ => ⟨S16384x4096, .f32⟩
  | .hbm, ⟨75, _⟩ => ⟨S16384x4096, .f32⟩
  | .hbm, ⟨76, _⟩ => ⟨S_, .f32⟩
  | .hbm, ⟨77, _⟩ => ⟨S16384x4096, .f32⟩
  | .hbm, ⟨78, _⟩ => ⟨S16384x4096, .f32⟩
  | .hbm, ⟨79, _⟩ => ⟨S_, .f32⟩
  | .hbm, ⟨80, _⟩ => ⟨S16384x4096, .f32⟩
  | .hbm, ⟨81, _⟩ => ⟨S16384x4096, .f32⟩
  | .hbm, ⟨82, _⟩ => ⟨S16384x4096, .f32⟩
  | .hbm, ⟨83, _⟩ => ⟨S16384x4096, .f32⟩
  | .hbm, ⟨84, _⟩ => ⟨S_, .f32⟩
  | .hbm, ⟨85, _⟩ => ⟨S16384, .f32⟩
  | .hbm, ⟨86, _⟩ => ⟨S16384x1, .f32⟩
  | .hbm, ⟨87, _⟩ => ⟨S_, .f32⟩
  | .hbm, ⟨88, _⟩ => ⟨S16384x1, .f32⟩
  | .hbm, ⟨89, _⟩ => ⟨S16384x1, .f32⟩
  | .hbm, ⟨90, _⟩ => ⟨S_, .f32⟩
  | .hbm, ⟨91, _⟩ => ⟨S16384x1, .f32⟩
  | .hbm, ⟨92, _⟩ => ⟨S16384x1, .f32⟩
  | .hbm, ⟨93, _⟩ => ⟨S16384x1, .f32⟩
  | .hbm, ⟨94, _⟩ => ⟨S16384x4096, .f32⟩
  | .hbm, ⟨95, _⟩ => ⟨S16384x4096, .f32⟩
  | .hbm, ⟨96, _⟩ => ⟨S1x4096, .f32⟩
  | .hbm, ⟨97, _⟩ => ⟨S16384x4096, .f32⟩
  | .hbm, ⟨98, _⟩ => ⟨S16384x4096, .f32⟩
  | .hbm, ⟨99, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_4 : Ref sig .tc := ⟨.hbm, 56, rfl⟩
abbrev main_v30 : Ref sig .tc := ⟨.hbm, 57, rfl⟩
abbrev main_v31 : Ref sig .tc := ⟨.hbm, 58, rfl⟩
abbrev main_cst_5 : Ref sig .tc := ⟨.hbm, 59, rfl⟩
abbrev main_v32 : Ref sig .tc := ⟨.hbm, 60, rfl⟩
abbrev main_v33 : Ref sig .tc := ⟨.hbm, 61, rfl⟩
abbrev main_cst_6 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_7 : Ref sig .tc := ⟨.hbm, 76, rfl⟩
abbrev main_v47 : Ref sig .tc := ⟨.hbm, 77, rfl⟩
abbrev main_v48 : Ref sig .tc := ⟨.hbm, 78, rfl⟩
abbrev main_cst_8 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_9 : Ref sig .tc := ⟨.hbm, 84, rfl⟩
abbrev main_v53 : Ref sig .tc := ⟨.hbm, 85, rfl⟩
abbrev main_v54 : Ref sig .tc := ⟨.hbm, 86, rfl⟩
abbrev main_cst_10 : Ref sig .tc := ⟨.hbm, 87, rfl⟩
abbrev main_v55 : Ref sig .tc := ⟨.hbm, 88, rfl⟩
abbrev main_v56 : Ref sig .tc := ⟨.hbm, 89, rfl⟩
abbrev main_cst_11 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩

abbrev nD : Nat := 1
abbrev τ : Topo := Topo.v7x

variable {F : FTy → Type} [FloatOps F]
-- ==== Head.lean ====
abbrev S16384x4096 : Shape := ⟨2, ![16384, 4096]⟩
abbrev S4096 : Shape := ⟨1, ![4096]⟩
abbrev S4096x12304 : Shape := ⟨2, ![4096, 12304]⟩
abbrev S4096x2048 : Shape := ⟨2, ![4096, 2048]⟩
abbrev S4096x16x2x2x32 : Shape := ⟨5, ![4096, 16, 2, 2, 32]⟩
abbrev S4096x7168 : Shape := ⟨2, ![4096, 7168]⟩
abbrev S4096x512 : Shape := ⟨2, ![4096, 512]⟩
abbrev S4096x4x2x2x32 : Shape := ⟨5, ![4096, 4, 2, 2, 32]⟩
abbrev S4096x12288 : Shape := ⟨2, ![4096, 12288]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S16384x12288 : Shape := ⟨2, ![16384, 12288]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 19
  | .vmem => 11
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x12304, .f32⟩
  | .hbm, ⟨3, _⟩ => ⟨S4096x2048, .f32⟩
  | .hbm, ⟨4, _⟩ => ⟨S4096x16x2x2x32, .f32⟩
  | .hbm, ⟨5, _⟩ => ⟨S4096x16x2x2x32, .f32⟩
  | .hbm, ⟨6, _⟩ => ⟨S4096x2048, .f32⟩
  | .hbm, ⟨7, _⟩ => ⟨S4096x2048, .f32⟩
  | .hbm, ⟨8, _⟩ => ⟨S4096x7168, .f32⟩
  | .hbm, ⟨9, _⟩ => ⟨S4096x512, .f32⟩
  | .hbm, ⟨10, _⟩ => ⟨S4096x4x2x2x32, .f32⟩
  | .hbm, ⟨11, _⟩ => ⟨S4096x4x2x2x32, .f32⟩
  | .hbm, ⟨12, _⟩ => ⟨S4096x512, .f32⟩
  | .hbm, ⟨13, _⟩ => ⟨S4096x512, .f32⟩
  | .hbm, ⟨14, _⟩ => ⟨S4096x12288, .f32⟩
  | .hbm, ⟨15, _⟩ => ⟨S4096x12288, .bf16⟩
  | .hbm, ⟨16, _⟩ => ⟨S1x4096, .f32⟩
  | .hbm, ⟨17, _⟩ => ⟨S16384x4096, .bf16⟩
  | .hbm, ⟨18, _⟩ => ⟨S16384x12288, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | .local _ .vmem, ⟨5, _⟩ => ⟨S1024x4096, .bf16⟩
  | .local _ .vmem, ⟨6, _⟩ => ⟨S1024x4096, .bf16⟩
  | .local _ .vmem, ⟨7, _⟩ => ⟨S4096x1024, .bf16⟩
  | .local _ .vmem, ⟨8, _⟩ => ⟨S4096x1024, .bf16⟩
  | .local _ .vmem, ⟨9, _⟩ => ⟨S1024x1024, .f32⟩
  | .local _ .vmem, ⟨10, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 12], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== HeadReferenceIdeal.lean ====
abbrev S16384x4096 : Shape := ⟨2, ![16384, 4096]⟩
abbrev S4096 : Shape := ⟨1, ![4096]⟩
abbrev S4096x12304 : Shape := ⟨2, ![4096, 12304]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x12304 : Shape := ⟨2, ![16384, 12304]⟩
abbrev S16384x1024 : Shape := ⟨2, ![16384, 1024]⟩
abbrev S16384x16 : Shape := ⟨2, ![16384, 16]⟩
abbrev S16384x2048 : Shape := ⟨2, ![16384, 2048]⟩
abbrev S16384x512 : Shape := ⟨2, ![16384, 512]⟩
abbrev S16384x16x2x2x32 : Shape := ⟨5, ![16384, 16, 2, 2, 32]⟩
abbrev S16384x4x2x2x32 : Shape := ⟨5, ![16384, 4, 2, 2, 32]⟩
abbrev S16384x12288 : Shape := ⟨2, ![16384, 12288]⟩

abbrev nBuf : Space → Nat
  | .hbm => 39
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x12304, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S16384x12304, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x16, .f32⟩
  | .hbm, ⟨28, _⟩ => ⟨S16384x2048, .f32⟩
  | .hbm, ⟨29, _⟩ => ⟨S16384x512, .f32⟩
  | .hbm, ⟨30, _⟩ => ⟨S16384x512, .f32⟩
  | .hbm, ⟨31, _⟩ => ⟨S16384x2048, .f32⟩
  | .hbm, ⟨32, _⟩ => ⟨S16384x16x2x2x32, .f32⟩
  | .hbm, ⟨33, _⟩ => ⟨S16384x16x2x2x32, .f32⟩
  | .hbm, ⟨34, _⟩ => ⟨S16384x2048, .f32⟩
  | .hbm, ⟨35, _⟩ => ⟨S16384x4x2x2x32, .f32⟩
  | .hbm, ⟨36, _⟩ => ⟨S16384x4x2x2x32, .f32⟩
  | .hbm, ⟨37, _⟩ => ⟨S16384x512, .f32⟩
  | .hbm, ⟨38, _⟩ => ⟨S16384x12288, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩

abbrev nD : Nat := 1
abbrev τ : Topo := Topo.v7x

variable {F : FTy → Type} [FloatOps F]
-- ==== Proof.Steps.lean ====
module

public import proofs.«01_k».proof.Proof.Gen.KernelIdeal.Skeleton

@[expose] public section

noncomputable section

namespace Cert.KernelIdeal.Flash

open Idealize.ShloMosaic Idealize.SL.Sem
open Cert.KernelIdeal.Gen

variable {F : FTy → Type} [FloatOps F] [Named F]

/-! The kernel function, written again as the steps its source names: a step over one block of 32 score rows, repeated 32 times, where
the print has every repetition in full. -/

/-- Programs of the kernel's core. -/
abbrev P (F : FTy → Type) (α : Type) := Prog (TpuEff nD τ sig (Elt F) Λ₀ .tc) α

/-- A row block's corner and its extent stay inside the two-slot score buffer. -/
theorem inbS {sl r : ℕ} (hs : sl < 2) (hr : r < 32) : ∀ a, (![sl, 32 * r, 0] : Fin 3 → Nat) a + S1x32x256.size a ≤ S2x1024x256.size a := by
  intro a; fin_cases a
  · change sl + 1 ≤ 2; omega
  · change 32 * r + 32 ≤ 1024; omega
  · change 0 + 256 ≤ 256; omega
/-- The same for one half of the row block's lanes. -/
theorem inbH {sl r c : ℕ} (hs : sl < 2) (hr : r < 32) (hc : c < 2) : ∀ a, (![sl, 32 * r, 128 * c] : Fin 3 → Nat) a + S1x32x128.size a ≤ S2x1024x256.size a := by
  intro a; fin_cases a
  · change sl + 1 ≤ 2; omega
  · change 32 * r + 32 ≤ 1024; omega
  · change 128 * c + 128 ≤ 256; omega
theorem inbA {sl r : ℕ} (hs : sl < 2) (hr : r < 32) : ∀ a, (![sl, 32 * r, 0] : Fin 3 → Nat) a + S1x32x128.size a ≤ S2x1024x128.size a := by
  intro a; fin_cases a
  · change sl + 1 ≤ 2; omega
  · change 32 * r + 32 ≤ 1024; omega
  · change 0 + 128 ≤ 128; omega
theorem inbM {r : ℕ} (hr : r < 32) : ∀ a, (![32 * r, 0] : Fin 2 → Nat) a + S32x128.size a ≤ S1024x128.size a := by
  intro a; fin_cases a
  · change 32 * r + 32 ≤ 1024; omega
  · change 0 + 128 ≤ 128; omega
theorem inbSS {sl : ℕ} (hs : sl < 2) : ∀ a, (![sl, 0, 0] : Fin 3 → Nat) a + S1x1024x256.size a ≤ S2x1024x256.size a := by
  intro a; fin_cases a
  · change sl + 1 ≤ 2; omega
  · change 0 + 1024 ≤ 1024; omega
  · change 0 + 256 ≤ 256; omega
theorem inbAA {sl : ℕ} (hs : sl < 2) : ∀ a, (![sl, 0, 0] : Fin 3 → Nat) a + S1x1024x128.size a ≤ S2x1024x128.size a := by
  intro a; fin_cases a
  · change sl + 1 ≤ 2; omega
  · change 0 + 1024 ≤ 1024; omega
  · change 0 + 128 ≤ 128; omega
theorem inbQ {g : ℕ} (hg : g < 4) : ∀ a, (![0, 128 * g] : Fin 2 → Nat) a + S256x128.size a ≤ S256x512.size a := by
  intro a; fin_cases a
  · change 0 + 256 ≤ 256; omega
  · change 128 * g + 128 ≤ 512; omega
theorem inbG {g : ℕ} (hg : g < 4) : ∀ a, (![256 * g, 0] : Fin 2 → Nat) a + S256x128.size a ≤ S1024x128.size a := by
  intro a; fin_cases a
  · change 256 * g + 256 ≤ 1024; omega
  · change 0 + 128 ≤ 128; omega
theorem packedH {sl r c : ℕ} (hs : sl < 2) (hr : r < 32) (hc : c < 2) :
    (Rect.unit (s := S2x1024x256) ![sl, 32 * r, 128 * c] S1x32x128.size (inbH hs hr hc)).PackedRows (EltTy.packing .bf16) := by
  have h : ∀ (sl : Fin 2) (r : Fin 32) (c : Fin 2), (Rect.unit (s := S2x1024x256) ![sl.1, 32 * r.1, 128 * c.1] S1x32x128.size (inbH sl.2 r.2 c.2)).PackedRows (EltTy.packing .bf16) := by decide
  exact h ⟨sl, hs⟩ ⟨r, hr⟩ ⟨c, hc⟩
theorem packedG {g : ℕ} (hg : g < 4) :
    (Rect.unit (s := S1024x128) ![256 * g, 0] S256x128.size (inbG hg)).PackedRows (EltTy.packing .bf16) := by
  have h : ∀ (g : Fin 4), (Rect.unit (s := S1024x128) ![256 * g.1, 0] S256x128.size (inbG g.2)).PackedRows (EltTy.packing .bf16) := by decide
  exact h ⟨g, hg⟩

/-- `f k`, `f (k + 1)`, … in turn, `n` of them, all below `N`. -/
def runFrom {N : ℕ} (f : (r : ℕ) → r < N → P F PUnit) : (n k : ℕ) → k + n ≤ N → P F PUnit
  | 0, _, _ => pure ⟨⟩
  | n + 1, k, h => f k (by omega) >>= fun _ => runFrom f n (k + 1) (by omega)

/-- The first block's values, weighted: the accumulator starts as this product. -/
def firstValues (v : Vec F S256x128 .bf16) (p : Vec F S1x1024x256 .bf16) : FVec F S1024x128 .f32 := k0_pay290 (k0_pay576 v p)

variable (arg3 : Memref sig .tc .vmem S256x512 .f32) (arg4 arg5 : Memref sig .tc .vmem S8192x128 .bf16)
  (arg6 : Memref sig .tc .vmem S256x512 .f32) (arg7 : Memref sig .tc .vmem S256x512 .bf16) (harg7 : arg7.IsWhole)
  (arg8 : Memref sig .tc .vmem S1024x128 .bf16) (harg8 : arg8.IsWhole) (arg9 : Memref sig .tc .vmem S2x1024x256 .f32)
  (arg10 : Memref sig .tc .vmem S2x1024x256 .bf16) (harg10 : arg10.IsWhole) (arg11 : Memref sig .tc .vmem S2x1024x128 .f32)
  (arg12 arg13 arg14 : Memref sig .tc .vmem S1024x128 .f32)

/-- Head `g` of the query block moves to rows `256 g …` of the stacked queries. -/
def stackStep (g : ℕ) (hg : g < 4) : P F PUnit := do
  let q : Vec F S256x128 .f32 ← Prog.lift (.load arg3 (Rect.unit (s := S256x512) ![0, 128 * g] S256x128.size (inbQ hg)).toLoadRect (View.loadsAt_vmem h_S256x128))
  let _ : Vec F S256x128 .bf16 ← Prog.lift (.load arg8 (Rect.unit (s := S1024x128) ![256 * g, 0] S256x128.size (inbG hg)).toLoadRect (View.loadsAt_vmem h_S256x128))
  Prog.lift (.store arg8 (Rect.unit (s := S1024x128) ![256 * g, 0] S256x128.size (inbG hg)) (k0_pay578 q) Finset.univ (View.stores_vmem h_S256x128 (harg8.storeExact_slice rfl _ (packedG hg)) (fun _ => rfl)) (.inl rfl))

/-- The scores of one block of keys, at rows `off` of the key buffer, into slot `sl`. -/
def scoresStep (off : Fin 2 → ℕ) (hoff : ∀ a, off a + S256x128.size a ≤ S8192x128.size a) (sl : ℕ) (hs : sl < 2) : P F PUnit := do
  let k : Vec F S256x128 .bf16 ← Prog.lift (.load arg4 (Rect.unit (s := S8192x128) off S256x128.size hoff).toLoadRect (View.loadsAt_vmem h_S256x128))
  let q : Vec F S1024x128 .bf16 ← Prog.lift (.load arg8 (Rect.unit (s := S1024x128) ![0, 0] S1024x128.size inb_S1024x128_S1024x128_0_0).toLoadRect (View.loadsAt_vmem h_S1024x128))
  let _ : Vec F S1x1024x256 .f32 ← Prog.lift (.load arg9 (Rect.unit (s := S2x1024x256) ![sl, 0, 0] S1x1024x256.size (inbSS hs)).toLoadRect (View.loadsAt_vmem h_S1x1024x256))
  Prog.lift (.store arg9 (Rect.unit (s := S2x1024x256) ![sl, 0, 0] S1x1024x256.size (inbSS hs)) (k0_pay2 k q) Finset.univ (View.stores_vmem_bits_univ h_S1x1024x256 rfl) (.inl rfl))

/-- One row block's maximum, the running one raised and the rescaling factor kept. -/
def maxStep (sl : ℕ) (hs : sl < 2) (r : ℕ) (hr : r < 32) : P F PUnit := do
  let s : Vec F S1x32x256 .f32 ← Prog.lift (.load arg9 (Rect.unit (s := S2x1024x256) ![sl, 32 * r, 0] S1x32x256.size (inbS hs hr)).toLoadRect (View.loadsAt_vmem h_S1x32x256))
  let m : Vec F S32x128 .f32 ← Prog.lift (.load arg12 (Rect.unit (s := S1024x128) ![32 * r, 0] S32x128.size (inbM hr)).toLoadRect (View.loadsAt_vmem h_S32x128))
  let _ : Vec F S1x32x128 .f32 ← Prog.lift (.load arg11 (Rect.unit (s := S2x1024x128) ![sl, 32 * r, 0] S1x32x128.size (inbA hs hr)).toLoadRect (View.loadsAt_vmem h_S1x32x128))
  Prog.lift (.store arg11 (Rect.unit (s := S2x1024x128) ![sl, 32 * r, 0] S1x32x128.size (inbA hs hr)) (k0_pay4 s m) Finset.univ (View.stores_vmem_bits_univ h_S1x32x128 rfl) (.inl rfl))
  let _ : Vec F S32x128 .f32 ← Prog.lift (.load arg12 (Rect.unit (s := S1024x128) ![32 * r, 0] S32x128.size (inbM hr)).toLoadRect (View.loadsAt_vmem h_S32x128))
  Prog.lift (.store arg12 (Rect.unit (s := S1024x128) ![32 * r, 0] S32x128.size (inbM hr)) (k0_pay5 s m) Finset.univ (View.stores_vmem_bits_univ h_S32x128 rfl) (.inl rfl))

/-- The first block's maximum of one row block. -/
def maxFirst (sl : ℕ) (hs : sl < 2) (r : ℕ) (hr : r < 32) : P F PUnit := do
  let s : Vec F S1x32x256 .f32 ← Prog.lift (.load arg9 (Rect.unit (s := S2x1024x256) ![sl, 32 * r, 0] S1x32x256.size (inbS hs hr)).toLoadRect (View.loadsAt_vmem h_S1x32x256))
  let _ : Vec F S32x128 .f32 ← Prog.lift (.load arg12 (Rect.unit (s := S1024x128) ![32 * r, 0] S32x128.size (inbM hr)).toLoadRect (View.loadsAt_vmem h_S32x128))
  Prog.lift (.store arg12 (Rect.unit (s := S1024x128) ![32 * r, 0] S32x128.size (inbM hr)) (k0_pay584 s) Finset.univ (View.stores_vmem_bits_univ h_S32x128 rfl) (.inl rfl))

/-- One half of a row block's weights. -/
def expHalf (sl : ℕ) (hs : sl < 2) (r : ℕ) (hr : r < 32) (c : ℕ) (hc : c < 2) (m : Vec F S32x128 .f32) : P F (Vec F S1x32x128 .f32) := do
  let s : Vec F S1x32x128 .f32 ← Prog.lift (.load arg9 (Rect.unit (s := S2x1024x256) ![sl, 32 * r, 128 * c] S1x32x128.size (inbH hs hr hc)).toLoadRect (View.loadsAt_vmem h_S1x32x128))
  let _ : Vec F S1x32x128 .bf16 ← Prog.lift (.load arg10 (Rect.unit (s := S2x1024x256) ![sl, 32 * r, 128 * c] S1x32x128.size (inbH hs hr hc)).toLoadRect (View.loadsAt_vmem h_S1x32x128))
  Prog.lift (.store arg10 (Rect.unit (s := S2x1024x256) ![sl, 32 * r, 128 * c] S1x32x128.size (inbH hs hr hc)) (k0_pay109 m s) Finset.univ (View.stores_vmem h_S1x32x128 (harg10.storeExact_slice rfl _ (packedH hs hr hc)) (fun _ => rfl)) (.inl rfl))
  pure s

/-- One row block's weights, and the running sum rescaled and raised by them. -/
def expStep (sl : ℕ) (hs : sl < 2) (r : ℕ) (hr : r < 32) : P F PUnit := do
  let m : Vec F S32x128 .f32 ← Prog.lift (.load arg12 (Rect.unit (s := S1024x128) ![32 * r, 0] S32x128.size (inbM hr)).toLoadRect (View.loadsAt_vmem h_S32x128))
  let s0 ← expHalf arg9 arg10 harg10 sl hs r hr 0 (by decide) m
  let s1 ← expHalf arg9 arg10 harg10 sl hs r hr 1 (by decide) m
  let a : Vec F S1x32x128 .f32 ← Prog.lift (.load arg11 (Rect.unit (s := S2x1024x128) ![sl, 32 * r, 0] S1x32x128.size (inbA hs hr)).toLoadRect (View.loadsAt_vmem h_S1x32x128))
  let l : Vec F S32x128 .f32 ← Prog.lift (.load arg13 (Rect.unit (s := S1024x128) ![32 * r, 0] S32x128.size (inbM hr)).toLoadRect (View.loadsAt_vmem h_S32x128))
  let _ : Vec F S32x128 .f32 ← Prog.lift (.load arg13 (Rect.unit (s := S1024x128) ![32 * r, 0] S32x128.size (inbM hr)).toLoadRect (View.loadsAt_vmem h_S32x128))
  Prog.lift (.store arg13 (Rect.unit (s := S1024x128) ![32 * r, 0] S32x128.size (inbM hr)) (k0_pay112 m s0 s1 a l) Finset.univ (View.stores_vmem_bits_univ h_S32x128 rfl) (.inl rfl))

/-- The first block's weights of one row block, and their sum. -/
def expFirst (sl : ℕ) (hs : sl < 2) (r : ℕ) (hr : r < 32) : P F PUnit := do
  let m : Vec F S32x128 .f32 ← Prog.lift (.load arg12 (Rect.unit (s := S1024x128) ![32 * r, 0] S32x128.size (inbM hr)).toLoadRect (View.loadsAt_vmem h_S32x128))
  let s0 ← expHalf arg9 arg10 harg10 sl hs r hr 0 (by decide) m
  let s1 ← expHalf arg9 arg10 harg10 sl hs r hr 1 (by decide) m
  let _ : Vec F S32x128 .f32 ← Prog.lift (.load arg13 (Rect.unit (s := S1024x128) ![32 * r, 0] S32x128.size (inbM hr)).toLoadRect (View.loadsAt_vmem h_S32x128))
  Prog.lift (.store arg13 (Rect.unit (s := S1024x128) ![32 * r, 0] S32x128.size (inbM hr)) (k0_pay627 m s0 s1) Finset.univ (View.stores_vmem_bits_univ h_S32x128 rfl) (.inl rfl))

/-- The first block's product of weights and values. -/
def valuesFirst (off : Fin 2 → ℕ) (hoff : ∀ a, off a + S256x128.size a ≤ S8192x128.size a) (sl : ℕ) (hs : sl < 2) : P F PUnit := do
  let v : Vec F S256x128 .bf16 ← Prog.lift (.load arg5 (Rect.unit (s := S8192x128) off S256x128.size hoff).toLoadRect (View.loadsAt_vmem h_S256x128))
  let p : Vec F S1x1024x256 .bf16 ← Prog.lift (.load arg10 (Rect.unit (s := S2x1024x256) ![sl, 0, 0] S1x1024x256.size (inbSS hs)).toLoadRect (View.loadsAt_vmem h_S1x1024x256))
  let _ : Vec F S1024x128 .f32 ← Prog.lift (.load arg14 (Rect.unit (s := S1024x128) ![0, 0] S1024x128.size inb_S1024x128_S1024x128_0_0).toLoadRect (View.loadsAt_vmem h_S1024x128))
  Prog.lift (.store arg14 (Rect.unit (s := S1024x128) ![0, 0] S1024x128.size inb_S1024x128_S1024x128_0_0) (firstValues v p) Finset.univ (View.stores_vmem_bits_univ h_S1024x128 rfl) (.inl rfl))

/-- A later block's product of weights and values, added to the rescaled accumulator. -/
def valuesStep (off : Fin 2 → ℕ) (hoff : ∀ a, off a + S256x128.size a ≤ S8192x128.size a) (sl : ℕ) (hs : sl < 2) : P F PUnit := do
  let v : Vec F S256x128 .bf16 ← Prog.lift (.load arg5 (Rect.unit (s := S8192x128) off S256x128.size hoff).toLoadRect (View.loadsAt_vmem h_S256x128))
  let p : Vec F S1x1024x256 .bf16 ← Prog.lift (.load arg10 (Rect.unit (s := S2x1024x256) ![sl, 0, 0] S1x1024x256.size (inbSS hs)).toLoadRect (View.loadsAt_vmem h_S1x1024x256))
  let a : Vec F S1x1024x128 .f32 ← Prog.lift (.load arg11 (Rect.unit (s := S2x1024x128) ![sl, 0, 0] S1x1024x128.size (inbAA hs)).toLoadRect (View.loadsAt_vmem h_S1x1024x128))
  let acc : Vec F S1024x128 .f32 ← Prog.lift (.load arg14 (Rect.unit (s := S1024x128) ![0, 0] S1024x128.size inb_S1024x128_S1024x128_0_0).toLoadRect (View.loadsAt_vmem h_S1024x128))
  let _ : Vec F S1024x128 .f32 ← Prog.lift (.load arg14 (Rect.unit (s := S1024x128) ![0, 0] S1024x128.size inb_S1024x128_S1024x128_0_0).toLoadRect (View.loadsAt_vmem h_S1024x128))
  Prog.lift (.store arg14 (Rect.unit (s := S1024x128) ![0, 0] S1024x128.size inb_S1024x128_S1024x128_0_0) (k0_pay1653 v p a acc) Finset.univ (View.stores_vmem_bits_univ h_S1024x128 rfl) (.inl rfl))

/-- The accumulator divided by the sums of the weights, gated, and stored. -/
def finalStep : P F PUnit := do
  let acc : Vec F S1024x128 .f32 ← Prog.lift (.load arg14 (Rect.unit (s := S1024x128) ![0, 0] S1024x128.size inb_S1024x128_S1024x128_0_0).toLoadRect (View.loadsAt_vmem h_S1024x128))
  let l : Vec F S1024x128 .f32 ← Prog.lift (.load arg13 (Rect.unit (s := S1024x128) ![0, 0] S1024x128.size inb_S1024x128_S1024x128_0_0).toLoadRect (View.loadsAt_vmem h_S1024x128))
  let z : Vec F S256x512 .f32 ← Prog.lift (.load arg6 (Rect.unit (s := S256x512) ![0, 0] S256x512.size inb_S256x512_S256x512_0_0).toLoadRect (View.loadsAt_vmem h_S256x512))
  let _ : Vec F S256x512 .bf16 ← Prog.lift (.load arg7 (Rect.unit (s := S256x512) ![0, 0] S256x512.size inb_S256x512_S256x512_0_0).toLoadRect (View.loadsAt_vmem h_S256x512))
  Prog.lift (.store arg7 (Rect.unit (s := S256x512) ![0, 0] S256x512.size inb_S256x512_S256x512_0_0) (k0_pay1 acc l z) Finset.univ (View.stores_vmem h_S256x512 (harg7.storeExact_slice rfl _ packedbf16_S256x512_S256x512_0_0) (fun _ => rfl)) (.inl rfl))

/-- All 32 row blocks: the maxima, then the weights. -/
def softmaxNext (sl : ℕ) (hs : sl < 2) : P F PUnit := do
  runFrom (N := 32) (maxStep arg9 arg11 arg12 sl hs) 32 0 (by decide)
  runFrom (N := 32) (expStep arg9 arg10 harg10 arg11 arg12 arg13 sl hs) 32 0 (by decide)

/-- The same for the first block of keys. -/
def softmaxFirst (sl : ℕ) (hs : sl < 2) : P F PUnit := do
  runFrom (N := 32) (maxFirst arg9 arg12 sl hs) 32 0 (by decide)
  runFrom (N := 32) (expFirst arg9 arg10 harg10 arg12 arg13 sl hs) 32 0 (by decide)

/-- One trip of the counted loop: two blocks of keys. -/
def trip (t : Fin k0_t1_loop.trips) (_ : Unit) : P F Unit := do
  scoresStep arg4 arg8 arg9 (k0_off1 t) (k0_off1_inb t) 1 (by decide)
  softmaxNext arg9 arg10 harg10 arg11 arg12 arg13 0 (by decide)
  valuesStep arg5 arg10 arg11 arg14 (k0_off2 t) (k0_off2_inb t) 1 (by decide)
  scoresStep arg4 arg8 arg9 (k0_off3 t) (k0_off3_inb t) 0 (by decide)
  softmaxNext arg9 arg10 harg10 arg11 arg12 arg13 1 (by decide)
  valuesStep arg5 arg10 arg11 arg14 (k0_off4 t) (k0_off4_inb t) 0 (by decide)

/-- The whole body. -/
def flash : P F PUnit := do
  runFrom (N := 4) (stackStep arg3 arg8 harg8) 4 0 (by decide)
  scoresStep arg4 arg8 arg9 ![0, 0] inb_S8192x128_S256x128_0_0 0 (by decide)
  scoresStep arg4 arg8 arg9 ![256, 0] inb_S8192x128_S256x128_256_0 1 (by decide)
  softmaxFirst arg9 arg10 harg10 arg12 arg13 0 (by decide)
  scoresStep arg4 arg8 arg9 ![512, 0] inb_S8192x128_S256x128_512_0 0 (by decide)
  softmaxNext arg9 arg10 harg10 arg11 arg12 arg13 1 (by decide)
  valuesFirst arg5 arg10 arg14 ![0, 0] inb_S8192x128_S256x128_0_0 0 (by decide)
  Scf.Loop.for k0_t1_loop k0_t1_ok ⟨⟩ (trip arg4 arg5 arg8 arg9 arg10 harg10 arg11 arg12 arg13 arg14)
  scoresStep arg4 arg8 arg9 ![7936, 0] inb_S8192x128_S256x128_7936_0 1 (by decide)
  softmaxNext arg9 arg10 harg10 arg11 arg12 arg13 0 (by decide)
  valuesStep arg5 arg10 arg11 arg14 ![7424, 0] inb_S8192x128_S256x128_7424_0 1 (by decide)
  softmaxNext arg9 arg10 harg10 arg11 arg12 arg13 1 (by decide)
  valuesStep arg5 arg10 arg11 arg14 ![7680, 0] inb_S8192x128_S256x128_7680_0 0 (by decide)
  valuesStep arg5 arg10 arg11 arg14 ![7936, 0] inb_S8192x128_S256x128_7936_0 1 (by decide)
  finalStep arg6 arg7 harg7 arg13 arg14

end Cert.KernelIdeal.Flash
-- ==== Proof.Same.lean ====
module

public import proofs.«01_k».proof.Proof.Steps

@[expose] public section

noncomputable section

namespace Cert.KernelIdeal.Flash

open Idealize.ShloMosaic Idealize.SL.Sem
open Cert.KernelIdeal.Gen

variable {F : FTy → Type} [FloatOps F] [Named F]

set_option maxRecDepth 100000 in
set_option maxHeartbeats 4000000 in
theorem trip_same (i : grid0.Coords) (arg3 : Memref sig .tc .vmem S256x512 .f32) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S256x512 .f32) (harg6 : arg6.IsWhole) (arg7 : Memref sig .tc .vmem S256x512 .bf16) (harg7 : arg7.IsWhole) (arg8 : Memref sig .tc .vmem S1024x128 .bf16) (harg8 : arg8.IsWhole) (arg9 : Memref sig .tc .vmem S2x1024x256 .f32) (harg9 : arg9.IsWhole) (arg10 : Memref sig .tc .vmem S2x1024x256 .bf16) (harg10 : arg10.IsWhole) (arg11 : Memref sig .tc .vmem S2x1024x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (c0 : FVec F S256x128 .bf16) (c1 : FVec F S1024x256 .bf16) (t : Fin k0_t1_loop.trips) (u : Unit) :
    k0_t1_body (F := F) i arg3 harg3 arg4 harg4 arg5 harg5 arg6 harg6 arg7 harg7 arg8 harg8 arg9 harg9 arg10 harg10 arg11 harg11 arg12 harg12 arg13 harg13 arg14 harg14 c0 c1 t u = trip arg4 arg5 arg8 arg9 arg10 harg10 arg11 arg12 arg13 arg14 t u := rfl

end Cert.KernelIdeal.Flash
-- ==== Proof.Whole.lean ====
module

public import proofs.«01_k».proof.Proof.Same

@[expose] public section

noncomputable section

namespace Cert.KernelIdeal.Flash

open Idealize.ShloMosaic Idealize.SL.Sem
open Cert.KernelIdeal.Gen

variable {F : FTy → Type} [FloatOps F] [Named F]

variable (i : grid0.Coords) (arg3 : Memref sig .tc .vmem S256x512 .f32) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S256x512 .f32) (harg6 : arg6.IsWhole) (arg7 : Memref sig .tc .vmem S256x512 .bf16) (harg7 : arg7.IsWhole) (arg8 : Memref sig .tc .vmem S1024x128 .bf16) (harg8 : arg8.IsWhole) (arg9 : Memref sig .tc .vmem S2x1024x256 .f32) (harg9 : arg9.IsWhole) (arg10 : Memref sig .tc .vmem S2x1024x256 .bf16) (harg10 : arg10.IsWhole) (arg11 : Memref sig .tc .vmem S2x1024x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole)

/-- The printed body up to the loop: its parts in the order they run, ending with the first store of the accumulator. -/
def before : P F PUnit := do
  let v30 : Vec F S256x128 .bf16 ← k0_part88 i arg3 harg3 arg4 harg4 arg5 harg5 arg6 harg6 arg7 harg7 arg8 harg8 arg9 harg9 arg10 harg10 arg11 harg11 arg12 harg12 arg13 harg13 arg14 harg14
  let ⟨v60, v61⟩ : Σ' (v60 : FVec F S32x128 .f32), Vec F S32x128 .f32 ← k0_part89 i arg3 harg3 arg4 harg4 arg5 harg5 arg6 harg6 arg7 harg7 arg8 harg8 arg9 harg9 arg10 harg10 arg11 harg11 arg12 harg12 arg13 harg13 arg14 harg14 v30
  let v95 : FVec F S32x1 .f32 ← k0_part90 i arg3 harg3 arg4 harg4 arg5 harg5 arg6 harg6 arg7 harg7 arg8 harg8 arg9 harg9 arg10 harg10 arg11 harg11 arg12 harg12 arg13 harg13 arg14 harg14 v60 v61
  let v128 : FVec F S32x256 .f32 ← k0_part91 i arg3 harg3 arg4 harg4 arg5 harg5 arg6 harg6 arg7 harg7 arg8 harg8 arg9 harg9 arg10 harg10 arg11 harg11 arg12 harg12 arg13 harg13 arg14 harg14 v95
  k0_part92 i arg3 harg3 arg4 harg4 arg5 harg5 arg6 harg6 arg7 harg7 arg8 harg8 arg9 harg9 arg10 harg10 arg11 harg11 arg12 harg12 arg13 harg13 arg14 harg14 v128
  let ⟨v195, v196⟩ : Σ' (v195 : FVec F S32x128 .f32), Vec F S32x128 .f32 ← k0_part93 i arg3 harg3 arg4 harg4 arg5 harg5 arg6 harg6 arg7 harg7 arg8 harg8 arg9 harg9 arg10 harg10 arg11 harg11 arg12 harg12 arg13 harg13 arg14 harg14
  let v230 : FVec F S32x1 .f32 ← k0_part94 i arg3 harg3 arg4 harg4 arg5 harg5 arg6 harg6 arg7 harg7 arg8 harg8 arg9 harg9 arg10 harg10 arg11 harg11 arg12 harg12 arg13 harg13 arg14 harg14 v195 v196
  let v263 : FVec F S32x256 .f32 ← k0_part95 i arg3 harg3 arg4 harg4 arg5 harg5 arg6 harg6 arg7 harg7 arg8 harg8 arg9 harg9 arg10 harg10 arg11 harg11 arg12 harg12 arg13 harg13 arg14 harg14 v230
  k0_part96 i arg3 harg3 arg4 harg4 arg5 harg5 arg6 harg6 arg7 harg7 arg8 harg8 arg9 harg9 arg10 harg10 arg11 harg11 arg12 harg12 arg13 harg13 arg14 harg14 v263
  let ⟨v330, v331⟩ : Σ' (v330 : FVec F S32x128 .f32), Vec F S32x128 .f32 ← k0_part97 i arg3 harg3 arg4 harg4 arg5 harg5 arg6 harg6 arg7 harg7 arg8 harg8 arg9 harg9 arg10 harg10 arg11 harg11 arg12 harg12 arg13 harg13 arg14 harg14
  let ⟨v355, v359, v363⟩ : Σ' (v355 : Vec F S32x128 .f32) (v359 : FVec F S32x128 .f32), FVec F S1x32x128 .bf16 ← k0_part98 i arg3 harg3 arg4 harg4 arg5 harg5 arg6 harg6 arg7 harg7 arg8 harg8 arg9 harg9 arg10 harg10 arg11 harg11 arg12 harg12 arg13 harg13 arg14 harg14 v330 v331
  let ⟨v393, v394⟩ : Σ' (v393 : FVec F S32x128 .f32), Vec F S32x128 .f32 ← k0_part99 i arg3 harg3 arg4 harg4 arg5 harg5 arg6 harg6 arg7 harg7 arg8 harg8 arg9 harg9 arg10 harg10 arg11 harg11 arg12 harg12 arg13 harg13 arg14 harg14 v355 v359 v363
  let ⟨v418, v422, v426⟩ : Σ' (v418 : Vec F S32x128 .f32) (v422 : FVec F S32x128 .f32), FVec F S1x32x128 .bf16 ← k0_part100 i arg3 harg3 arg4 harg4 arg5 harg5 arg6 harg6 arg7 harg7 arg8 harg8 arg9 harg9 arg10 harg10 arg11 harg11 arg12 harg12 arg13 harg13 arg14 harg14 v393 v394
  let ⟨v456, v457⟩ : Σ' (v456 : FVec F S32x128 .f32), Vec F S32x128 .f32 ← k0_part101 i arg3 harg3 arg4 harg4 arg5 harg5 arg6 harg6 arg7 harg7 arg8 harg8 arg9 harg9 arg10 harg10 arg11 harg11 arg12 harg12 arg13 harg13 arg14 harg14 v418 v422 v426
  let ⟨v481, v485, v489⟩ : Σ' (v481 : Vec F S32x128 .f32) (v485 : FVec F S32x128 .f32), FVec F S1x32x128 .bf16 ← k0_part102 i arg3 harg3 arg4 harg4 arg5 harg5 arg6 harg6 arg7 harg7 arg8 harg8 arg9 harg9 arg10 harg10 arg11 harg11 arg12 harg12 arg13 harg13 arg14 harg14 v456 v457
  let ⟨v519, v520⟩ : Σ' (v519 : FVec F S32x128 .f32), Vec F S32x128 .f32 ← k0_part103 i arg3 harg3 arg4 harg4 arg5 harg5 arg6 harg6 arg7 harg7 arg8 harg8 arg9 harg9 arg10 harg10 arg11 harg11 arg12 harg12 arg13 harg13 arg14 harg14 v481 v485 v489
  let ⟨v544, v548, v552⟩ : Σ' (v544 : Vec F S32x128 .f32) (v548 : FVec F S32x128 .f32), FVec F S1x32x128 .bf16 ← k0_part104 i arg3 harg3 arg4 harg4 arg5 harg5 arg6 harg6 arg7 harg7 arg8 harg8 arg9 harg9 arg10 harg10 arg11 harg11 arg12 harg12 arg13 harg13 arg14 harg14 v519 v520
  let ⟨v582, v583⟩ : Σ' (v582 : FVec F S32x128 .f32), Vec F S32x128 .f32 ← k0_part105 i arg3 harg3 arg4 harg4 arg5 harg5 arg6 harg6 arg7 harg7 arg8 harg8 arg9 harg9 arg10 harg10 arg11 harg11 arg12 harg12 arg13 harg13 arg14 harg14 v544 v548 v552
  let ⟨v607, v611, v615⟩ : Σ' (v607 : Vec F S32x128 .f32) (v611 : FVec F S32x128 .f32), FVec F S1x32x128 .bf16 ← k0_part106 i arg3 harg3 arg4 harg4 arg5 harg5 arg6 harg6 arg7 harg7 arg8 harg8 arg9 harg9 arg10 harg10 arg11 harg11 arg12 harg12 arg13 harg13 arg14 harg14 v582 v583
  let ⟨v645, v646⟩ : Σ' (v645 : FVec F S32x128 .f32), Vec F S32x128 .f32 ← k0_part107 i arg3 harg3 arg4 harg4 arg5 harg5 arg6 harg6 arg7 harg7 arg8 harg8 arg9 harg9 arg10 harg10 arg11 harg11 arg12 harg12 arg13 harg13 arg14 harg14 v607 v611 v615
  let ⟨v670, v674, v678⟩ : Σ' (v670 : Vec F S32x128 .f32) (v674 : FVec F S32x128 .f32), FVec F S1x32x128 .bf16 ← k0_part108 i arg3 harg3 arg4 harg4 arg5 harg5 arg6 harg6 arg7 harg7 arg8 harg8 arg9 harg9 arg10 harg10 arg11 harg11 arg12 harg12 arg13 harg13 arg14 harg14 v645 v646
  let ⟨v708, v709⟩ : Σ' (v708 : FVec F S32x128 .f32), Vec F S32x128 .f32 ← k0_part109 i arg3 harg3 arg4 harg4 arg5 harg5 arg6 harg6 arg7 harg7 arg8 harg8 arg9 harg9 arg10 harg10 arg11 harg11 arg12 harg12 arg13 harg13 arg14 harg14 v670 v674 v678
  let ⟨v733, v737, v741⟩ : Σ' (v733 : Vec F S32x128 .f32) (v737 : FVec F S32x128 .f32), FVec F S1x32x128 .bf16 ← k0_part110 i arg3 harg3 arg4 harg4 arg5 harg5 arg6 harg6 arg7 harg7 arg8 harg8 arg9 harg9 arg10 harg10 arg11 harg11 arg12 harg12 arg13 harg13 arg14 harg14 v708 v709
  let ⟨v771, v772⟩ : Σ' (v771 : FVec F S32x128 .f32), Vec F S32x128 .f32 ← k0_part111 i arg3 harg3 arg4 harg4 arg5 harg5 arg6 harg6 arg7 harg7 arg8 harg8 arg9 harg9 arg10 harg10 arg11 harg11 arg12 harg12 arg13 harg13 arg14 harg14 v733 v737 v741
  let ⟨v796, v800, v804⟩ : Σ' (v796 : Vec F S32x128 .f32) (v800 : FVec F S32x128 .f32), FVec F S1x32x128 .bf16 ← k0_part112 i arg3 harg3 arg4 harg4 arg5 harg5 arg6 harg6 arg7 harg7 arg8 harg8 arg9 harg9 arg10 harg10 arg11 harg11 arg12 harg12 arg13 harg13 arg14 harg14 v771 v772
  let ⟨v834, v835⟩ : Σ' (v834 : FVec F S32x128 .f32), Vec F S32x128 .f32 ← k0_part113 i arg3 harg3 arg4 harg4 arg5 harg5 arg6 harg6 arg7 harg7 arg8 harg8 arg9 harg9 arg10 harg10 arg11 harg11 arg12 harg12 arg13 harg13 arg14 harg14 v796 v800 v804
  let ⟨v859, v863, v867⟩ : Σ' (v859 : Vec F S32x128 .f32) (v863 : FVec F S32x128 .f32), FVec F S1x32x128 .bf16 ← k0_part114 i arg3 harg3 arg4 harg4 arg5 harg5 arg6 harg6 arg7 harg7 arg8 harg8 arg9 harg9 arg10 harg10 arg11 harg11 arg12 harg12 arg13 harg13 arg14 harg14 v834 v835
  let ⟨v897, v898⟩ : Σ' (v897 : FVec F S32x128 .f32), Vec F S32x128 .f32 ← k0_part115 i arg3 harg3 arg4 harg4 arg5 harg5 arg6 harg6 arg7 harg7 arg8 harg8 arg9 harg9 arg10 harg10 arg11 harg11 arg12 harg12 arg13 harg13 arg14 harg14 v859 v863 v867
  let ⟨v922, v926, v930⟩ : Σ' (v922 : Vec F S32x128 .f32) (v926 : FVec F S32x128 .f32), FVec F S1x32x128 .bf16 ← k0_part116 i arg3 harg3 arg4 harg4 arg5 harg5 arg6 harg6 arg7 harg7 arg8 harg8 arg9 harg9 arg10 harg10 arg11 harg11 arg12 harg12 arg13 harg13 arg14 harg14 v897 v898
  let ⟨v960, v961⟩ : Σ' (v960 : FVec F S32x128 .f32), Vec F S32x128 .f32 ← k0_part117 i arg3 harg3 arg4 harg4 arg5 harg5 arg6 harg6 arg7 harg7 arg8 harg8 arg9 harg9 arg10 harg10 arg11 harg11 arg12 harg12 arg13 harg13 arg14 harg14 v922 v926 v930
  let ⟨v985, v989, v993⟩ : Σ' (v985 : Vec F S32x128 .f32) (v989 : FVec F S32x128 .f32), FVec F S1x32x128 .bf16 ← k0_part118 i arg3 harg3 arg4 harg4 arg5 harg5 arg6 harg6 arg7 harg7 arg8 harg8 arg9 harg9 arg10 harg10 arg11 harg11 arg12 harg12 arg13 harg13 arg14 harg14 v960 v961
  let ⟨v1022, v1024⟩ : Σ' (v1022 : FVec F S32x128 .f32), FVec F S32x128 .f32 ← k0_part119 i arg3 harg3 arg4 harg4 arg5 harg5 arg6 harg6 arg7 harg7 arg8 harg8 arg9 harg9 arg10 harg10 arg11 harg11 arg12 harg12 arg13 harg13 arg14 harg14 v985 v989 v993
  let ⟨v1054, v1056⟩ : Σ' (v1054 : FVec F S32x128 .f32), FVec F S32x128 .f32 ← k0_part120 i arg3 harg3 arg4 harg4 arg5 harg5 arg6 harg6 arg7 harg7 arg8 harg8 arg9 harg9 arg10 harg10 arg11 harg11 arg12 harg12 arg13 harg13 arg14 harg14 v1022 v1024
  let v1086 : FVec F S32x128 .f32 ← k0_part121 i arg3 harg3 arg4 harg4 arg5 harg5 arg6 harg6 arg7 harg7 arg8 harg8 arg9 harg9 arg10 harg10 arg11 harg11 arg12 harg12 arg13 harg13 arg14 harg14 v1054 v1056
  let v1118 : FVec F S32x128 .f32 ← k0_part122 i arg3 harg3 arg4 harg4 arg5 harg5 arg6 harg6 arg7 harg7 arg8 harg8 arg9 harg9 arg10 harg10 arg11 harg11 arg12 harg12 arg13 harg13 arg14 harg14 v1086
  let v1150 : FVec F S32x128 .f32 ← k0_part123 i arg3 harg3 arg4 harg4 arg5 harg5 arg6 harg6 arg7 harg7 arg8 harg8 arg9 harg9 arg10 harg10 arg11 harg11 arg12 harg12 arg13 harg13 arg14 harg14 v1118
  k0_part124 i arg3 harg3 arg4 harg4 arg5 harg5 arg6 harg6 arg7 harg7 arg8 harg8 arg9 harg9 arg10 harg10 arg11 harg11 arg12 harg12 arg13 harg13 arg14 harg14 v1150
  k0_part125 i arg3 harg3 arg4 harg4 arg5 harg5 arg6 harg6 arg7 harg7 arg8 harg8 arg9 harg9 arg10 harg10 arg11 harg11 arg12 harg12 arg13 harg13 arg14 harg14
  let v1255 : Vec F S1x32x256 .f32 ← k0_part126 i arg3 harg3 arg4 harg4 arg5 harg5 arg6 harg6 arg7 harg7 arg8 harg8 arg9 harg9 arg10 harg10 arg11 harg11 arg12 harg12 arg13 harg13 arg14 harg14
  let v1288 : FVec F S32x256 .f32 ← k0_part127 i arg3 harg3 arg4 harg4 arg5 harg5 arg6 harg6 arg7 harg7 arg8 harg8 arg9 harg9 arg10 harg10 arg11 harg11 arg12 harg12 arg13 harg13 arg14 harg14 v1255
  let v1322 : FVec F S32x1 .f32 ← k0_part128 i arg3 harg3 arg4 harg4 arg5 harg5 arg6 harg6 arg7 harg7 arg8 harg8 arg9 harg9 arg10 harg10 arg11 harg11 arg12 harg12 arg13 harg13 arg14 harg14 v1288
  let v1356 : FVec F S32x128 .f32 ← k0_part129 i arg3 harg3 arg4 harg4 arg5 harg5 arg6 harg6 arg7 harg7 arg8 harg8 arg9 harg9 arg10 harg10 arg11 harg11 arg12 harg12 arg13 harg13 arg14 harg14 v1322
  let v1388 : FVec F S32x128 .f32 ← k0_part130 i arg3 harg3 arg4 harg4 arg5 harg5 arg6 harg6 arg7 harg7 arg8 harg8 arg9 harg9 arg10 harg10 arg11 harg11 arg12 harg12 arg13 harg13 arg14 harg14 v1356
  let ⟨v1421, v1422⟩ : Σ' (v1421 : Vec F S32x128 .f32), FVec F S32x128 .f32 ← k0_part131 i arg3 harg3 arg4 harg4 arg5 harg5 arg6 harg6 arg7 harg7 arg8 harg8 arg9 harg9 arg10 harg10 arg11 harg11 arg12 harg12 arg13 harg13 arg14 harg14 v1388
  let ⟨v1454, v1456⟩ : Σ' (v1454 : FVec F S32x128 .f32), FVec F S32x128 .f32 ← k0_part132 i arg3 harg3 arg4 harg4 arg5 harg5 arg6 harg6 arg7 harg7 arg8 harg8 arg9 harg9 arg10 harg10 arg11 harg11 arg12 harg12 arg13 harg13 arg14 harg14 v1421 v1422
  let ⟨v1486, v1488⟩ : Σ' (v1486 : FVec F S32x128 .f32), FVec F S32x128 .f32 ← k0_part133 i arg3 harg3 arg4 harg4 arg5 harg5 arg6 harg6 arg7 harg7 arg8 harg8 arg9 harg9 arg10 harg10 arg11 harg11 arg12 harg12 arg13 harg13 arg14 harg14 v1454 v1456
  let ⟨v1518, v1520, v1521⟩ : Σ' (v1518 : FVec F S32x128 .f32) (v1520 : FVec F S32x128 .f32), Vec F S1x32x128 .f32 ← k0_part134 i arg3 harg3 arg4 harg4 arg5 harg5 arg6 harg6 arg7 harg7 arg8 harg8 arg9 harg9 arg10 harg10 arg11 harg11 arg12 harg12 arg13 harg13 arg14 harg14 v1486 v1488
  k0_part135 i arg3 harg3 arg4 harg4 arg5 harg5 arg6 harg6 arg7 harg7 arg8 harg8 arg9 harg9 arg10 harg10 arg11 harg11 arg12 harg12 arg13 harg13 arg14 harg14 v1518 v1520 v1521
  let ⟨v1579, v1583, v1584⟩ : Σ' (v1579 : Vec F S32x128 .f32) (v1583 : FVec F S32x128 .f32), FVec F S32x128 .bf16 ← k0_part136 i arg3 harg3 arg4 harg4 arg5 harg5 arg6 harg6 arg7 harg7 arg8 harg8 arg9 harg9 arg10 harg10 arg11 harg11 arg12 harg12 arg13 harg13 arg14 harg14
  let ⟨v1605, v1609⟩ : Σ' (v1605 : Vec F S32x128 .f32), FVec F S32x128 .f32 ← k0_part137 i arg3 harg3 arg4 harg4 arg5 harg5 arg6 harg6 arg7 harg7 arg8 harg8 arg9 harg9 arg10 harg10 arg11 harg11 arg12 harg12 arg13 harg13 arg14 harg14 v1579 v1583 v1584
  let ⟨v1635, v1643, v1644⟩ : Σ' (v1635 : FVec F S32x128 .f32) (v1643 : FVec F S32x128 .f32), FVec F S32x128 .bf16 ← k0_part138 i arg3 harg3 arg4 harg4 arg5 harg5 arg6 harg6 arg7 harg7 arg8 harg8 arg9 harg9 arg10 harg10 arg11 harg11 arg12 harg12 arg13 harg13 arg14 harg14 v1605 v1609
  let ⟨v1674, v1676⟩ : Σ' (v1674 : FVec F S32x128 .f32), FVec F S32x128 .f32 ← k0_part139 i arg3 harg3 arg4 harg4 arg5 harg5 arg6 harg6 arg7 harg7 arg8 harg8 arg9 harg9 arg10 harg10 arg11 harg11 arg12 harg12 arg13 harg13 arg14 harg14 v1635 v1643 v1644
  k0_part140 i arg3 harg3 arg4 harg4 arg5 harg5 arg6 harg6 arg7 harg7 arg8 harg8 arg9 harg9 arg10 harg10 arg11 harg11 arg12 harg12 arg13 harg13 arg14 harg14 v1674 v1676
  let ⟨v1735, v1739, v1740⟩ : Σ' (v1735 : Vec F S32x128 .f32) (v1739 : FVec F S32x128 .f32), FVec F S32x128 .bf16 ← k0_part141 i arg3 harg3 arg4 harg4 arg5 harg5 arg6 harg6 arg7 harg7 arg8 harg8 arg9 harg9 arg10 harg10 arg11 harg11 arg12 harg12 arg13 harg13 arg14 harg14
  let ⟨v1761, v1765⟩ : Σ' (v1761 : Vec F S32x128 .f32), FVec F S32x128 .f32 ← k0_part142 i arg3 harg3 arg4 harg4 arg5 harg5 arg6 harg6 arg7 harg7 arg8 harg8 arg9 harg9 arg10 harg10 arg11 harg11 arg12 harg12 arg13 harg13 arg14 harg14 v1735 v1739 v1740
  let ⟨v1791, v1799, v1800⟩ : Σ' (v1791 : FVec F S32x128 .f32) (v1799 : FVec F S32x128 .f32), FVec F S32x128 .bf16 ← k0_part143 i arg3 harg3 arg4 harg4 arg5 harg5 arg6 harg6 arg7 harg7 arg8 harg8 arg9 harg9 arg10 harg10 arg11 harg11 arg12 harg12 arg13 harg13 arg14 harg14 v1761 v1765
  let ⟨v1830, v1832⟩ : Σ' (v1830 : FVec F S32x128 .f32), FVec F S32x128 .f32 ← k0_part144 i arg3 harg3 arg4 harg4 arg5 harg5 arg6 harg6 arg7 harg7 arg8 harg8 arg9 harg9 arg10 harg10 arg11 harg11 arg12 harg12 arg13 harg13 arg14 harg14 v1791 v1799 v1800
  k0_part145 i arg3 harg3 arg4 harg4 arg5 harg5 arg6 harg6 arg7 harg7 arg8 harg8 arg9 harg9 arg10 harg10 arg11 harg11 arg12 harg12 arg13 harg13 arg14 harg14 v1830 v1832
  let ⟨v1891, v1895, v1896⟩ : Σ' (v1891 : Vec F S32x128 .f32) (v1895 : FVec F S32x128 .f32), FVec F S32x128 .bf16 ← k0_part146 i arg3 harg3 arg4 harg4 arg5 harg5 arg6 harg6 arg7 harg7 arg8 harg8 arg9 harg9 arg10 harg10 arg11 harg11 arg12 harg12 arg13 harg13 arg14 harg14
  let ⟨v1917, v1921⟩ : Σ' (v1917 : Vec F S32x128 .f32), FVec F S32x128 .f32 ← k0_part147 i arg3 harg3 arg4 harg4 arg5 harg5 arg6 harg6 arg7 harg7 arg8 harg8 arg9 harg9 arg10 harg10 arg11 harg11 arg12 harg12 arg13 harg13 arg14 harg14 v1891 v1895 v1896
  let ⟨v1947, v1955, v1956⟩ : Σ' (v1947 : FVec F S32x128 .f32) (v1955 : FVec F S32x128 .f32), FVec F S32x128 .bf16 ← k0_part148 i arg3 harg3 arg4 harg4 arg5 harg5 arg6 harg6 arg7 harg7 arg8 harg8 arg9 harg9 arg10 harg10 arg11 harg11 arg12 harg12 arg13 harg13 arg14 harg14 v1917 v1921
  let ⟨v1986, v1988⟩ : Σ' (v1986 : FVec F S32x128 .f32), FVec F S32x128 .f32 ← k0_part149 i arg3 harg3 arg4 harg4 arg5 harg5 arg6 harg6 arg7 harg7 arg8 harg8 arg9 harg9 arg10 harg10 arg11 harg11 arg12 harg12 arg13 harg13 arg14 harg14 v1947 v1955 v1956
  k0_part150 i arg3 harg3 arg4 harg4 arg5 harg5 arg6 harg6 arg7 harg7 arg8 harg8 arg9 harg9 arg10 harg10 arg11 harg11 arg12 harg12 arg13 harg13 arg14 harg14 v1986 v1988
  let ⟨v2047, v2051, v2052⟩ : Σ' (v2047 : Vec F S32x128 .f32) (v2051 : FVec F S32x128 .f32), FVec F S32x128 .bf16 ← k0_part151 i arg3 harg3 arg4 harg4 arg5 harg5 arg6 harg6 arg7 harg7 arg8 harg8 arg9 harg9 arg10 harg10 arg11 harg11 arg12 harg12 arg13 harg13 arg14 harg14
  let ⟨v2073, v2077⟩ : Σ' (v2073 : Vec F S32x128 .f32), FVec F S32x128 .f32 ← k0_part152 i arg3 harg3 arg4 harg4 arg5 harg5 arg6 harg6 arg7 harg7 arg8 harg8 arg9 harg9 arg10 harg10 arg11 harg11 arg12 harg12 arg13 harg13 arg14 harg14 v2047 v2051 v2052
  let ⟨v2103, v2111, v2112⟩ : Σ' (v2103 : FVec F S32x128 .f32) (v2111 : FVec F S32x128 .f32), FVec F S32x128 .bf16 ← k0_part153 i arg3 harg3 arg4 harg4 arg5 harg5 arg6 harg6 arg7 harg7 arg8 harg8 arg9 harg9 arg10 harg10 arg11 harg11 arg12 harg12 arg13 harg13 arg14 harg14 v2073 v2077
  let ⟨v2142, v2144⟩ : Σ' (v2142 : FVec F S32x128 .f32), FVec F S32x128 .f32 ← k0_part154 i arg3 harg3 arg4 harg4 arg5 harg5 arg6 harg6 arg7 harg7 arg8 harg8 arg9 harg9 arg10 harg10 arg11 harg11 arg12 harg12 arg13 harg13 arg14 harg14 v2103 v2111 v2112
  k0_part155 i arg3 harg3 arg4 harg4 arg5 harg5 arg6 harg6 arg7 harg7 arg8 harg8 arg9 harg9 arg10 harg10 arg11 harg11 arg12 harg12 arg13 harg13 arg14 harg14 v2142 v2144
  let ⟨v2203, v2207, v2208⟩ : Σ' (v2203 : Vec F S32x128 .f32) (v2207 : FVec F S32x128 .f32), FVec F S32x128 .bf16 ← k0_part156 i arg3 harg3 arg4 harg4 arg5 harg5 arg6 harg6 arg7 harg7 arg8 harg8 arg9 harg9 arg10 harg10 arg11 harg11 arg12 harg12 arg13 harg13 arg14 harg14
  let ⟨v2229, v2233⟩ : Σ' (v2229 : Vec F S32x128 .f32), FVec F S32x128 .f32 ← k0_part157 i arg3 harg3 arg4 harg4 arg5 harg5 arg6 harg6 arg7 harg7 arg8 harg8 arg9 harg9 arg10 harg10 arg11 harg11 arg12 harg12 arg13 harg13 arg14 harg14 v2203 v2207 v2208
  let ⟨v2259, v2267, v2268⟩ : Σ' (v2259 : FVec F S32x128 .f32) (v2267 : FVec F S32x128 .f32), FVec F S32x128 .bf16 ← k0_part158 i arg3 harg3 arg4 harg4 arg5 harg5 arg6 harg6 arg7 harg7 arg8 harg8 arg9 harg9 arg10 harg10 arg11 harg11 arg12 harg12 arg13 harg13 arg14 harg14 v2229 v2233
  let ⟨v2298, v2300⟩ : Σ' (v2298 : FVec F S32x128 .f32), FVec F S32x128 .f32 ← k0_part159 i arg3 harg3 arg4 harg4 arg5 harg5 arg6 harg6 arg7 harg7 arg8 harg8 arg9 harg9 arg10 harg10 arg11 harg11 arg12 harg12 arg13 harg13 arg14 harg14 v2259 v2267 v2268
  k0_part160 i arg3 harg3 arg4 harg4 arg5 harg5 arg6 harg6 arg7 harg7 arg8 harg8 arg9 harg9 arg10 harg10 arg11 harg11 arg12 harg12 arg13 harg13 arg14 harg14 v2298 v2300
  let ⟨v2362, v2364⟩ : Σ' (v2362 : FVec F S256x128 .bf16), FVec F S1024x256 .bf16 ← k0_part161 i arg3 harg3 arg4 harg4 arg5 harg5 arg6 harg6 arg7 harg7 arg8 harg8 arg9 harg9 arg10 harg10 arg11 harg11 arg12 harg12 arg13 harg13 arg14 harg14
  let v2366 : Vec F S1024x128 .f32 ← Prog.lift (.load arg14 (Rect.unit (s := S1024x128) ![0, 0] S1024x128.size inb_S1024x128_S1024x128_0_0).toLoadRect (View.loadsAt_vmem h_S1024x128))
  Prog.lift (.store arg14 (Rect.unit (s := S1024x128) ![0, 0] S1024x128.size inb_S1024x128_S1024x128_0_0) (k0_pay1081 v2362 v2364) Finset.univ (View.stores_vmem_bits_univ h_S1024x128 rfl) (.inl rfl))

/-- The printed body after the loop. -/
def afterLoop : P F PUnit := do
  let v2372 : Vec F S256x128 .bf16 ← Prog.lift (.load arg4 (Rect.unit (s := S8192x128) ![7936, 0] S256x128.size inb_S8192x128_S256x128_7936_0).toLoadRect (View.loadsAt_vmem h_S256x128))
  let v2374 : Vec F S1024x128 .bf16 ← Prog.lift (.load arg8 (Rect.unit (s := S1024x128) ![0, 0] S1024x128.size inb_S1024x128_S1024x128_0_0).toLoadRect (View.loadsAt_vmem h_S1024x128))
  let v2376 : Vec F S1x1024x256 .f32 ← Prog.lift (.load arg9 (Rect.unit (s := S2x1024x256) ![1, 0, 0] S1x1024x256.size inb_S2x1024x256_S1x1024x256_1_0_0).toLoadRect (View.loadsAt_vmem h_S1x1024x256))
  Prog.lift (.store arg9 (Rect.unit (s := S2x1024x256) ![1, 0, 0] S1x1024x256.size inb_S2x1024x256_S1x1024x256_1_0_0) (k0_pay1083 v2372 v2374) Finset.univ (View.stores_vmem_bits_univ h_S1x1024x256 rfl) (.inl rfl))
  let v2379 : Vec F S1x32x256 .f32 ← Prog.lift (.load arg9 (Rect.unit (s := S2x1024x256) ![0, 0, 0] S1x32x256.size inb_S2x1024x256_S1x32x256_0_0_0).toLoadRect (View.loadsAt_vmem h_S1x32x256))
  let v2385 : Vec F S32x128 .f32 ← Prog.lift (.load arg12 (Rect.unit (s := S1024x128) ![0, 0] S32x128.size inb_S1024x128_S32x128_0_0).toLoadRect (View.loadsAt_vmem h_S32x128))
  let v2389 : Vec F S1x32x128 .f32 ← Prog.lift (.load arg11 (Rect.unit (s := S2x1024x128) ![0, 0, 0] S1x32x128.size inb_S2x1024x128_S1x32x128_0_0_0).toLoadRect (View.loadsAt_vmem h_S1x32x128))
  Prog.lift (.store arg11 (Rect.unit (s := S2x1024x128) ![0, 0, 0] S1x32x128.size inb_S2x1024x128_S1x32x128_0_0_0) (k0_pay1085 v2379 v2385) Finset.univ (View.stores_vmem_bits_univ h_S1x32x128 rfl) (.inl rfl))
  let v2392 : Vec F S32x128 .f32 ← Prog.lift (.load arg12 (Rect.unit (s := S1024x128) ![0, 0] S32x128.size inb_S1024x128_S32x128_0_0).toLoadRect (View.loadsAt_vmem h_S32x128))
  let v2394 : FVec F S32x128 .f32 := k0_pay1086 v2379 v2385
  k0_part163 i arg3 harg3 arg4 harg4 arg5 harg5 arg6 harg6 arg7 harg7 arg8 harg8 arg9 harg9 arg10 harg10 arg11 harg11 arg12 harg12 arg13 harg13 arg14 harg14 v2394
  k0_part164 i arg3 harg3 arg4 harg4 arg5 harg5 arg6 harg6 arg7 harg7 arg8 harg8 arg9 harg9 arg10 harg10 arg11 harg11 arg12 harg12 arg13 harg13 arg14 harg14
  let v2492 : FVec F S32x256 .f32 ← k0_part165 i arg3 harg3 arg4 harg4 arg5 harg5 arg6 harg6 arg7 harg7 arg8 harg8 arg9 harg9 arg10 harg10 arg11 harg11 arg12 harg12 arg13 harg13 arg14 harg14
  let v2525 : FVec F S32 .f32 ← k0_part166 i arg3 harg3 arg4 harg4 arg5 harg5 arg6 harg6 arg7 harg7 arg8 harg8 arg9 harg9 arg10 harg10 arg11 harg11 arg12 harg12 arg13 harg13 arg14 harg14 v2492
  let v2559 : FVec F S32x1 .f32 ← k0_part167 i arg3 harg3 arg4 harg4 arg5 harg5 arg6 harg6 arg7 harg7 arg8 harg8 arg9 harg9 arg10 harg10 arg11 harg11 arg12 harg12 arg13 harg13 arg14 harg14 v2525
  let v2592 : FVec F S32x128 .f32 ← k0_part168 i arg3 harg3 arg4 harg4 arg5 harg5 arg6 harg6 arg7 harg7 arg8 harg8 arg9 harg9 arg10 harg10 arg11 harg11 arg12 harg12 arg13 harg13 arg14 harg14 v2559
  let ⟨v2624, v2625⟩ : Σ' (v2624 : FVec F S32x128 .f32), Vec F S32x128 .f32 ← k0_part169 i arg3 harg3 arg4 harg4 arg5 harg5 arg6 harg6 arg7 harg7 arg8 harg8 arg9 harg9 arg10 harg10 arg11 harg11 arg12 harg12 arg13 harg13 arg14 harg14 v2592
  let ⟨v2658, v2659⟩ : Σ' (v2658 : FVec F S32x128 .f32), FVec F S32x128 .f32 ← k0_part170 i arg3 harg3 arg4 harg4 arg5 harg5 arg6 harg6 arg7 harg7 arg8 harg8 arg9 harg9 arg10 harg10 arg11 harg11 arg12 harg12 arg13 harg13 arg14 harg14 v2624 v2625
  let ⟨v2690, v2692⟩ : Σ' (v2690 : FVec F S32x128 .f32), FVec F S32x128 .f32 ← k0_part171 i arg3 harg3 arg4 harg4 arg5 harg5 arg6 harg6 arg7 harg7 arg8 harg8 arg9 harg9 arg10 harg10 arg11 harg11 arg12 harg12 arg13 harg13 arg14 harg14 v2658 v2659
  let ⟨v2722, v2724⟩ : Σ' (v2722 : FVec F S32x128 .f32), FVec F S32x128 .f32 ← k0_part172 i arg3 harg3 arg4 harg4 arg5 harg5 arg6 harg6 arg7 harg7 arg8 harg8 arg9 harg9 arg10 harg10 arg11 harg11 arg12 harg12 arg13 harg13 arg14 harg14 v2690 v2692
  let ⟨v2754, v2756⟩ : Σ' (v2754 : FVec F S32x128 .f32), FVec F S32x128 .f32 ← k0_part173 i arg3 harg3 arg4 harg4 arg5 harg5 arg6 harg6 arg7 harg7 arg8 harg8 arg9 harg9 arg10 harg10 arg11 harg11 arg12 harg12 arg13 harg13 arg14 harg14 v2722 v2724
  let v2786 : FVec F S32x128 .f32 ← k0_part174 i arg3 harg3 arg4 harg4 arg5 harg5 arg6 harg6 arg7 harg7 arg8 harg8 arg9 harg9 arg10 harg10 arg11 harg11 arg12 harg12 arg13 harg13 arg14 harg14 v2754 v2756
  let v2818 : FVec F S32x128 .f32 ← k0_part175 i arg3 harg3 arg4 harg4 arg5 harg5 arg6 harg6 arg7 harg7 arg8 harg8 arg9 harg9 arg10 harg10 arg11 harg11 arg12 harg12 arg13 harg13 arg14 harg14 v2786
  let v2850 : FVec F S32x128 .f32 ← k0_part176 i arg3 harg3 arg4 harg4 arg5 harg5 arg6 harg6 arg7 harg7 arg8 harg8 arg9 harg9 arg10 harg10 arg11 harg11 arg12 harg12 arg13 harg13 arg14 harg14 v2818
  k0_part177 i arg3 harg3 arg4 harg4 arg5 harg5 arg6 harg6 arg7 harg7 arg8 harg8 arg9 harg9 arg10 harg10 arg11 harg11 arg12 harg12 arg13 harg13 arg14 harg14 v2850
  let ⟨v2917, v2921⟩ : Σ' (v2917 : Vec F S32x128 .f32), FVec F S32x128 .f32 ← k0_part178 i arg3 harg3 arg4 harg4 arg5 harg5 arg6 harg6 arg7 harg7 arg8 harg8 arg9 harg9 arg10 harg10 arg11 harg11 arg12 harg12 arg13 harg13 arg14 harg14
  let ⟨v2943, v2947⟩ : Σ' (v2943 : Vec F S32x128 .f32), FVec F S32x128 .f32 ← k0_part179 i arg3 harg3 arg4 harg4 arg5 harg5 arg6 harg6 arg7 harg7 arg8 harg8 arg9 harg9 arg10 harg10 arg11 harg11 arg12 harg12 arg13 harg13 arg14 harg14 v2917 v2921
  let ⟨v2973, v2981, v2982, v2983⟩ : Σ' (v2973 : FVec F S32x128 .f32) (v2981 : FVec F S32x128 .f32) (v2982 : FVec F S32x128 .bf16), Vec F S1x32x128 .bf16 ← k0_part180 i arg3 harg3 arg4 harg4 arg5 harg5 arg6 harg6 arg7 harg7 arg8 harg8 arg9 harg9 arg10 harg10 arg11 harg11 arg12 harg12 arg13 harg13 arg14 harg14 v2943 v2947
  let ⟨v3012, v3014⟩ : Σ' (v3012 : FVec F S32x128 .f32), FVec F S32x128 .f32 ← k0_part181 i arg3 harg3 arg4 harg4 arg5 harg5 arg6 harg6 arg7 harg7 arg8 harg8 arg9 harg9 arg10 harg10 arg11 harg11 arg12 harg12 arg13 harg13 arg14 harg14 v2973 v2981 v2982 v2983
  k0_part182 i arg3 harg3 arg4 harg4 arg5 harg5 arg6 harg6 arg7 harg7 arg8 harg8 arg9 harg9 arg10 harg10 arg11 harg11 arg12 harg12 arg13 harg13 arg14 harg14 v3012 v3014
  let ⟨v3073, v3077⟩ : Σ' (v3073 : Vec F S32x128 .f32), FVec F S32x128 .f32 ← k0_part183 i arg3 harg3 arg4 harg4 arg5 harg5 arg6 harg6 arg7 harg7 arg8 harg8 arg9 harg9 arg10 harg10 arg11 harg11 arg12 harg12 arg13 harg13 arg14 harg14
  let ⟨v3099, v3103⟩ : Σ' (v3099 : Vec F S32x128 .f32), FVec F S32x128 .f32 ← k0_part184 i arg3 harg3 arg4 harg4 arg5 harg5 arg6 harg6 arg7 harg7 arg8 harg8 arg9 harg9 arg10 harg10 arg11 harg11 arg12 harg12 arg13 harg13 arg14 harg14 v3073 v3077
  let ⟨v3129, v3137, v3138, v3139⟩ : Σ' (v3129 : FVec F S32x128 .f32) (v3137 : FVec F S32x128 .f32) (v3138 : FVec F S32x128 .bf16), Vec F S1x32x128 .bf16 ← k0_part185 i arg3 harg3 arg4 harg4 arg5 harg5 arg6 harg6 arg7 harg7 arg8 harg8 arg9 harg9 arg10 harg10 arg11 harg11 arg12 harg12 arg13 harg13 arg14 harg14 v3099 v3103
  let ⟨v3168, v3170⟩ : Σ' (v3168 : FVec F S32x128 .f32), FVec F S32x128 .f32 ← k0_part186 i arg3 harg3 arg4 harg4 arg5 harg5 arg6 harg6 arg7 harg7 arg8 harg8 arg9 harg9 arg10 harg10 arg11 harg11 arg12 harg12 arg13 harg13 arg14 harg14 v3129 v3137 v3138 v3139
  k0_part187 i arg3 harg3 arg4 harg4 arg5 harg5 arg6 harg6 arg7 harg7 arg8 harg8 arg9 harg9 arg10 harg10 arg11 harg11 arg12 harg12 arg13 harg13 arg14 harg14 v3168 v3170
  let ⟨v3229, v3233⟩ : Σ' (v3229 : Vec F S32x128 .f32), FVec F S32x128 .f32 ← k0_part188 i arg3 harg3 arg4 harg4 arg5 harg5 arg6 harg6 arg7 harg7 arg8 harg8 arg9 harg9 arg10 harg10 arg11 harg11 arg12 harg12 arg13 harg13 arg14 harg14
  let ⟨v3255, v3259⟩ : Σ' (v3255 : Vec F S32x128 .f32), FVec F S32x128 .f32 ← k0_part189 i arg3 harg3 arg4 harg4 arg5 harg5 arg6 harg6 arg7 harg7 arg8 harg8 arg9 harg9 arg10 harg10 arg11 harg11 arg12 harg12 arg13 harg13 arg14 harg14 v3229 v3233
  let ⟨v3285, v3293, v3294, v3295⟩ : Σ' (v3285 : FVec F S32x128 .f32) (v3293 : FVec F S32x128 .f32) (v3294 : FVec F S32x128 .bf16), Vec F S1x32x128 .bf16 ← k0_part190 i arg3 harg3 arg4 harg4 arg5 harg5 arg6 harg6 arg7 harg7 arg8 harg8 arg9 harg9 arg10 harg10 arg11 harg11 arg12 harg12 arg13 harg13 arg14 harg14 v3255 v3259
  let ⟨v3324, v3326⟩ : Σ' (v3324 : FVec F S32x128 .f32), FVec F S32x128 .f32 ← k0_part191 i arg3 harg3 arg4 harg4 arg5 harg5 arg6 harg6 arg7 harg7 arg8 harg8 arg9 harg9 arg10 harg10 arg11 harg11 arg12 harg12 arg13 harg13 arg14 harg14 v3285 v3293 v3294 v3295
  k0_part192 i arg3 harg3 arg4 harg4 arg5 harg5 arg6 harg6 arg7 harg7 arg8 harg8 arg9 harg9 arg10 harg10 arg11 harg11 arg12 harg12 arg13 harg13 arg14 harg14 v3324 v3326
  let ⟨v3385, v3389⟩ : Σ' (v3385 : Vec F S32x128 .f32), FVec F S32x128 .f32 ← k0_part193 i arg3 harg3 arg4 harg4 arg5 harg5 arg6 harg6 arg7 harg7 arg8 harg8 arg9 harg9 arg10 harg10 arg11 harg11 arg12 harg12 arg13 harg13 arg14 harg14
  let ⟨v3411, v3415⟩ : Σ' (v3411 : Vec F S32x128 .f32), FVec F S32x128 .f32 ← k0_part194 i arg3 harg3 arg4 harg4 arg5 harg5 arg6 harg6 arg7 harg7 arg8 harg8 arg9 harg9 arg10 harg10 arg11 harg11 arg12 harg12 arg13 harg13 arg14 harg14 v3385 v3389
  let ⟨v3441, v3449, v3450, v3451⟩ : Σ' (v3441 : FVec F S32x128 .f32) (v3449 : FVec F S32x128 .f32) (v3450 : FVec F S32x128 .bf16), Vec F S1x32x128 .bf16 ← k0_part195 i arg3 harg3 arg4 harg4 arg5 harg5 arg6 harg6 arg7 harg7 arg8 harg8 arg9 harg9 arg10 harg10 arg11 harg11 arg12 harg12 arg13 harg13 arg14 harg14 v3411 v3415
  let ⟨v3480, v3482⟩ : Σ' (v3480 : FVec F S32x128 .f32), FVec F S32x128 .f32 ← k0_part196 i arg3 harg3 arg4 harg4 arg5 harg5 arg6 harg6 arg7 harg7 arg8 harg8 arg9 harg9 arg10 harg10 arg11 harg11 arg12 harg12 arg13 harg13 arg14 harg14 v3441 v3449 v3450 v3451
  k0_part197 i arg3 harg3 arg4 harg4 arg5 harg5 arg6 harg6 arg7 harg7 arg8 harg8 arg9 harg9 arg10 harg10 arg11 harg11 arg12 harg12 arg13 harg13 arg14 harg14 v3480 v3482
  let ⟨v3541, v3545⟩ : Σ' (v3541 : Vec F S32x128 .f32), FVec F S32x128 .f32 ← k0_part198 i arg3 harg3 arg4 harg4 arg5 harg5 arg6 harg6 arg7 harg7 arg8 harg8 arg9 harg9 arg10 harg10 arg11 harg11 arg12 harg12 arg13 harg13 arg14 harg14
  let ⟨v3567, v3571⟩ : Σ' (v3567 : Vec F S32x128 .f32), FVec F S32x128 .f32 ← k0_part199 i arg3 harg3 arg4 harg4 arg5 harg5 arg6 harg6 arg7 harg7 arg8 harg8 arg9 harg9 arg10 harg10 arg11 harg11 arg12 harg12 arg13 harg13 arg14 harg14 v3541 v3545
  let ⟨v3597, v3605, v3606, v3607⟩ : Σ' (v3597 : FVec F S32x128 .f32) (v3605 : FVec F S32x128 .f32) (v3606 : FVec F S32x128 .bf16), Vec F S1x32x128 .bf16 ← k0_part200 i arg3 harg3 arg4 harg4 arg5 harg5 arg6 harg6 arg7 harg7 arg8 harg8 arg9 harg9 arg10 harg10 arg11 harg11 arg12 harg12 arg13 harg13 arg14 harg14 v3567 v3571
  let ⟨v3636, v3638⟩ : Σ' (v3636 : FVec F S32x128 .f32), FVec F S32x128 .f32 ← k0_part201 i arg3 harg3 arg4 harg4 arg5 harg5 arg6 harg6 arg7 harg7 arg8 harg8 arg9 harg9 arg10 harg10 arg11 harg11 arg12 harg12 arg13 harg13 arg14 harg14 v3597 v3605 v3606 v3607
  k0_part202 i arg3 harg3 arg4 harg4 arg5 harg5 arg6 harg6 arg7 harg7 arg8 harg8 arg9 harg9 arg10 harg10 arg11 harg11 arg12 harg12 arg13 harg13 arg14 harg14 v3636 v3638
  let ⟨v3697, v3701⟩ : Σ' (v3697 : Vec F S32x128 .f32), FVec F S32x128 .f32 ← k0_part203 i arg3 harg3 arg4 harg4 arg5 harg5 arg6 harg6 arg7 harg7 arg8 harg8 arg9 harg9 arg10 harg10 arg11 harg11 arg12 harg12 arg13 harg13 arg14 harg14
  let ⟨v3729, v3731⟩ : Σ' (v3729 : FVec F S1024x128 .f32), FVec F S1024x128 .f32 ← k0_part204 i arg3 harg3 arg4 harg4 arg5 harg5 arg6 harg6 arg7 harg7 arg8 harg8 arg9 harg9 arg10 harg10 arg11 harg11 arg12 harg12 arg13 harg13 arg14 harg14 v3697 v3701
  let ⟨v3761, v3766⟩ : Σ' (v3761 : FVec F S32x128 .f32), FVec F S1x32x128 .f32 ← k0_part205 i arg3 harg3 arg4 harg4 arg5 harg5 arg6 harg6 arg7 harg7 arg8 harg8 arg9 harg9 arg10 harg10 arg11 harg11 arg12 harg12 arg13 harg13 arg14 harg14 v3729 v3731
  let v3793 : FVec F S32x128 .f32 ← k0_part206 i arg3 harg3 arg4 harg4 arg5 harg5 arg6 harg6 arg7 harg7 arg8 harg8 arg9 harg9 arg10 harg10 arg11 harg11 arg12 harg12 arg13 harg13 arg14 harg14 v3761 v3766
  let ⟨v3825, v3831⟩ : Σ' (v3825 : FVec F S32x128 .f32), Vec F S32x128 .f32 ← k0_part207 i arg3 harg3 arg4 harg4 arg5 harg5 arg6 harg6 arg7 harg7 arg8 harg8 arg9 harg9 arg10 harg10 arg11 harg11 arg12 harg12 arg13 harg13 arg14 harg14 v3793
  let v5112 : Vec F S1024x128 .f32 ← k0_part250 i arg3 harg3 arg4 harg4 arg5 harg5 arg6 harg6 arg7 harg7 arg8 harg8 arg9 harg9 arg10 harg10 arg11 harg11 arg12 harg12 arg13 harg13 arg14 harg14 v3825 v3831
  let v5113 : Vec F S1024x128 .f32 ← Prog.lift (.load arg13 (Rect.unit (s := S1024x128) ![0, 0] S1024x128.size inb_S1024x128_S1024x128_0_0).toLoadRect (View.loadsAt_vmem h_S1024x128))
  let v5125 : Vec F S256x512 .f32 ← Prog.lift (.load arg6 (Rect.unit (s := S256x512) ![0, 0] S256x512.size inb_S256x512_S256x512_0_0).toLoadRect (View.loadsAt_vmem h_S256x512))
  let v5130 : Vec F S256x512 .bf16 ← Prog.lift (.load arg7 (Rect.unit (s := S256x512) ![0, 0] S256x512.size inb_S256x512_S256x512_0_0).toLoadRect (View.loadsAt_vmem h_S256x512))
  Prog.lift (.store arg7 (Rect.unit (s := S256x512) ![0, 0] S256x512.size inb_S256x512_S256x512_0_0) (k0_pay1 v5112 v5113 v5125) Finset.univ (View.stores_vmem h_S256x512 (harg7.storeExact_slice rfl _ packedbf16_S256x512_S256x512_0_0) (fun _ => rfl)) (.inl rfl))
  pure ⟨⟩

set_option maxRecDepth 100000 in
set_option maxHeartbeats 1000000 in
/-- Up to the loop, the printed body is the stacked queries, two blocks' scores, their soft maxima and the first values. -/
theorem before_same : before (F := F) i arg3 harg3 arg4 harg4 arg5 harg5 arg6 harg6 arg7 harg7 arg8 harg8 arg9 harg9 arg10 harg10 arg11 harg11 arg12 harg12 arg13 harg13 arg14 harg14 = (do
      runFrom (N := 4) (stackStep (F := F) arg3 arg8 harg8) 4 0 (by decide)
      scoresStep (F := F) arg4 arg8 arg9 ![0, 0] inb_S8192x128_S256x128_0_0 0 (by decide)
      scoresStep (F := F) arg4 arg8 arg9 ![256, 0] inb_S8192x128_S256x128_256_0 1 (by decide)
      softmaxFirst (F := F) arg9 arg10 harg10 arg12 arg13 0 (by decide)
      scoresStep (F := F) arg4 arg8 arg9 ![512, 0] inb_S8192x128_S256x128_512_0 0 (by decide)
      softmaxNext (F := F) arg9 arg10 harg10 arg11 arg12 arg13 1 (by decide)
      valuesFirst (F := F) arg5 arg10 arg14 ![0, 0] inb_S8192x128_S256x128_0_0 0 (by decide)) := by
  unfold before
  exact rfl

set_option maxRecDepth 100000 in
set_option maxHeartbeats 1000000 in
/-- After the loop, the printed body finishes the last two blocks and divides by the sums. -/
theorem after_same : afterLoop (F := F) i arg3 harg3 arg4 harg4 arg5 harg5 arg6 harg6 arg7 harg7 arg8 harg8 arg9 harg9 arg10 harg10 arg11 harg11 arg12 harg12 arg13 harg13 arg14 harg14 = (do
      scoresStep (F := F) arg4 arg8 arg9 ![7936, 0] inb_S8192x128_S256x128_7936_0 1 (by decide)
      softmaxNext (F := F) arg9 arg10 harg10 arg11 arg12 arg13 0 (by decide)
      valuesStep (F := F) arg5 arg10 arg11 arg14 ![7424, 0] inb_S8192x128_S256x128_7424_0 1 (by decide)
      softmaxNext (F := F) arg9 arg10 harg10 arg11 arg12 arg13 1 (by decide)
      valuesStep (F := F) arg5 arg10 arg11 arg14 ![7680, 0] inb_S8192x128_S256x128_7680_0 0 (by decide)
      valuesStep (F := F) arg5 arg10 arg11 arg14 ![7936, 0] inb_S8192x128_S256x128_7936_0 1 (by decide)
      finalStep arg6 arg7 harg7 arg13 arg14) := by
  unfold afterLoop
  exact rfl

set_option maxRecDepth 100000 in
set_option maxHeartbeats 1000000 in
/-- The printed body is the structured program. -/
theorem flash_same :
    cc0_flash_attention (F := F) i arg3 harg3 arg4 harg4 arg5 harg5 arg6 harg6 arg7 harg7 arg8 harg8 arg9 harg9 arg10 harg10 arg11 harg11 arg12 harg12 arg13 harg13 arg14 harg14 = flash arg3 arg4 arg5 arg6 arg7 harg7 arg8 harg8 arg9 arg10 harg10 arg11 arg12 arg13 arg14 := by
  have hb : ∀ c0 c1, k0_t1_body (F := F) i arg3 harg3 arg4 harg4 arg5 harg5 arg6 harg6 arg7 harg7 arg8 harg8 arg9 harg9 arg10 harg10 arg11 harg11 arg12 harg12 arg13 harg13 arg14 harg14 c0 c1 = trip arg4 arg5 arg8 arg9 arg10 harg10 arg11 arg12 arg13 arg14 := fun c0 c1 => funext fun t => funext fun u => trip_same ..
  have hs : cc0_flash_attention (F := F) i arg3 harg3 arg4 harg4 arg5 harg5 arg6 harg6 arg7 harg7 arg8 harg8 arg9 harg9 arg10 harg10 arg11 harg11 arg12 harg12 arg13 harg13 arg14 harg14 = (before i arg3 harg3 arg4 harg4 arg5 harg5 arg6 harg6 arg7 harg7 arg8 harg8 arg9 harg9 arg10 harg10 arg11 harg11 arg12 harg12 arg13 harg13 arg14 harg14).bind fun _ => (Scf.Loop.for k0_t1_loop k0_t1_ok ⟨⟩ (trip arg4 arg5 arg8 arg9 arg10 harg10 arg11 arg12 arg13 arg14)).bind fun _ => afterLoop i arg3 harg3 arg4 harg4 arg5 harg5 arg6 harg6 arg7 harg7 arg8 harg8 arg9 harg9 arg10 harg10 arg11 harg11 arg12 harg12 arg13 harg13 arg14 harg14 := by
    rw [cc0_flash_attention_eq_skeleton]
    unfold cc0_flash_attention_skel
    show _ = before i arg3 harg3 arg4 harg4 arg5 harg5 arg6 harg6 arg7 harg7 arg8 harg8 arg9 harg9 arg10 harg10 arg11 harg11 arg12 harg12 arg13 harg13 arg14 harg14 >>= fun _ => Scf.Loop.for k0_t1_loop k0_t1_ok ⟨⟩ (trip arg4 arg5 arg8 arg9 arg10 harg10 arg11 arg12 arg13 arg14) >>= fun _ => afterLoop i arg3 harg3 arg4 harg4 arg5 harg5 arg6 harg6 arg7 harg7 arg8 harg8 arg9 harg9 arg10 harg10 arg11 harg11 arg12 harg12 arg13 harg13 arg14 harg14
    simp only [before, afterLoop, k0_part249_eq_skeleton, k0_part249_skel, k0_part162_eq_skeleton, k0_part162_skel, hb, bind_assoc, pure_bind]
    generalize Scf.Loop.for k0_t1_loop k0_t1_ok PUnit.unit (trip (F := F) arg4 arg5 arg8 arg9 arg10 harg10 arg11 arg12 arg13 arg14) = L
    exact rfl
  rw [hs, before_same, after_same]
  show (_ : P F PUnit) >>= (fun _ => _ >>= fun _ => _) = flash arg3 arg4 arg5 arg6 arg7 harg7 arg8 harg8 arg9 arg10 harg10 arg11 arg12 arg13 arg14
  unfold flash
  simp only [bind_assoc]

end Cert.KernelIdeal.Flash
-- ==== Proof.Hoare.lean ====
module

public import proofs.«01_k».proof.Proof.Steps
public import Idealize.ShloMosaic.Lib.Pipeline.FrameBody
public import Idealize.ShloMosaic.Lib.VecWindow
public import Idealize.ShloMosaic.Lib.Tactic

@[expose] public section

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)

variable {F : FTy → Type} [FloatOps F] [Named F]

local notation "𝕄" => MT nD τ sig Unit (Elt F) ℕ (UR sig nD τ) ℕ

/-- The contents of the kernel's twelve buffers. -/
@[ext] structure St (F : FTy → Type) where
  q : S256x512.Idx → Elt F .f32
  k : S8192x128.Idx → Elt F .bf16
  v : S8192x128.Idx → Elt F .bf16
  z : S256x512.Idx → Elt F .f32
  o : S256x512.Idx → Elt F .bf16
  qs : S1024x128.Idx → Elt F .bf16
  s : S2x1024x256.Idx → Elt F .f32
  p : S2x1024x256.Idx → Elt F .bf16
  a : S2x1024x128.Idx → Elt F .f32
  m : S1024x128.Idx → Elt F .f32
  l : S1024x128.Idx → Elt F .f32
  acc : S1024x128.Idx → Elt F .f32

variable (c : Dev nD)
variable (arg3 : Memref sig .tc .vmem S256x512 .f32) (arg4 arg5 : Memref sig .tc .vmem S8192x128 .bf16)
  (arg6 : Memref sig .tc .vmem S256x512 .f32) (arg7 : Memref sig .tc .vmem S256x512 .bf16) (harg7 : arg7.IsWhole)
  (arg8 : Memref sig .tc .vmem S1024x128 .bf16) (harg8 : arg8.IsWhole) (arg9 : Memref sig .tc .vmem S2x1024x256 .f32)
  (arg10 : Memref sig .tc .vmem S2x1024x256 .bf16) (harg10 : arg10.IsWhole) (arg11 : Memref sig .tc .vmem S2x1024x128 .f32)
  (arg12 arg13 arg14 : Memref sig .tc .vmem S1024x128 .f32)

/-- The twelve buffers held at given contents. -/
def own (σ : St F) : sProp 𝕄 :=
  iprop(owns (c : Thread nD τ) arg3 fullShare σ.q ∗ owns (c : Thread nD τ) arg4 fullShare σ.k ∗ owns (c : Thread nD τ) arg5 fullShare σ.v
    ∗ owns (c : Thread nD τ) arg6 fullShare σ.z ∗ owns (c : Thread nD τ) arg7 fullShare σ.o ∗ owns (c : Thread nD τ) arg8 fullShare σ.qs
    ∗ owns (c : Thread nD τ) arg9 fullShare σ.s ∗ owns (c : Thread nD τ) arg10 fullShare σ.p ∗ owns (c : Thread nD τ) arg11 fullShare σ.a
    ∗ owns (c : Thread nD τ) arg12 fullShare σ.m ∗ owns (c : Thread nD τ) arg13 fullShare σ.l ∗ owns (c : Thread nD τ) arg14 fullShare σ.acc)

abbrev W {α : Type} (p : P F α) (Φ : α → sProp 𝕄) : sProp 𝕄 := wp frame (wpE (defs₀ (F := F)) Variants.none (c : Thread nD τ) none) Set.univ p Φ

/-- A buffer's place among the twelve: it can be taken out, and put back at any contents. -/
structure Field {s : Shape} {e : EltTy} (O : St F → sProp 𝕄) (m : Memref sig .tc .vmem s e) (get : St F → s.Idx → Elt F e) (set : St F → (s.Idx → Elt F e) → St F) : Prop where
  out : ∀ σ, O σ ⊢ iprop(owns (c : Thread nD τ) m fullShare (get σ) ∗ (∀ X, owns (c : Thread nD τ) m fullShare X -∗ O (set σ X)))

/-- A program that acts on the buffers' contents as a function does. -/
structure Runs {α : Type} (O : St F → sProp 𝕄) (p : P F α) (f : St F → α × St F) : Prop where
  run : ∀ (σ : St F) (Φ : α → sProp 𝕄), (O (f σ).2 ⊢ Φ (f σ).1) → O σ ⊢ W c p Φ

variable {c}

theorem Runs.pure {α : Type} {O : St F → sProp 𝕄} (x : α) : Runs c O (pure x) (fun σ => (x, σ)) := ⟨fun σ Φ h => h.trans (by
  show Φ x ⊢ W c (.ret x) Φ
  unfold W; rw [wp_ret]; iintro H; imodintro; iexact H)⟩

theorem Runs.bind {α β : Type} {O : St F → sProp 𝕄} {p : P F α} {k : α → P F β} {f : St F → α × St F} {g : α → St F → β × St F}
    (hp : Runs c O p f) (hk : ∀ a, Runs c O (k a) (g a)) : Runs c O (p >>= k) (fun σ => g (f σ).1 (f σ).2) := ⟨fun σ Φ h => by
  unfold W; rw [wp_bind]
  exact hp.run σ _ ((hk _).run _ Φ h)⟩

theorem Runs.load {O : St F → sProp 𝕄} {s : Shape} {e : EltTy} {m : Memref sig .tc .vmem s e} {get : St F → s.Idx → Elt F e} {set : St F → (s.Idx → Elt F e) → St F}
    (hF : Field c O m get set) (hset : ∀ σ, set σ (get σ) = σ) (off size : Fin s.rank → ℕ) (inb : ∀ a, off a + size a ≤ s.size a)
    (hl : m.view.LoadsAt (Rect.unit (s := s) off size inb).toLoadRect) :
    Runs c O (Prog.lift (.load m (Rect.unit (s := s) off size inb).toLoadRect hl)) (fun σ => (window (get σ) off size inb, σ)) := ⟨fun σ Φ h => by
  refine (hF.out σ).trans ?_
  unfold owns W
  iintro ⟨⟨%f, %hf, H⟩, HK⟩
  iapply (wp_load Variants.none (c : Thread nD τ) none Set.univ (View.setOn_subset_set _ _)) $$ H
  iintro H
  rw [wp_ret]
  imodintro
  have h' : O σ ⊢ Φ (m.view.readAt (Elt F) (Rect.unit (s := s) off size inb).toLoadRect f) := by
    rw [View.readAt_unit m.view f inb rfl inb, hf]; exact h
  iapply h'
  ihave HO := HK $$ %(get σ) [H]
  · iexists f; isplitr; · ipureintro; exact hf
    iexact H
  rw [hset]
  iexact HO⟩

theorem Runs.store {O : St F → sProp 𝕄} {s : Shape} {e : EltTy} {m : Memref sig .tc .vmem s e} {get : St F → s.Idx → Elt F e} {set : St F → (s.Idx → Elt F e) → St F}
    (hF : Field c O m get set) (off size : Fin s.rank → ℕ) (inb : ∀ a, off a + size a ≤ s.size a) (w : (Rect.unit (s := s) off size inb).shape.Idx → Elt F e)
    (hx : (m.access (Rect.unit (s := s) off size inb)).Stores Finset.univ) (hm : Finset.univ = Finset.univ ∨ ∀ a, (Rect.unit (s := s) off size inb).stride a = 1) :
    Runs c O (Prog.lift (.store m (Rect.unit (s := s) off size inb) w Finset.univ hx hm)) (fun σ => (⟨⟩, set σ (put (get σ) off size w))) := ⟨fun σ Φ h => by
  refine (hF.out σ).trans ?_
  unfold owns W
  iintro ⟨⟨%f, %hf, H⟩, HK⟩
  iapply (wp_store_writes₀ Variants.none (c : Thread nD τ) none Set.univ (f := f) (View.set_slice_subset m.view _)) $$ H
  iintro H
  rw [wp_ret]
  imodintro
  iapply h
  iapply HK $$ %(put (get σ) off size w)
  iexists _; isplitr; swap; (· iexact H)
  ipureintro
  rw [View.read_writes_cons_put m.view f inb w [] rfl, View.writes_nil, hf]⟩

/-- `g k`, `g (k + 1)`, … in turn, `n` of them. -/
def foldFrom {N : ℕ} {X : Type} (g : (r : ℕ) → r < N → X → X) : (n k : ℕ) → k + n ≤ N → X → X
  | 0, _, _, x => x
  | n + 1, k, h, x => foldFrom g n (k + 1) (by omega) (g k (by omega) x)

theorem foldFrom_inv {N : ℕ} {X : Type} {g : (r : ℕ) → r < N → X → X} (I : ℕ → X → Prop) (h : ∀ r hr x, I r x → I (r + 1) (g r hr x)) :
    ∀ (n k : ℕ) (hk : k + n ≤ N) (x : X), I k x → I (k + n) (foldFrom g n k hk x)
  | 0, k, hk, x, hx => hx
  | n + 1, k, hk, x, hx => by
    have aux : ∀ (i j : ℕ) (y : X), i = j → I i y → I j y := by rintro i _ y rfl hy; exact hy
    exact aux _ _ _ (by omega) (foldFrom_inv I h n (k + 1) (by omega) _ (h k (by omega) x hx))

theorem Runs.runFrom {O : St F → sProp 𝕄} {N : ℕ} {f : (r : ℕ) → r < N → P F PUnit} {g : (r : ℕ) → r < N → St F → St F}
    (h : ∀ r hr, Runs c O (f r hr) (fun σ => (⟨⟩, g r hr σ))) :
    ∀ (n k : ℕ) (hk : k + n ≤ N), Runs c O (runFrom f n k hk) (fun σ => (⟨⟩, foldFrom g n k hk σ))
  | 0, k, hk => Runs.pure _
  | n + 1, k, hk => Runs.bind (h k (by omega)) fun _ => Runs.runFrom h n (k + 1) (by omega)

theorem Runs.forFrom {O : St F → sProp 𝕄} {n : ℕ} {body : Fin n → Unit → P F Unit} {g : (r : ℕ) → r < n → St F → St F}
    (h : ∀ t u, Runs c O (body t u) (fun σ => (⟨⟩, g t.1 t.2 σ))) :
    ∀ (d k : ℕ) (hk : k + d = n) (u : Unit), Runs c O (Scf.forFrom body ((List.finRange n).drop k) u) (fun σ => (⟨⟩, foldFrom g d k hk.le σ))
  | 0, k, hk, u => by
    rw [List.drop_of_length_le (by simp; omega), Scf.forFrom_nil]
    exact Runs.pure _
  | d + 1, k, hk, u => by
    rw [List.drop_eq_getElem_cons (by simp; omega), List.getElem_finRange, Fin.cast_mk, Scf.forFrom_cons]
    exact Runs.bind (h ⟨k, by omega⟩ u) fun _ => Runs.forFrom h d (k + 1) (by omega) _

theorem Runs.loop {O : St F → sProp 𝕄} {w : ℕ} (l : Scf.Loop w) (hok : l.OK) {body : Fin l.trips → Unit → P F Unit} {g : (r : ℕ) → r < l.trips → St F → St F}
    (h : ∀ t u, Runs c O (body t u) (fun σ => (⟨⟩, g t.1 t.2 σ))) :
    Runs c O (Scf.Loop.for l hok ⟨⟩ body) (fun σ => (⟨⟩, foldFrom g l.trips 0 (Nat.zero_add _).le σ)) := by
  unfold Scf.Loop.for
  rw [Scf.for_eq]
  exact Runs.forFrom h l.trips 0 (Nat.zero_add _) _

section Fields

local notation "O" => own (F := F) c arg3 arg4 arg5 arg6 arg7 arg8 arg9 arg10 arg11 arg12 arg13 arg14

theorem fieldQ : Field c O arg3 St.q (fun σ X => { σ with q := X }) := ⟨fun σ => by
  unfold own
  iintro ⟨h3, h4, h5, h6, h7, h8, h9, h10, h11, h12, h13, h14⟩
  isplitl [h3]; · iexact h3
  iintro %X h3
  dsimp only
  iframe ∗⟩
theorem fieldK : Field c O arg4 St.k (fun σ X => { σ with k := X }) := ⟨fun σ => by
  unfold own
  iintro ⟨h3, h4, h5, h6, h7, h8, h9, h10, h11, h12, h13, h14⟩
  isplitl [h4]; · iexact h4
  iintro %X h4
  dsimp only
  iframe ∗⟩
theorem fieldV : Field c O arg5 St.v (fun σ X => { σ with v := X }) := ⟨fun σ => by
  unfold own
  iintro ⟨h3, h4, h5, h6, h7, h8, h9, h10, h11, h12, h13, h14⟩
  isplitl [h5]; · iexact h5
  iintro %X h5
  dsimp only
  iframe ∗⟩
theorem fieldZ : Field c O arg6 St.z (fun σ X => { σ with z := X }) := ⟨fun σ => by
  unfold own
  iintro ⟨h3, h4, h5, h6, h7, h8, h9, h10, h11, h12, h13, h14⟩
  isplitl [h6]; · iexact h6
  iintro %X h6
  dsimp only
  iframe ∗⟩
theorem fieldO : Field c O arg7 St.o (fun σ X => { σ with o := X }) := ⟨fun σ => by
  unfold own
  iintro ⟨h3, h4, h5, h6, h7, h8, h9, h10, h11, h12, h13, h14⟩
  isplitl [h7]; · iexact h7
  iintro %X h7
  dsimp only
  iframe ∗⟩
theorem fieldQS : Field c O arg8 St.qs (fun σ X => { σ with qs := X }) := ⟨fun σ => by
  unfold own
  iintro ⟨h3, h4, h5, h6, h7, h8, h9, h10, h11, h12, h13, h14⟩
  isplitl [h8]; · iexact h8
  iintro %X h8
  dsimp only
  iframe ∗⟩
theorem fieldS : Field c O arg9 St.s (fun σ X => { σ with s := X }) := ⟨fun σ => by
  unfold own
  iintro ⟨h3, h4, h5, h6, h7, h8, h9, h10, h11, h12, h13, h14⟩
  isplitl [h9]; · iexact h9
  iintro %X h9
  dsimp only
  iframe ∗⟩
theorem fieldP : Field c O arg10 St.p (fun σ X => { σ with p := X }) := ⟨fun σ => by
  unfold own
  iintro ⟨h3, h4, h5, h6, h7, h8, h9, h10, h11, h12, h13, h14⟩
  isplitl [h10]; · iexact h10
  iintro %X h10
  dsimp only
  iframe ∗⟩
theorem fieldA : Field c O arg11 St.a (fun σ X => { σ with a := X }) := ⟨fun σ => by
  unfold own
  iintro ⟨h3, h4, h5, h6, h7, h8, h9, h10, h11, h12, h13, h14⟩
  isplitl [h11]; · iexact h11
  iintro %X h11
  dsimp only
  iframe ∗⟩
theorem fieldM : Field c O arg12 St.m (fun σ X => { σ with m := X }) := ⟨fun σ => by
  unfold own
  iintro ⟨h3, h4, h5, h6, h7, h8, h9, h10, h11, h12, h13, h14⟩
  isplitl [h12]; · iexact h12
  iintro %X h12
  dsimp only
  iframe ∗⟩
theorem fieldL : Field c O arg13 St.l (fun σ X => { σ with l := X }) := ⟨fun σ => by
  unfold own
  iintro ⟨h3, h4, h5, h6, h7, h8, h9, h10, h11, h12, h13, h14⟩
  isplitl [h13]; · iexact h13
  iintro %X h13
  dsimp only
  iframe ∗⟩
theorem fieldAcc : Field c O arg14 St.acc (fun σ X => { σ with acc := X }) := ⟨fun σ => by
  unfold own
  iintro ⟨h3, h4, h5, h6, h7, h8, h9, h10, h11, h12, h13, h14⟩
  isplitl [h14]; · iexact h14
  iintro %X h14
  dsimp only
  iframe ∗⟩

end Fields

/-! What each step does to the contents. -/

section Functions

def stackF (g : ℕ) (hg : g < 4) (σ : St F) : St F :=
  { σ with qs := put σ.qs ![256 * g, 0] S256x128.size (k0_pay578 (window σ.q ![0, 128 * g] S256x128.size (inbQ hg))) }

def scoresF (off : Fin 2 → ℕ) (hoff : ∀ a, off a + S256x128.size a ≤ S8192x128.size a) (sl : ℕ) (σ : St F) : St F :=
  { σ with s := put σ.s ![sl, 0, 0] S1x1024x256.size (k0_pay2 (window σ.k off S256x128.size hoff) (window σ.qs ![0, 0] S1024x128.size inb_S1024x128_S1024x128_0_0)) }

def maxF (sl : ℕ) (hs : sl < 2) (r : ℕ) (hr : r < 32) (σ : St F) : St F :=
  { σ with
    a := put σ.a ![sl, 32 * r, 0] S1x32x128.size (k0_pay4 (window σ.s ![sl, 32 * r, 0] S1x32x256.size (inbS hs hr)) (window σ.m ![32 * r, 0] S32x128.size (inbM hr)))
    m := put σ.m ![32 * r, 0] S32x128.size (k0_pay5 (window σ.s ![sl, 32 * r, 0] S1x32x256.size (inbS hs hr)) (window σ.m ![32 * r, 0] S32x128.size (inbM hr))) }

def maxFirstF (sl : ℕ) (hs : sl < 2) (r : ℕ) (hr : r < 32) (σ : St F) : St F :=
  { σ with m := put σ.m ![32 * r, 0] S32x128.size (k0_pay584 (window σ.s ![sl, 32 * r, 0] S1x32x256.size (inbS hs hr))) }

def expHalfF (sl : ℕ) (hs : sl < 2) (r : ℕ) (hr : r < 32) (c : ℕ) (hc : c < 2) (m : Vec F S32x128 .f32) (σ : St F) : St F :=
  { σ with p := put σ.p ![sl, 32 * r, 128 * c] S1x32x128.size (k0_pay109 m (window σ.s ![sl, 32 * r, 128 * c] S1x32x128.size (inbH hs hr hc))) }

def expF (sl : ℕ) (hs : sl < 2) (r : ℕ) (hr : r < 32) (σ : St F) : St F :=
  { expHalfF sl hs r hr 1 (by decide) (window σ.m ![32 * r, 0] S32x128.size (inbM hr)) (expHalfF sl hs r hr 0 (by decide) (window σ.m ![32 * r, 0] S32x128.size (inbM hr)) σ) with
    l := put σ.l ![32 * r, 0] S32x128.size (k0_pay112 (window σ.m ![32 * r, 0] S32x128.size (inbM hr))
      (window σ.s ![sl, 32 * r, 128 * 0] S1x32x128.size (inbH hs hr (by decide))) (window σ.s ![sl, 32 * r, 128 * 1] S1x32x128.size (inbH hs hr (by decide)))
      (window σ.a ![sl, 32 * r, 0] S1x32x128.size (inbA hs hr)) (window σ.l ![32 * r, 0] S32x128.size (inbM hr))) }

def expFirstF (sl : ℕ) (hs : sl < 2) (r : ℕ) (hr : r < 32) (σ : St F) : St F :=
  { expHalfF sl hs r hr 1 (by decide) (window σ.m ![32 * r, 0] S32x128.size (inbM hr)) (expHalfF sl hs r hr 0 (by decide) (window σ.m ![32 * r, 0] S32x128.size (inbM hr)) σ) with
    l := put σ.l ![32 * r, 0] S32x128.size (k0_pay627 (window σ.m ![32 * r, 0] S32x128.size (inbM hr))
      (window σ.s ![sl, 32 * r, 128 * 0] S1x32x128.size (inbH hs hr (by decide))) (window σ.s ![sl, 32 * r, 128 * 1] S1x32x128.size (inbH hs hr (by decide)))) }

def valuesFirstF (off : Fin 2 → ℕ) (hoff : ∀ a, off a + S256x128.size a ≤ S8192x128.size a) (sl : ℕ) (hs : sl < 2) (σ : St F) : St F :=
  { σ with acc := put σ.acc ![0, 0] S1024x128.size (firstValues (window σ.v off S256x128.size hoff) (window σ.p ![sl, 0, 0] S1x1024x256.size (inbSS hs))) }

def valuesF (off : Fin 2 → ℕ) (hoff : ∀ a, off a + S256x128.size a ≤ S8192x128.size a) (sl : ℕ) (hs : sl < 2) (σ : St F) : St F :=
  { σ with acc := put σ.acc ![0, 0] S1024x128.size (k0_pay1653 (window σ.v off S256x128.size hoff) (window σ.p ![sl, 0, 0] S1x1024x256.size (inbSS hs))
      (window σ.a ![sl, 0, 0] S1x1024x128.size (inbAA hs)) (window σ.acc ![0, 0] S1024x128.size inb_S1024x128_S1024x128_0_0)) }

/-- The block stored, from the accumulator, the sums and the gate. -/
def outOf (acc l : Vec F S1024x128 .f32) (z : Vec F S256x512 .f32) : Vec F S256x512 .bf16 :=
  k0_pay1 acc l z

def finalF (σ : St F) : St F :=
  { σ with o := put σ.o ![0, 0] S256x512.size (outOf (window σ.acc ![0, 0] S1024x128.size inb_S1024x128_S1024x128_0_0)
      (window σ.l ![0, 0] S1024x128.size inb_S1024x128_S1024x128_0_0) (window σ.z ![0, 0] S256x512.size inb_S256x512_S256x512_0_0)) }

def softmaxNextF (sl : ℕ) (hs : sl < 2) (σ : St F) : St F :=
  foldFrom (N := 32) (expF sl hs) 32 0 (by decide) (foldFrom (N := 32) (maxF sl hs) 32 0 (by decide) σ)

def softmaxFirstF (sl : ℕ) (hs : sl < 2) (σ : St F) : St F :=
  foldFrom (N := 32) (expFirstF sl hs) 32 0 (by decide) (foldFrom (N := 32) (maxFirstF sl hs) 32 0 (by decide) σ)

def tripF (t : ℕ) (ht : t < k0_t1_loop.trips) (σ : St F) : St F :=
  valuesF (k0_off4 ⟨t, ht⟩) (k0_off4_inb ⟨t, ht⟩) 0 (by decide) (softmaxNextF 1 (by decide) (scoresF (k0_off3 ⟨t, ht⟩) (k0_off3_inb ⟨t, ht⟩) 0
    (valuesF (k0_off2 ⟨t, ht⟩) (k0_off2_inb ⟨t, ht⟩) 1 (by decide) (softmaxNextF 0 (by decide) (scoresF (k0_off1 ⟨t, ht⟩) (k0_off1_inb ⟨t, ht⟩) 1 σ)))))

/-- Everything before the loop. -/
def startF (σ : St F) : St F :=
  valuesFirstF ![0, 0] inb_S8192x128_S256x128_0_0 0 (by decide) (softmaxNextF 1 (by decide) (scoresF ![512, 0] inb_S8192x128_S256x128_512_0 0
    (softmaxFirstF 0 (by decide) (scoresF ![256, 0] inb_S8192x128_S256x128_256_0 1 (scoresF ![0, 0] inb_S8192x128_S256x128_0_0 0
      (foldFrom (N := 4) stackF 4 0 (by decide) σ))))))

/-- Everything after it. -/
def endF (σ : St F) : St F :=
  finalF (valuesF ![7936, 0] inb_S8192x128_S256x128_7936_0 1 (by decide) (valuesF ![7680, 0] inb_S8192x128_S256x128_7680_0 0 (by decide)
    (softmaxNextF 1 (by decide) (valuesF ![7424, 0] inb_S8192x128_S256x128_7424_0 1 (by decide) (softmaxNextF 0 (by decide)
      (scoresF ![7936, 0] inb_S8192x128_S256x128_7936_0 1 σ))))))

def flashF (σ : St F) : St F := endF (foldFrom tripF k0_t1_loop.trips 0 (Nat.zero_add _).le (startF σ))

end Functions

section StepsRun

local notation "O" => own (F := F) c arg3 arg4 arg5 arg6 arg7 arg8 arg9 arg10 arg11 arg12 arg13 arg14
local notation "AA" => c arg3 arg4 arg5 arg6 arg7 arg8 arg9 arg10 arg11 arg12 arg13 arg14

theorem runs_stack (g : ℕ) (hg : g < 4) : Runs c O (stackStep arg3 arg8 harg8 g hg) (fun σ => (⟨⟩, stackF g hg σ)) :=
  (Runs.load (fieldQ ..) (fun _ => rfl) _ _ _ _).bind fun _ => (Runs.load (fieldQS ..) (fun _ => rfl) _ _ _ _).bind fun _ => Runs.store (fieldQS ..) _ _ _ _ _ _

theorem runs_scores (off : Fin 2 → ℕ) (hoff : ∀ a, off a + S256x128.size a ≤ S8192x128.size a) (sl : ℕ) (hs : sl < 2) :
    Runs c O (scoresStep arg4 arg8 arg9 off hoff sl hs) (fun σ => (⟨⟩, scoresF off hoff sl σ)) :=
  (Runs.load (fieldK ..) (fun _ => rfl) _ _ _ _).bind fun _ => (Runs.load (fieldQS ..) (fun _ => rfl) _ _ _ _).bind fun _ => (Runs.load (fieldS ..) (fun _ => rfl) _ _ _ _).bind fun _ => Runs.store (fieldS ..) _ _ _ _ _ _

theorem runs_max (sl : ℕ) (hs : sl < 2) (r : ℕ) (hr : r < 32) : Runs c O (maxStep arg9 arg11 arg12 sl hs r hr) (fun σ => (⟨⟩, maxF sl hs r hr σ)) :=
  (Runs.load (fieldS ..) (fun _ => rfl) _ _ _ _).bind fun _ => (Runs.load (fieldM ..) (fun _ => rfl) _ _ _ _).bind fun _ =>
  (Runs.load (fieldA ..) (fun _ => rfl) _ _ _ _).bind fun _ => (Runs.store (fieldA ..) _ _ _ _ _ _).bind fun _ =>
  (Runs.load (fieldM ..) (fun _ => rfl) _ _ _ _).bind fun _ => Runs.store (fieldM ..) _ _ _ _ _ _

theorem runs_maxFirst (sl : ℕ) (hs : sl < 2) (r : ℕ) (hr : r < 32) : Runs c O (maxFirst arg9 arg12 sl hs r hr) (fun σ => (⟨⟩, maxFirstF sl hs r hr σ)) :=
  (Runs.load (fieldS ..) (fun _ => rfl) _ _ _ _).bind fun _ => (Runs.load (fieldM ..) (fun _ => rfl) _ _ _ _).bind fun _ => Runs.store (fieldM ..) _ _ _ _ _ _

theorem runs_expHalf (sl : ℕ) (hs : sl < 2) (r : ℕ) (hr : r < 32) (c' : ℕ) (hc : c' < 2) (m : Vec F S32x128 .f32) :
    Runs c O (expHalf arg9 arg10 harg10 sl hs r hr c' hc m) (fun σ => (window σ.s ![sl, 32 * r, 128 * c'] S1x32x128.size (inbH hs hr hc), expHalfF sl hs r hr c' hc m σ)) :=
  (Runs.load (fieldS ..) (fun _ => rfl) _ _ _ _).bind fun _ => (Runs.load (fieldP ..) (fun _ => rfl) _ _ _ _).bind fun _ =>
  (Runs.store (fieldP ..) _ _ _ _ _ _).bind fun _ => Runs.pure _

theorem runs_exp (sl : ℕ) (hs : sl < 2) (r : ℕ) (hr : r < 32) : Runs c O (expStep arg9 arg10 harg10 arg11 arg12 arg13 sl hs r hr) (fun σ => (⟨⟩, expF sl hs r hr σ)) :=
  (Runs.load (fieldM ..) (fun _ => rfl) _ _ _ _).bind fun _ => (runs_expHalf ..).bind fun _ => (runs_expHalf ..).bind fun _ =>
  (Runs.load (fieldA ..) (fun _ => rfl) _ _ _ _).bind fun _ => (Runs.load (fieldL ..) (fun _ => rfl) _ _ _ _).bind fun _ =>
  (Runs.load (fieldL ..) (fun _ => rfl) _ _ _ _).bind fun _ => Runs.store (fieldL ..) _ _ _ _ _ _

theorem runs_expFirst (sl : ℕ) (hs : sl < 2) (r : ℕ) (hr : r < 32) : Runs c O (expFirst arg9 arg10 harg10 arg12 arg13 sl hs r hr) (fun σ => (⟨⟩, expFirstF sl hs r hr σ)) :=
  (Runs.load (fieldM ..) (fun _ => rfl) _ _ _ _).bind fun _ => (runs_expHalf ..).bind fun _ => (runs_expHalf ..).bind fun _ =>
  (Runs.load (fieldL ..) (fun _ => rfl) _ _ _ _).bind fun _ => Runs.store (fieldL ..) _ _ _ _ _ _

theorem runs_valuesFirst (off : Fin 2 → ℕ) (hoff : ∀ a, off a + S256x128.size a ≤ S8192x128.size a) (sl : ℕ) (hs : sl < 2) :
    Runs c O (valuesFirst arg5 arg10 arg14 off hoff sl hs) (fun σ => (⟨⟩, valuesFirstF off hoff sl hs σ)) :=
  (Runs.load (fieldV ..) (fun _ => rfl) _ _ _ _).bind fun _ => (Runs.load (fieldP ..) (fun _ => rfl) _ _ _ _).bind fun _ => (Runs.load (fieldAcc ..) (fun _ => rfl) _ _ _ _).bind fun _ => Runs.store (fieldAcc ..) _ _ _ _ _ _

theorem runs_values (off : Fin 2 → ℕ) (hoff : ∀ a, off a + S256x128.size a ≤ S8192x128.size a) (sl : ℕ) (hs : sl < 2) :
    Runs c O (valuesStep arg5 arg10 arg11 arg14 off hoff sl hs) (fun σ => (⟨⟩, valuesF off hoff sl hs σ)) :=
  (Runs.load (fieldV ..) (fun _ => rfl) _ _ _ _).bind fun _ => (Runs.load (fieldP ..) (fun _ => rfl) _ _ _ _).bind fun _ => (Runs.load (fieldA ..) (fun _ => rfl) _ _ _ _).bind fun _ =>
  (Runs.load (fieldAcc ..) (fun _ => rfl) _ _ _ _).bind fun _ => (Runs.load (fieldAcc ..) (fun _ => rfl) _ _ _ _).bind fun _ => Runs.store (fieldAcc ..) _ _ _ _ _ _

theorem runs_final : Runs c O (finalStep arg6 arg7 harg7 arg13 arg14) (fun σ => (⟨⟩, finalF σ)) :=
  (Runs.load (fieldAcc ..) (fun _ => rfl) _ _ _ _).bind fun _ => (Runs.load (fieldL ..) (fun _ => rfl) _ _ _ _).bind fun _ => (Runs.load (fieldZ ..) (fun _ => rfl) _ _ _ _).bind fun _ =>
  (Runs.load (fieldO ..) (fun _ => rfl) _ _ _ _).bind fun _ => Runs.store (fieldO ..) _ _ _ _ _ _

seal runFrom foldFrom

theorem runs_softmaxNext (sl : ℕ) (hs : sl < 2) : Runs c O (softmaxNext arg9 arg10 harg10 arg11 arg12 arg13 sl hs) (fun σ => (⟨⟩, softmaxNextF sl hs σ)) :=
  (Runs.runFrom (fun r hr => runs_max (c := c) (hs := hs) ..) 32 0 _).bind fun _ => Runs.runFrom (fun r hr => runs_exp (c := c) (hs := hs) ..) 32 0 _

theorem runs_softmaxFirst (sl : ℕ) (hs : sl < 2) : Runs c O (softmaxFirst arg9 arg10 harg10 arg12 arg13 sl hs) (fun σ => (⟨⟩, softmaxFirstF sl hs σ)) :=
  (Runs.runFrom (fun r hr => runs_maxFirst (c := c) (hs := hs) ..) 32 0 _).bind fun _ => Runs.runFrom (fun r hr => runs_expFirst (c := c) (hs := hs) ..) 32 0 _

theorem runs_trip (t : Fin k0_t1_loop.trips) (u : Unit) :
    Runs c O (trip arg4 arg5 arg8 arg9 arg10 harg10 arg11 arg12 arg13 arg14 t u) (fun σ => (⟨⟩, tripF t.1 t.2 σ)) :=
  (runs_scores ..).bind fun _ => (runs_softmaxNext ..).bind fun _ => (runs_values ..).bind fun _ =>
  (runs_scores ..).bind fun _ => (runs_softmaxNext ..).bind fun _ => runs_values ..

/-- The whole body acts on the contents as `flashF`. -/
theorem runs_flash : Runs c O (flash arg3 arg4 arg5 arg6 arg7 harg7 arg8 harg8 arg9 arg10 harg10 arg11 arg12 arg13 arg14) (fun σ => (⟨⟩, flashF σ)) :=
  (Runs.runFrom (fun g hg => runs_stack (c := c) (hg := hg) ..) 4 0 _).bind fun _ =>
  (runs_scores ..).bind fun _ => (runs_scores ..).bind fun _ => (runs_softmaxFirst ..).bind fun _ => (runs_scores ..).bind fun _ =>
  (runs_softmaxNext ..).bind fun _ => (runs_valuesFirst ..).bind fun _ =>
  (Runs.loop k0_t1_loop k0_t1_ok (fun t u => runs_trip (c := c) (t := t) (u := u) ..)).bind fun _ =>
  (runs_scores ..).bind fun _ => (runs_softmaxNext ..).bind fun _ => (runs_values ..).bind fun _ => (runs_softmaxNext ..).bind fun _ =>
  (runs_values ..).bind fun _ => (runs_values ..).bind fun _ => runs_final ..

end StepsRun

end Cert.KernelIdeal.Flash
-- ==== Proof.Tiles.lean ====
module

public import proofs.«01_k».proof.Proof.Hoare
public import Idealize.ShloMosaic.Lib.PointwiseCore

@[expose] public section

noncomputable section

namespace Cert.KernelIdeal.Flash

open Cert.KernelIdeal Cert.KernelIdeal.Gen
open Idealize.ShloMosaic
open VecWindow (window put window_put_same window_put_of_disjoint)

/-! What the body's functions on the buffers compute, tile by tile, whatever the scratch buffers held before. -/

section Windows

variable {s : Shape} {α : Type}

theorem window_window (x : s.Idx → α) (off size off2 size2 off' : Fin s.rank → ℕ) (inb : ∀ a, off a + size a ≤ s.size a)
    (inb2 : ∀ a, off2 a + size2 a ≤ size a) (inb' : ∀ a, off' a + size2 a ≤ s.size a) (h : ∀ a, off' a = off a + off2 a) :
    window (s := ⟨s.rank, size⟩) (window x off size inb) off2 size2 inb2 = window x off' size2 inb' := by
  funext y
  refine congrArg x (funext fun a => Fin.ext ?_)
  change off a + 1 * (off2 a + 1 * (y a).val) = off' a + 1 * (y a).val
  rw [h a]; omega

theorem window_whole (x : s.Idx → α) (off : Fin s.rank → ℕ) (inb : ∀ a, off a + s.size a ≤ s.size a) : window x off s.size inb = x := by
  funext y
  refine congrArg x (funext fun a => Fin.ext ?_)
  change off a + 1 * (y a).val = (y a).val
  have := inb a; omega

theorem put_whole (x w : s.Idx → α) (off : Fin s.rank → ℕ) (inb : ∀ a, off a + s.size a ≤ s.size a) : put x off s.size w = w := by
  have := window_put_same x off s.size inb w
  rwa [window_whole] at this

end Windows

section Joins

variable {α : Type}

theorem inbJA (r : Fin 32) : ∀ a, (![0, 32 * r.1, 0] : Fin 3 → Nat) a + S1x32x128.size a ≤ S1x1024x128.size a := by
  intro a; fin_cases a
  · change 0 + 1 ≤ 1; omega
  · change 32 * r.1 + 32 ≤ 1024; omega
  · change 0 + 128 ≤ 128; omega
theorem inbJS (r : Fin 32) : ∀ a, (![0, 32 * r.1, 0] : Fin 3 → Nat) a + S1x32x256.size a ≤ S1x1024x256.size a := by
  intro a; fin_cases a
  · change 0 + 1 ≤ 1; omega
  · change 32 * r.1 + 32 ≤ 1024; omega
  · change 0 + 256 ≤ 256; omega
theorem inbJH (r : Fin 32) (c : Fin 2) : ∀ a, (![0, 32 * r.1, 128 * c.1] : Fin 3 → Nat) a + S1x32x128.size a ≤ S1x1024x256.size a := by
  intro a; fin_cases a
  · change 0 + 1 ≤ 1; omega
  · change 32 * r.1 + 32 ≤ 1024; omega
  · change 128 * c.1 + 128 ≤ 256; omega

/-- Row blocks laid under one another: a slot of rescaling factors; -/
def joinA (w : Fin 32 → S1x32x128.Idx → α) : S1x1024x128.Idx → α := fun y =>
  w ⟨(y 1).val / 32, by have : (y 1).val < 1024 := (y 1).isLt; omega⟩ (ix3 (0 : Fin 1) (⟨(y 1).val % 32, Nat.mod_lt _ (by decide)⟩ : Fin 32) (y 2))
/-- a slot of weights, its row blocks in two halves; -/
def joinP (w : Fin 32 → Fin 2 → S1x32x128.Idx → α) : S1x1024x256.Idx → α := fun y =>
  w ⟨(y 1).val / 32, by have : (y 1).val < 1024 := (y 1).isLt; omega⟩ ⟨(y 2).val / 128, by have : (y 2).val < 256 := (y 2).isLt; omega⟩
    (ix3 (0 : Fin 1) (⟨(y 1).val % 32, Nat.mod_lt _ (by decide)⟩ : Fin 32) (⟨(y 2).val % 128, Nat.mod_lt _ (by decide)⟩ : Fin 128))
/-- a buffer of maxima or of sums; -/
def joinL (w : Fin 32 → S32x128.Idx → α) : S1024x128.Idx → α := fun y =>
  w ⟨(y 0).val / 32, by have : (y 0).val < 1024 := (y 0).isLt; omega⟩ (ix2 (⟨(y 0).val % 32, Nat.mod_lt _ (by decide)⟩ : Fin 32) (y 1))
/-- the stacked queries, a head under another. -/
def joinQ (w : Fin 4 → S256x128.Idx → α) : S1024x128.Idx → α := fun y =>
  w ⟨(y 0).val / 256, by have : (y 0).val < 1024 := (y 0).isLt; omega⟩ (ix2 (⟨(y 0).val % 256, Nat.mod_lt _ (by decide)⟩ : Fin 256) (y 1))

theorem eq_joinA (x : S1x1024x128.Idx → α) (w : Fin 32 → S1x32x128.Idx → α) (h : ∀ r, window x ![0, 32 * r.1, 0] S1x32x128.size (inbJA r) = w r) : x = joinA w := by
  funext y
  unfold joinA
  rw [← h]
  refine congrArg x (funext fun a => Fin.ext ?_)
  have h0 : (y 0).val < 1 := (y 0).isLt
  fin_cases a
  · change (y 0).val = 0 + 1 * 0; omega
  · change (y 1).val = 32 * ((y 1).val / 32) + 1 * ((y 1).val % 32); omega
  · change (y 2).val = 0 + 1 * (y 2).val; omega

theorem eq_joinP (x : S1x1024x256.Idx → α) (w : Fin 32 → Fin 2 → S1x32x128.Idx → α) (h : ∀ r c, window x ![0, 32 * r.1, 128 * c.1] S1x32x128.size (inbJH r c) = w r c) : x = joinP w := by
  funext y
  unfold joinP
  rw [← h]
  refine congrArg x (funext fun a => Fin.ext ?_)
  have h0 : (y 0).val < 1 := (y 0).isLt
  fin_cases a
  · change (y 0).val = 0 + 1 * 0; omega
  · change (y 1).val = 32 * ((y 1).val / 32) + 1 * ((y 1).val % 32); omega
  · change (y 2).val = 128 * ((y 2).val / 128) + 1 * ((y 2).val % 128); omega

theorem eq_joinL (x : S1024x128.Idx → α) (w : Fin 32 → S32x128.Idx → α) (h : ∀ r : Fin 32, window x ![32 * r.1, 0] S32x128.size (inbM r.2) = w r) : x = joinL w := by
  funext y
  unfold joinL
  rw [← h]
  refine congrArg x (funext fun a => Fin.ext ?_)
  fin_cases a
  · change (y 0).val = 32 * ((y 0).val / 32) + 1 * ((y 0).val % 32); omega
  · change (y 1).val = 0 + 1 * (y 1).val; omega

theorem eq_joinQ (x : S1024x128.Idx → α) (w : Fin 4 → S256x128.Idx → α) (h : ∀ g : Fin 4, window x ![256 * g.1, 0] S256x128.size (inbG g.2) = w g) : x = joinQ w := by
  funext y
  unfold joinQ
  rw [← h]
  refine congrArg x (funext fun a => Fin.ext ?_)
  fin_cases a
  · change (y 0).val = 256 * ((y 0).val / 256) + 1 * ((y 0).val % 256); omega
  · change (y 1).val = 0 + 1 * (y 1).val; omega

end Joins

variable {F : FTy → Type} [FloatOps F] [Named F]

/-! One tile's arithmetic. -/

section Tile

variable (X : S1x1024x256.Idx → Elt F .f32) (M : Fin 32 → S32x128.Idx → Elt F .f32)

def rowS (r : Fin 32) : S1x32x256.Idx → Elt F .f32 := window X ![0, 32 * r.1, 0] S1x32x256.size (inbJS r)
def halfS (r : Fin 32) (c : Fin 2) : S1x32x128.Idx → Elt F .f32 := window X ![0, 32 * r.1, 128 * c.1] S1x32x128.size (inbJH r c)
/-- The running maximum raised by the tile's scores, the factor that rescales what was summed before, the weights, the sums. -/
def mNext (r : Fin 32) : S32x128.Idx → Elt F .f32 := k0_pay5 (rowS X r) (M r)
def aNext (r : Fin 32) : S1x32x128.Idx → Elt F .f32 := k0_pay4 (rowS X r) (M r)
def mFirst (r : Fin 32) : S32x128.Idx → Elt F .f32 := k0_pay584 (rowS X r)
def pOf (r : Fin 32) (c : Fin 2) : S1x32x128.Idx → Elt F .bf16 := k0_pay109 (M r) (halfS X r c)
def lNext (A : Fin 32 → S1x32x128.Idx → Elt F .f32) (L : Fin 32 → S32x128.Idx → Elt F .f32) (r : Fin 32) : S32x128.Idx → Elt F .f32 :=
  k0_pay112 (M r) (halfS X r 0) (halfS X r 1) (A r) (L r)
def lFirst (r : Fin 32) : S32x128.Idx → Elt F .f32 := k0_pay627 (M r) (halfS X r 0) (halfS X r 1)

end Tile

/-! The row loops. -/

section Loops

variable {sl : ℕ} {hs : sl < 2} {X : S1x1024x256.Idx → Elt F .f32} {M : Fin 32 → S32x128.Idx → Elt F .f32}

theorem rowS_eq {x : S2x1024x256.Idx → Elt F .f32} (hX : window x ![sl, 0, 0] S1x1024x256.size (inbSS hs) = X) (r : Fin 32) :
    window x ![sl, 32 * r.1, 0] S1x32x256.size (inbS hs r.2) = rowS X r := by
  subst hX
  exact (window_window x ![sl, 0, 0] S1x1024x256.size ![0, 32 * r.1, 0] _ _ (inbSS hs) _ _ (fun a => by fin_cases a <;> simp)).symm
theorem halfS_eq {x : S2x1024x256.Idx → Elt F .f32} (hX : window x ![sl, 0, 0] S1x1024x256.size (inbSS hs) = X) (r : Fin 32) (c : Fin 2) :
    window x ![sl, 32 * r.1, 128 * c.1] S1x32x128.size (inbH hs r.2 c.2) = halfS X r c := by
  subst hX
  exact (window_window x ![sl, 0, 0] S1x1024x256.size ![0, 32 * r.1, 128 * c.1] _ _ (inbSS hs) _ _ (fun a => by fin_cases a <;> simp)).symm

theorem slotA_eq {x : S2x1024x128.Idx → Elt F .f32} {w : Fin 32 → S1x32x128.Idx → Elt F .f32}
    (h : ∀ r : Fin 32, window x ![sl, 32 * r.1, 0] S1x32x128.size (inbA hs r.2) = w r) : window x ![sl, 0, 0] S1x1024x128.size (inbAA hs) = joinA w :=
  eq_joinA _ _ fun r => (window_window x _ _ _ _ _ _ (inbJA r) (inbA hs r.2) (fun a => by fin_cases a <;> simp)).trans (h r)
theorem slotP_eq {x : S2x1024x256.Idx → Elt F .bf16} {w : Fin 32 → Fin 2 → S1x32x128.Idx → Elt F .bf16}
    (h : ∀ (r : Fin 32) (c : Fin 2), window x ![sl, 32 * r.1, 128 * c.1] S1x32x128.size (inbH hs r.2 c.2) = w r c) : window x ![sl, 0, 0] S1x1024x256.size (inbSS hs) = joinP w :=
  eq_joinP _ _ fun r c => (window_window x _ _ _ _ _ _ (inbJH r c) (inbH hs r.2 c.2) (fun a => by fin_cases a <;> simp)).trans (h r c)

theorem maxLoop (σ : St F) (hX : window σ.s ![sl, 0, 0] S1x1024x256.size (inbSS hs) = X) (hM : ∀ r : Fin 32, window σ.m ![32 * r.1, 0] S32x128.size (inbM r.2) = M r)
    (σ' : St F) (hσ' : σ' = foldFrom (N := 32) (maxF sl hs) 32 0 (by decide) σ) :
    σ' = { σ with a := σ'.a, m := σ'.m } ∧ (∀ r : Fin 32, window σ'.m ![32 * r.1, 0] S32x128.size (inbM r.2) = mNext X M r)
      ∧ (∀ r : Fin 32, window σ'.a ![sl, 32 * r.1, 0] S1x32x128.size (inbA hs r.2) = aNext X M r)
      ∧ ∀ sl' (hs' : sl' < 2), sl' ≠ sl → window σ'.a ![sl', 0, 0] S1x1024x128.size (inbAA hs') = window σ.a ![sl', 0, 0] S1x1024x128.size (inbAA hs') := by
  have key := foldFrom_inv (g := maxF (F := F) sl hs) (fun k τ => τ = { σ with a := τ.a, m := τ.m }
      ∧ (∀ r : Fin 32, window τ.m ![32 * r.1, 0] S32x128.size (inbM r.2) = if r.1 < k then mNext X M r else M r)
      ∧ (∀ r : Fin 32, r.1 < k → window τ.a ![sl, 32 * r.1, 0] S1x32x128.size (inbA hs r.2) = aNext X M r)
      ∧ ∀ sl' (hs' : sl' < 2), sl' ≠ sl → window τ.a ![sl', 0, 0] S1x1024x128.size (inbAA hs') = window σ.a ![sl', 0, 0] S1x1024x128.size (inbAA hs'))
    (by
      rintro k hk τ ⟨h1, h2, h3, h4⟩
      have hs1 : τ.s = σ.s := (congrArg St.s h1).trans rfl
      have hS : window τ.s ![sl, 32 * k, 0] S1x32x256.size (inbS hs hk) = rowS X ⟨k, hk⟩ := by rw [hs1]; exact rowS_eq (hs := hs) hX ⟨k, hk⟩
      have hm : window τ.m ![32 * k, 0] S32x128.size (inbM hk) = M ⟨k, hk⟩ := by rw [h2 ⟨k, hk⟩]; simp
      unfold maxF
      rw [hS, hm]
      refine ⟨?_, fun r => ?_, fun r hr => ?_, fun sl' hs' hne => ?_⟩
      · rw [h1]
      · by_cases hrk : r.1 = k
        · obtain rfl : r = ⟨k, hk⟩ := Fin.ext hrk
          rw [if_pos (Nat.lt_succ_self k)]
          exact window_put_same _ _ _ _ _
        · rw [window_put_of_disjoint _ _ _ _ _ _ _ (0 : Fin 2) (by change 32 * r.1 + 32 ≤ 32 * k ∨ 32 * k + 32 ≤ 32 * r.1; omega), h2 r]
          exact if_congr (by omega) rfl rfl
      · by_cases hrk : r.1 = k
        · obtain rfl : r = ⟨k, hk⟩ := Fin.ext hrk
          exact window_put_same _ _ _ _ _
        · rw [window_put_of_disjoint _ _ _ _ _ _ _ (1 : Fin 3) (by change 32 * r.1 + 32 ≤ 32 * k ∨ 32 * k + 32 ≤ 32 * r.1; omega)]
          exact h3 r (by omega)
      · rw [window_put_of_disjoint _ _ _ _ _ _ _ (0 : Fin 3) (by change sl' + 1 ≤ sl ∨ sl + 1 ≤ sl'; omega)]
        exact h4 sl' hs' hne)
    32 0 (by decide) σ ⟨rfl, fun r => by rw [hM]; simp, fun r hr => absurd hr (by omega), fun _ _ _ => rfl⟩
  rw [← hσ'] at key
  obtain ⟨h1, h2, h3, h4⟩ := key
  exact ⟨h1, fun r => by rw [h2 r, if_pos (by have := r.2; omega)], fun r => h3 r (by have := r.2; omega), h4⟩

theorem maxFirstLoop (σ : St F) (hX : window σ.s ![sl, 0, 0] S1x1024x256.size (inbSS hs) = X)
    (σ' : St F) (hσ' : σ' = foldFrom (N := 32) (maxFirstF sl hs) 32 0 (by decide) σ) :
    σ' = { σ with m := σ'.m } ∧ (∀ r : Fin 32, window σ'.m ![32 * r.1, 0] S32x128.size (inbM r.2) = mFirst X r) := by
  have key := foldFrom_inv (g := maxFirstF (F := F) sl hs) (fun k τ => τ = { σ with m := τ.m }
      ∧ (∀ r : Fin 32, r.1 < k → window τ.m ![32 * r.1, 0] S32x128.size (inbM r.2) = mFirst X r))
    (by
      rintro k hk τ ⟨h1, h2⟩
      have hs1 : τ.s = σ.s := (congrArg St.s h1).trans rfl
      have hS : window τ.s ![sl, 32 * k, 0] S1x32x256.size (inbS hs hk) = rowS X ⟨k, hk⟩ := by rw [hs1]; exact rowS_eq (hs := hs) hX ⟨k, hk⟩
      unfold maxFirstF
      rw [hS]
      refine ⟨?_, fun r hr => ?_⟩
      · rw [h1]
      · by_cases hrk : r.1 = k
        · obtain rfl : r = ⟨k, hk⟩ := Fin.ext hrk
          exact window_put_same _ _ _ _ _
        · rw [window_put_of_disjoint _ _ _ _ _ _ _ (0 : Fin 2) (by change 32 * r.1 + 32 ≤ 32 * k ∨ 32 * k + 32 ≤ 32 * r.1; omega)]
          exact h2 r (by omega))
    32 0 (by decide) σ ⟨rfl, fun r hr => absurd hr (by omega)⟩
  rw [← hσ'] at key
  exact ⟨key.1, fun r => key.2 r (by have := r.2; omega)⟩

/-- The loop over the weights, whichever sum it keeps: `W` is the sum's new row block. -/
theorem expLoop (E : (r : ℕ) → r < 32 → St F → St F) (Wl : (r : ℕ) → r < 32 → St F → S32x128.Idx → Elt F .f32) (L' : Fin 32 → S32x128.Idx → Elt F .f32)
    (hE : ∀ r hr τ, E r hr τ = { expHalfF sl hs r hr 1 (by decide) (window τ.m ![32 * r, 0] S32x128.size (inbM hr)) (expHalfF sl hs r hr 0 (by decide) (window τ.m ![32 * r, 0] S32x128.size (inbM hr)) τ) with
      l := put τ.l ![32 * r, 0] S32x128.size (Wl r hr τ) })
    (σ : St F) (hX : window σ.s ![sl, 0, 0] S1x1024x256.size (inbSS hs) = X) (hM : ∀ r : Fin 32, window σ.m ![32 * r.1, 0] S32x128.size (inbM r.2) = M r)
    (hW : ∀ (r : Fin 32) (τ : St F), τ.s = σ.s → τ.m = σ.m → τ.a = σ.a → window τ.l ![32 * r.1, 0] S32x128.size (inbM r.2) = window σ.l ![32 * r.1, 0] S32x128.size (inbM r.2) → Wl r.1 r.2 τ = L' r)
    (σ' : St F) (hσ' : σ' = foldFrom (N := 32) E 32 0 (by decide) σ) :
    σ' = { σ with p := σ'.p, l := σ'.l } ∧ (∀ r : Fin 32, window σ'.l ![32 * r.1, 0] S32x128.size (inbM r.2) = L' r)
      ∧ (∀ (r : Fin 32) (c : Fin 2), window σ'.p ![sl, 32 * r.1, 128 * c.1] S1x32x128.size (inbH hs r.2 c.2) = pOf X M r c)
      ∧ ∀ sl' (hs' : sl' < 2), sl' ≠ sl → window σ'.p ![sl', 0, 0] S1x1024x256.size (inbSS hs') = window σ.p ![sl', 0, 0] S1x1024x256.size (inbSS hs') := by
  have key := foldFrom_inv (g := E) (fun k τ => τ = { σ with p := τ.p, l := τ.l }
      ∧ (∀ r : Fin 32, window τ.l ![32 * r.1, 0] S32x128.size (inbM r.2) = if r.1 < k then L' r else window σ.l ![32 * r.1, 0] S32x128.size (inbM r.2))
      ∧ (∀ (r : Fin 32) (c : Fin 2), r.1 < k → window τ.p ![sl, 32 * r.1, 128 * c.1] S1x32x128.size (inbH hs r.2 c.2) = pOf X M r c)
      ∧ ∀ sl' (hs' : sl' < 2), sl' ≠ sl → window τ.p ![sl', 0, 0] S1x1024x256.size (inbSS hs') = window σ.p ![sl', 0, 0] S1x1024x256.size (inbSS hs'))
    (by
      rintro k hk τ ⟨h1, h2, h3, h4⟩
      have hs1 : τ.s = σ.s := (congrArg St.s h1).trans rfl
      have hm1 : τ.m = σ.m := (congrArg St.m h1).trans rfl
      have ha1 : τ.a = σ.a := (congrArg St.a h1).trans rfl
      have hS : ∀ c : Fin 2, window τ.s ![sl, 32 * k, 128 * c.1] S1x32x128.size (inbH hs hk c.2) = halfS X ⟨k, hk⟩ c := fun c => by rw [hs1]; exact halfS_eq (hs := hs) hX ⟨k, hk⟩ c
      have hm : window τ.m ![32 * k, 0] S32x128.size (inbM hk) = M ⟨k, hk⟩ := by rw [hm1]; exact hM ⟨k, hk⟩
      have hl : Wl k hk τ = L' ⟨k, hk⟩ := hW ⟨k, hk⟩ τ hs1 hm1 ha1 (by rw [h2 ⟨k, hk⟩]; simp)
      rw [hE, hm, hl]
      unfold expHalfF
      dsimp only
      rw [show window τ.s ![sl, 32 * k, 128 * 0] S1x32x128.size (inbH hs hk (by decide)) = halfS X ⟨k, hk⟩ 0 from hS 0,
        show window τ.s ![sl, 32 * k, 128 * 1] S1x32x128.size (inbH hs hk (by decide)) = halfS X ⟨k, hk⟩ 1 from hS 1]
      refine ⟨?_, fun r => ?_, fun r c hr => ?_, fun sl' hs' hne => ?_⟩
      · rw [h1]
      · by_cases hrk : r.1 = k
        · obtain rfl : r = ⟨k, hk⟩ := Fin.ext hrk
          rw [if_pos (Nat.lt_succ_self k)]
          exact window_put_same _ _ _ _ _
        · rw [window_put_of_disjoint _ _ _ _ _ _ _ (0 : Fin 2) (by change 32 * r.1 + 32 ≤ 32 * k ∨ 32 * k + 32 ≤ 32 * r.1; omega), h2 r]
          exact if_congr (by omega) rfl rfl
      · by_cases hrk : r.1 = k
        · obtain rfl : r = ⟨k, hk⟩ := Fin.ext hrk
          match c with
          | ⟨1, _⟩ => exact window_put_same _ _ _ _ _
          | ⟨0, _⟩ =>
            rw [window_put_of_disjoint _ _ _ _ _ _ _ (2 : Fin 3) (by change 128 * 0 + 128 ≤ 128 * 1 ∨ 128 * 1 + 128 ≤ 128 * 0; omega)]
            exact window_put_same _ _ _ _ _
        · rw [window_put_of_disjoint _ _ _ _ _ _ _ (1 : Fin 3) (by change 32 * r.1 + 32 ≤ 32 * k ∨ 32 * k + 32 ≤ 32 * r.1; omega),
            window_put_of_disjoint _ _ _ _ _ _ _ (1 : Fin 3) (by change 32 * r.1 + 32 ≤ 32 * k ∨ 32 * k + 32 ≤ 32 * r.1; omega)]
          exact h3 r c (by omega)
      · rw [window_put_of_disjoint _ _ _ _ _ _ _ (0 : Fin 3) (by change sl' + 1 ≤ sl ∨ sl + 1 ≤ sl'; omega),
          window_put_of_disjoint _ _ _ _ _ _ _ (0 : Fin 3) (by change sl' + 1 ≤ sl ∨ sl + 1 ≤ sl'; omega)]
        exact h4 sl' hs' hne)
    32 0 (by decide) σ ⟨rfl, fun r => by simp, fun r c hr => absurd hr (by omega), fun _ _ _ => rfl⟩
  rw [← hσ'] at key
  obtain ⟨h1, h2, h3, h4⟩ := key
  exact ⟨h1, fun r => by rw [h2 r, if_pos (by have := r.2; omega)], fun r c => h3 r c (by have := r.2; omega), h4⟩

end Loops

end Cert.KernelIdeal.Flash
-- ==== Proof.Blocks.lean ====
module

public import proofs.«01_k».proof.Proof.Tiles

@[expose] public section

noncomputable section

namespace Cert.KernelIdeal.Flash

open Cert.KernelIdeal Cert.KernelIdeal.Gen
open Idealize.ShloMosaic
open VecWindow (window put window_put_same window_put_of_disjoint)

/-! What the whole body computes from its four blocks. -/

variable {F : FTy → Type} [FloatOps F] [Named F]

theorem inbT (j : ℕ) : ∀ a, (![256 * (j % 32), 0] : Fin 2 → Nat) a + S256x128.size a ≤ S8192x128.size a := by
  intro a
  have := Nat.mod_lt j (show 0 < 32 by decide)
  fin_cases a
  · change 256 * (j % 32) + 256 ≤ 8192; omega
  · change 0 + 128 ≤ 128; omega

/-- Tile `j` of the keys or of the values, counted cyclically. -/
def tile {α : Type} (x : S8192x128.Idx → α) (j : ℕ) : S256x128.Idx → α := window x ![256 * (j % 32), 0] S256x128.size (inbT j)

/-- The four heads of the query block under one another. -/
def stack (q : S256x512.Idx → Elt F .f32) : S1024x128.Idx → Elt F .bf16 := joinQ fun g => k0_pay578 (window q ![0, 128 * g.1] S256x128.size (inbQ g.2))

section Recursion

variable (Q : S1024x128.Idx → Elt F .bf16) (k v : S8192x128.Idx → Elt F .bf16)

/-- The scores of tile `j`, the maxima after it, the rescaling factors of tile `j + 1`, the weights of tile `j`, the sums and the accumulator after it. -/
def scores (j : ℕ) : S1x1024x256.Idx → Elt F .f32 := k0_pay2 (tile k j) Q
def maxima : ℕ → Fin 32 → S32x128.Idx → Elt F .f32
  | 0 => mFirst (scores Q k 0)
  | j + 1 => mNext (scores Q k (j + 1)) (maxima j)
def factors (j : ℕ) : Fin 32 → S1x32x128.Idx → Elt F .f32 := aNext (scores Q k (j + 1)) (maxima Q k j)
def weights (j : ℕ) : Fin 32 → Fin 2 → S1x32x128.Idx → Elt F .bf16 := pOf (scores Q k j) (maxima Q k j)
def sums : ℕ → Fin 32 → S32x128.Idx → Elt F .f32
  | 0 => lFirst (scores Q k 0) (maxima Q k 0)
  | j + 1 => lNext (scores Q k (j + 1)) (maxima Q k (j + 1)) (factors Q k j) (sums j)
def accum : ℕ → S1024x128.Idx → Elt F .f32
  | 0 => firstValues (tile v 0) (joinP (weights Q k 0))
  | j + 1 => k0_pay1653 (tile v (j + 1)) (joinP (weights Q k (j + 1))) (joinA (factors Q k j)) (accum j)

end Recursion

/-- The block the body stores. -/
def blockOut (q : S256x512.Idx → Elt F .f32) (k v : S8192x128.Idx → Elt F .bf16) (z : S256x512.Idx → Elt F .f32) : S256x512.Idx → Elt F .bf16 :=
  outOf (accum (stack q) k v 31) (joinL (sums (stack q) k 31)) z

/-! What is known of the buffers between steps: the tile whose scores lie in each slot, the tile whose weights (and factors) do, the tile the maxima
and sums have reached, the tile the accumulator has; `none` where nothing is known. -/

structure Known (q₀ : S256x512.Idx → Elt F .f32) (k₀ v₀ : S8192x128.Idx → Elt F .bf16) (z₀ : S256x512.Idx → Elt F .f32) (si wi : Fin 2 → Option ℕ) (ji ni : Option ℕ) (σ : St F) : Prop where
  q : σ.q = q₀
  k : σ.k = k₀
  v : σ.v = v₀
  z : σ.z = z₀
  qs : σ.qs = stack q₀
  s : ∀ (i : Fin 2) t, si i = some t → window σ.s ![i.1, 0, 0] S1x1024x256.size (inbSS i.2) = scores (stack q₀) k₀ t
  p : ∀ (i : Fin 2) t, wi i = some t → window σ.p ![i.1, 0, 0] S1x1024x256.size (inbSS i.2) = joinP (weights (stack q₀) k₀ t)
  a : ∀ (i : Fin 2) t, wi i = some (t + 1) → window σ.a ![i.1, 0, 0] S1x1024x128.size (inbAA i.2) = joinA (factors (stack q₀) k₀ t)
  m : ∀ t, ji = some t → ∀ r : Fin 32, window σ.m ![32 * r.1, 0] S32x128.size (inbM r.2) = maxima (stack q₀) k₀ t r
  l : ∀ t, ji = some t → ∀ r : Fin 32, window σ.l ![32 * r.1, 0] S32x128.size (inbM r.2) = sums (stack q₀) k₀ t r
  acc : ∀ t, ni = some t → σ.acc = accum (stack q₀) k₀ v₀ t

section Steps

variable {q : S256x512.Idx → Elt F .f32} {k v : S8192x128.Idx → Elt F .bf16} {z : S256x512.Idx → Elt F .f32} {s w s' w' : Fin 2 → Option ℕ} {j n : Option ℕ} {σ : St F}

theorem Known.scores (h : Known q k v z s w j n σ) (sl : Fin 2) (t : ℕ) {off : Fin 2 → ℕ} {hoff} (he : off = ![256 * (t % 32), 0])
    (hs' : ∀ i, s' i = if i = sl then some t else s i) : Known q k v z s' w j n (scoresF off hoff sl.1 σ) := by
  subst he
  refine { h with s := fun i t' hi => ?_ }
  rw [hs'] at hi
  unfold scoresF
  dsimp only
  by_cases hisl : i = sl
  · subst hisl
    rw [if_pos rfl] at hi
    obtain rfl := Option.some.inj hi
    rw [window_put_same, h.k, h.qs, window_whole]
    rfl
  · rw [if_neg hisl] at hi
    have hne : i.1 ≠ sl.1 := fun e => hisl (Fin.ext e)
    rw [window_put_of_disjoint _ _ _ _ _ _ _ (0 : Fin 3) (by change i.1 + 1 ≤ sl.1 ∨ sl.1 + 1 ≤ i.1; omega)]
    exact h.s i t' hi

theorem Known.next {t : ℕ} (h : Known q k v z s w (some t) n σ) (sl : Fin 2) (hsl : s sl = some (t + 1))
    (hw' : ∀ i, w' i = if i = sl then some (t + 1) else w i) : Known q k v z s w' (some (t + 1)) n (softmaxNextF sl.1 sl.2 σ) := by
  unfold softmaxNextF
  generalize hσ1 : foldFrom (N := 32) (maxF sl.1 sl.2) 32 0 (by decide) σ = σ1
  obtain ⟨e1, m1, a1, oth1⟩ := maxLoop σ (h.s sl _ hsl) (h.m t rfl) σ1 hσ1.symm
  generalize hσ2 : foldFrom (N := 32) (expF sl.1 sl.2) 32 0 (by decide) σ1 = σ2
  have es : σ1.s = σ.s := (congrArg St.s e1).trans rfl
  have el : σ1.l = σ.l := (congrArg St.l e1).trans rfl
  have ep : σ1.p = σ.p := (congrArg St.p e1).trans rfl
  have hX : window σ1.s ![sl.1, 0, 0] S1x1024x256.size (inbSS sl.2) = Flash.scores (stack q) k (t + 1) := by rw [es]; exact h.s sl _ hsl
  obtain ⟨e2, l2, p2, oth2⟩ := expLoop (expF sl.1 sl.2) (fun r hr τ => k0_pay112 (window τ.m ![32 * r, 0] S32x128.size (inbM hr))
      (window τ.s ![sl.1, 32 * r, 128 * 0] S1x32x128.size (inbH sl.2 hr (by decide))) (window τ.s ![sl.1, 32 * r, 128 * 1] S1x32x128.size (inbH sl.2 hr (by decide)))
      (window τ.a ![sl.1, 32 * r, 0] S1x32x128.size (inbA sl.2 hr)) (window τ.l ![32 * r, 0] S32x128.size (inbM hr)))
    (sums (stack q) k (t + 1)) (fun _ _ _ => rfl) σ1 hX m1
    (fun r τ hs hm ha hl => by
      dsimp only
      rw [hs, hm, ha, hl, m1 r, a1 r, el, h.l t rfl r,
        show window σ1.s ![sl.1, 32 * r.1, 128 * 0] S1x32x128.size (inbH sl.2 r.2 (by decide)) = halfS _ r 0 from halfS_eq (hs := sl.2) hX r 0,
        show window σ1.s ![sl.1, 32 * r.1, 128 * 1] S1x32x128.size (inbH sl.2 r.2 (by decide)) = halfS _ r 1 from halfS_eq (hs := sl.2) hX r 1]
      rfl) σ2 hσ2.symm
  have e2a : σ2.a = σ1.a := (congrArg St.a e2).trans rfl
  have e2m : σ2.m = σ1.m := (congrArg St.m e2).trans rfl
  refine ⟨(congrArg St.q e2).trans ((congrArg St.q e1).trans h.q), (congrArg St.k e2).trans ((congrArg St.k e1).trans h.k), (congrArg St.v e2).trans ((congrArg St.v e1).trans h.v),
    (congrArg St.z e2).trans ((congrArg St.z e1).trans h.z), (congrArg St.qs e2).trans ((congrArg St.qs e1).trans h.qs), fun i t' hi => ?_, fun i t' hi => ?_, fun i t' hi => ?_,
    fun t' ht' r => ?_, fun t' ht' r => ?_, fun t' ht' => (congrArg St.acc e2).trans ((congrArg St.acc e1).trans (h.acc t' ht'))⟩
  · rw [show σ2.s = σ.s from ((congrArg St.s e2).trans rfl).trans es]
    exact h.s i t' hi
  · rw [hw'] at hi
    by_cases hisl : i = sl
    · subst hisl
      rw [if_pos rfl] at hi
      obtain rfl := Option.some.inj hi
      exact slotP_eq (hs := i.2) p2
    · rw [if_neg hisl] at hi
      rw [oth2 i.1 i.2 (fun e => hisl (Fin.ext e)), ep]
      exact h.p i t' hi
  · rw [hw'] at hi
    rw [e2a]
    by_cases hisl : i = sl
    · subst hisl
      rw [if_pos rfl] at hi
      obtain rfl := Nat.succ.inj (Option.some.inj hi)
      exact slotA_eq (hs := i.2) a1
    · rw [if_neg hisl] at hi
      rw [oth1 i.1 i.2 (fun e => hisl (Fin.ext e))]
      exact h.a i t' hi
  · obtain rfl := Option.some.inj ht'
    rw [e2m]; exact m1 r
  · obtain rfl := Option.some.inj ht'
    exact l2 r

theorem Known.first (h : Known q k v z s w none n σ) (sl : Fin 2) (hsl : s sl = some 0)
    (hw' : ∀ i, w' i = if i = sl then some 0 else w i) : Known q k v z s w' (some 0) n (softmaxFirstF sl.1 sl.2 σ) := by
  unfold softmaxFirstF
  generalize hσ1 : foldFrom (N := 32) (maxFirstF sl.1 sl.2) 32 0 (by decide) σ = σ1
  obtain ⟨e1, m1⟩ := maxFirstLoop σ (h.s sl _ hsl) σ1 hσ1.symm
  generalize hσ2 : foldFrom (N := 32) (expFirstF sl.1 sl.2) 32 0 (by decide) σ1 = σ2
  have es : σ1.s = σ.s := (congrArg St.s e1).trans rfl
  have ep : σ1.p = σ.p := (congrArg St.p e1).trans rfl
  have hX : window σ1.s ![sl.1, 0, 0] S1x1024x256.size (inbSS sl.2) = Flash.scores (stack q) k 0 := by rw [es]; exact h.s sl _ hsl
  obtain ⟨e2, l2, p2, oth2⟩ := expLoop (expFirstF sl.1 sl.2) (fun r hr τ => k0_pay627 (window τ.m ![32 * r, 0] S32x128.size (inbM hr))
      (window τ.s ![sl.1, 32 * r, 128 * 0] S1x32x128.size (inbH sl.2 hr (by decide))) (window τ.s ![sl.1, 32 * r, 128 * 1] S1x32x128.size (inbH sl.2 hr (by decide))))
    (sums (stack q) k 0) (fun _ _ _ => rfl) σ1 hX m1
    (fun r τ hs hm ha hl => by
      dsimp only
      rw [hs, hm, m1 r,
        show window σ1.s ![sl.1, 32 * r.1, 128 * 0] S1x32x128.size (inbH sl.2 r.2 (by decide)) = halfS _ r 0 from halfS_eq (hs := sl.2) hX r 0,
        show window σ1.s ![sl.1, 32 * r.1, 128 * 1] S1x32x128.size (inbH sl.2 r.2 (by decide)) = halfS _ r 1 from halfS_eq (hs := sl.2) hX r 1]
      rfl) σ2 hσ2.symm
  have e2a : σ2.a = σ.a := ((congrArg St.a e2).trans rfl).trans ((congrArg St.a e1).trans rfl)
  have e2m : σ2.m = σ1.m := (congrArg St.m e2).trans rfl
  refine ⟨(congrArg St.q e2).trans ((congrArg St.q e1).trans h.q), (congrArg St.k e2).trans ((congrArg St.k e1).trans h.k), (congrArg St.v e2).trans ((congrArg St.v e1).trans h.v),
    (congrArg St.z e2).trans ((congrArg St.z e1).trans h.z), (congrArg St.qs e2).trans ((congrArg St.qs e1).trans h.qs), fun i t' hi => ?_, fun i t' hi => ?_, fun i t' hi => ?_,
    fun t' ht' r => ?_, fun t' ht' r => ?_, fun t' ht' => (congrArg St.acc e2).trans ((congrArg St.acc e1).trans (h.acc t' ht'))⟩
  · rw [show σ2.s = σ.s from ((congrArg St.s e2).trans rfl).trans es]
    exact h.s i t' hi
  · rw [hw'] at hi
    by_cases hisl : i = sl
    · subst hisl
      rw [if_pos rfl] at hi
      obtain rfl := Option.some.inj hi
      exact slotP_eq (hs := i.2) p2
    · rw [if_neg hisl] at hi
      rw [oth2 i.1 i.2 (fun e => hisl (Fin.ext e)), ep]
      exact h.p i t' hi
  · rw [hw'] at hi
    rw [e2a]
    by_cases hisl : i = sl
    · subst hisl
      rw [if_pos rfl] at hi
      exact absurd (Option.some.inj hi) (Nat.succ_ne_zero t').symm
    · rw [if_neg hisl] at hi
      exact h.a i t' hi
  · obtain rfl := Option.some.inj ht'
    rw [e2m]; exact m1 r
  · obtain rfl := Option.some.inj ht'
    exact l2 r

theorem Known.values {t : ℕ} (h : Known q k v z s w j (some t) σ) (sl : Fin 2) (hsl : w sl = some (t + 1)) {off : Fin 2 → ℕ} {hoff} (he : off = ![256 * ((t + 1) % 32), 0]) :
    Known q k v z s w j (some (t + 1)) (valuesF off hoff sl.1 sl.2 σ) := by
  subst he
  refine { h with acc := fun t' ht' => ?_ }
  obtain rfl := Option.some.inj ht'
  unfold valuesF
  dsimp only
  refine (put_whole _ _ _ inb_S1024x128_S1024x128_0_0).trans ?_
  rw [h.p sl _ hsl, h.a sl _ hsl, window_whole, h.acc t rfl, h.v]
  rfl

theorem Known.valuesFirst (h : Known q k v z s w j none σ) (sl : Fin 2) (hsl : w sl = some 0) {hoff} :
    Known q k v z s w j (some 0) (valuesFirstF ![0, 0] hoff sl.1 sl.2 σ) := by
  refine { h with acc := fun t' ht' => ?_ }
  obtain rfl := Option.some.inj ht'
  unfold valuesFirstF
  dsimp only
  refine (put_whole _ _ _ inb_S1024x128_S1024x128_0_0).trans ?_
  rw [h.p sl _ hsl, h.v]
  rfl

seal foldFrom

theorem known_stack (σ : St F) : Known σ.q σ.k σ.v σ.z ![none, none] ![none, none] none none (foldFrom (N := 4) stackF 4 0 (by decide) σ) := by
  have key := foldFrom_inv (g := stackF (F := F)) (fun n τ => τ = { σ with qs := τ.qs }
      ∧ ∀ g : Fin 4, g.1 < n → window τ.qs ![256 * g.1, 0] S256x128.size (inbG g.2) = k0_pay578 (window σ.q ![0, 128 * g.1] S256x128.size (inbQ g.2)))
    (by
      rintro n hn τ ⟨h1, h2⟩
      have hq : τ.q = σ.q := (congrArg St.q h1).trans rfl
      unfold stackF
      refine ⟨by rw [h1], fun g hg => ?_⟩
      by_cases hgn : g.1 = n
      · obtain rfl : g = ⟨n, hn⟩ := Fin.ext hgn
        rw [hq]
        exact window_put_same _ _ _ _ _
      · rw [window_put_of_disjoint _ _ _ _ _ _ _ (0 : Fin 2) (by change 256 * g.1 + 256 ≤ 256 * n ∨ 256 * n + 256 ≤ 256 * g.1; omega)]
        exact h2 g (by omega))
    4 0 (by decide) σ ⟨rfl, fun g hg => absurd hg (by omega)⟩
  generalize foldFrom (N := 4) stackF 4 0 (by decide) σ = τ at key
  obtain ⟨h1, h2⟩ := key
  refine ⟨(congrArg St.q h1).trans rfl, (congrArg St.k h1).trans rfl, (congrArg St.v h1).trans rfl, (congrArg St.z h1).trans rfl,
    eq_joinQ _ _ fun g => h2 g (by have := g.2; omega), ?_, ?_, ?_, ?_, ?_, ?_⟩
  · intro i; fin_cases i <;> rintro t ⟨⟩
  · intro i; fin_cases i <;> rintro t ⟨⟩
  · intro i; fin_cases i <;> rintro t ⟨⟩
  · rintro t ⟨⟩
  · rintro t ⟨⟩
  · rintro t ⟨⟩

theorem known_start (σ : St F) : Known σ.q σ.k σ.v σ.z ![some 2, some 1] ![some 0, some 1] (some 1) (some 0) (startF σ) := by
  unfold startF
  have h0 := known_stack σ
  have h1 := h0.scores (s' := ![some 0, none]) (hoff := inb_S8192x128_S256x128_0_0) 0 0 (by decide) (by decide)
  have h2 := h1.scores (s' := ![some 0, some 1]) (hoff := inb_S8192x128_S256x128_256_0) 1 1 (by decide) (by decide)
  have h3 := h2.first (w' := ![some 0, none]) 0 rfl (by decide)
  have h4 := h3.scores (s' := ![some 2, some 1]) (hoff := inb_S8192x128_S256x128_512_0) 0 2 (by decide) (by decide)
  have h5 := h4.next (w' := ![some 0, some 1]) 1 rfl (by decide)
  exact h5.valuesFirst 0 rfl

theorem off1_eq : ∀ t : Fin k0_t1_loop.trips, k0_off1 t = ![256 * ((2 * t.1 + 3) % 32), 0] := by decide +kernel
theorem off2_eq : ∀ t : Fin k0_t1_loop.trips, k0_off2 t = ![256 * ((2 * t.1 + 1) % 32), 0] := by decide +kernel
theorem off3_eq : ∀ t : Fin k0_t1_loop.trips, k0_off3 t = ![256 * ((2 * t.1 + 4) % 32), 0] := by decide +kernel
theorem off4_eq : ∀ t : Fin k0_t1_loop.trips, k0_off4 t = ![256 * ((2 * t.1 + 2) % 32), 0] := by decide +kernel

theorem known_trip (t : ℕ) (ht : t < k0_t1_loop.trips)
    (h : Known q k v z ![some (2 * t + 2), some (2 * t + 1)] ![some (2 * t), some (2 * t + 1)] (some (2 * t + 1)) (some (2 * t)) σ) :
    Known q k v z ![some (2 * t + 4), some (2 * t + 3)] ![some (2 * t + 2), some (2 * t + 3)] (some (2 * t + 3)) (some (2 * t + 2)) (tripF t ht σ) := by
  unfold tripF
  have h1 := h.scores (s' := ![some (2 * t + 2), some (2 * t + 3)]) (hoff := k0_off1_inb ⟨t, ht⟩) 1 (2 * t + 3) (off1_eq ⟨t, ht⟩) (fun i => by fin_cases i <;> rfl)
  have h2 := h1.next (w' := ![some (2 * t + 2), some (2 * t + 1)]) 0 rfl (fun i => by fin_cases i <;> rfl)
  have h3 := h2.values (hoff := k0_off2_inb ⟨t, ht⟩) 1 rfl (off2_eq ⟨t, ht⟩)
  have h4 := h3.scores (s' := ![some (2 * t + 4), some (2 * t + 3)]) (hoff := k0_off3_inb ⟨t, ht⟩) 0 (2 * t + 4) (off3_eq ⟨t, ht⟩) (fun i => by fin_cases i <;> rfl)
  have h5 := h4.next (w' := ![some (2 * t + 2), some (2 * t + 3)]) 1 rfl (fun i => by fin_cases i <;> rfl)
  exact h5.values (hoff := k0_off4_inb ⟨t, ht⟩) 0 rfl (off4_eq ⟨t, ht⟩)

theorem Known.final (h : Known q k v z s w (some 31) (some 31) σ) :
    (finalF σ).o = blockOut q k v z ∧ (finalF σ).q = q ∧ (finalF σ).k = k ∧ (finalF σ).v = v ∧ (finalF σ).z = z := by
  refine ⟨?_, h.q, h.k, h.v, h.z⟩
  unfold finalF
  dsimp only
  refine (put_whole _ _ _ inb_S256x512_S256x512_0_0).trans ?_
  rw [window_whole, window_whole, window_whole, h.acc 31 rfl, eq_joinL _ _ (h.l 31 rfl), h.z]
  rfl

theorem known_end (h : Known q k v z ![some 30, some 29] ![some 28, some 29] (some 29) (some 28) σ) :
    (endF σ).o = blockOut q k v z ∧ (endF σ).q = q ∧ (endF σ).k = k ∧ (endF σ).v = v ∧ (endF σ).z = z := by
  unfold endF
  have h1 := h.scores (s' := ![some 30, some 31]) (hoff := inb_S8192x128_S256x128_7936_0) 1 31 (by decide) (fun i => by fin_cases i <;> rfl)
  have h2 := h1.next (w' := ![some 30, some 29]) 0 rfl (fun i => by fin_cases i <;> rfl)
  have h3 := h2.values (hoff := inb_S8192x128_S256x128_7424_0) 1 rfl (by decide)
  have h4 := h3.next (w' := ![some 30, some 31]) 1 rfl (fun i => by fin_cases i <;> rfl)
  have h5 := h4.values (hoff := inb_S8192x128_S256x128_7680_0) 0 rfl (by decide)
  have h6 := h5.values (hoff := inb_S8192x128_S256x128_7936_0) 1 rfl (by decide)
  exact h6.final

/-- Whatever the scratch buffers and the output block hold, the body stores this block and leaves its inputs. -/
theorem flashF_eq (σ : St F) : (flashF σ).o = blockOut σ.q σ.k σ.v σ.z ∧ (flashF σ).q = σ.q ∧ (flashF σ).k = σ.k ∧ (flashF σ).v = σ.v ∧ (flashF σ).z = σ.z := by
  unfold flashF
  refine known_end ?_
  exact foldFrom_inv (g := tripF (F := F)) (fun t τ => Known σ.q σ.k σ.v σ.z ![some (2 * t + 2), some (2 * t + 1)] ![some (2 * t), some (2 * t + 1)] (some (2 * t + 1)) (some (2 * t)) τ)
    (fun t ht τ h => known_trip t ht h) k0_t1_loop.trips 0 (Nat.zero_add _).le (startF σ) (known_start σ)

end Steps

end Cert.KernelIdeal.Flash
-- ==== Proof.Run.lean ====
module

public import proofs.«01_k».proof.Proof.Whole
public import proofs.«01_k».proof.Proof.Blocks
public import proofs.«01_k».proof.Proof.Gen.KernelIdeal.Frame

@[expose] public section

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The attention's run: every point stores `blockOut` of its blocks. -/

variable {F : FTy → Type} [FloatOps F] [Named F]

local notation "𝕄" => MT nD τ sig Unit (Elt F) ℕ (UR sig nD τ) ℕ

/-- The body on whole buffers: the four inputs kept, the output at `blockOut`, the scratch at anything before and after. -/
theorem sound_kernel (c : Dev nD) (i : grid0.Coords) (arg3 : Memref sig .tc .vmem S256x512 .f32) (harg3 : arg3.IsWhole) (arg4 : Memref sig .tc .vmem S8192x128 .bf16) (harg4 : arg4.IsWhole)
    (arg5 : Memref sig .tc .vmem S8192x128 .bf16) (harg5 : arg5.IsWhole) (arg6 : Memref sig .tc .vmem S256x512 .f32) (harg6 : arg6.IsWhole) (arg7 : Memref sig .tc .vmem S256x512 .bf16) (harg7 : arg7.IsWhole)
    (arg8 : Memref sig .tc .vmem S1024x128 .bf16) (harg8 : arg8.IsWhole) (arg9 : Memref sig .tc .vmem S2x1024x256 .f32) (harg9 : arg9.IsWhole) (arg10 : Memref sig .tc .vmem S2x1024x256 .bf16) (harg10 : arg10.IsWhole)
    (arg11 : Memref sig .tc .vmem S2x1024x128 .f32) (harg11 : arg11.IsWhole) (arg12 : Memref sig .tc .vmem S1024x128 .f32) (harg12 : arg12.IsWhole) (arg13 : Memref sig .tc .vmem S1024x128 .f32) (harg13 : arg13.IsWhole)
    (arg14 : Memref sig .tc .vmem S1024x128 .f32) (harg14 : arg14.IsWhole) (σ : St F) (K : PUnit → sProp 𝕄) :
    iprop(own c arg3 arg4 arg5 arg6 arg7 arg8 arg9 arg10 arg11 arg12 arg13 arg14 σ ∗ (own c arg3 arg4 arg5 arg6 arg7 arg8 arg9 arg10 arg11 arg12 arg13 arg14 (flashF σ) -∗ K ⟨⟩))
      ⊢ wp frame (wpE (defs₀ (F := F)) Variants.none (c : Thread nD τ) none) Set.univ (cc0_flash_attention (F := F) i arg3 harg3 arg4 harg4 arg5 harg5 arg6 harg6 arg7 harg7 arg8 harg8 arg9 harg9 arg10 harg10 arg11 harg11 arg12 harg12 arg13 harg13 arg14 harg14) K := by
  rw [flash_same]
  have hrun := (runs_flash (c := c) arg3 arg4 arg5 arg6 arg7 harg7 arg8 harg8 arg9 arg10 harg10 arg11 arg12 arg13 arg14).run σ (fun _ => own c arg3 arg4 arg5 arg6 arg7 arg8 arg9 arg10 arg11 arg12 arg13 arg14 (flashF σ)) .rfl
  iintro ⟨H, Hk⟩
  iapply (wp_wand_r frame (wpE (defs₀ (F := F)) Variants.none (c : Thread nD τ) none) Set.univ (Q := fun _ => own c arg3 arg4 arg5 arg6 arg7 arg8 arg9 arg10 arg11 arg12 arg13 arg14 (flashF σ)))
  isplitl [H]; · iapply hrun; iexact H
  iintro %x H
  iapply Hk; iexact H

section Launch

variable (m : (ℓ : Loc nD τ sig) → Buf (Elt F) ℓ) (ρ : Dev nD → PrngReg)

/-- The pipeline's proof data: each input left as fetched, the output at `blockOut` of the inputs' blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blockOut (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = blockOut (iblk m c 0 t) (iblk m c 1 t) (iblk m c 2 t) (iblk m c 3 t) := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d

def bodyPre (c : Dev nD) (t : Fin cfg0.N) : sProp 𝕄 :=
  iprop(Pipeline.ΦA spec0 c ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop(Pipeline.ΦA spec0 c ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0 Pipeline.ΦA
  simp only [before0, before1, before2, before3]
  rw [show (dats m 0 c).owesAt () t.succ = (dats m 0 c).owesAt () t.castSucc from rfl, after0, after1, after2, after3, after4, scopedRest0_eq]
  iintro ⟨⟨⟨⟨%f8, H8⟩, ⟨%f9, H9⟩, ⟨%f10, H10⟩, ⟨%f11, H11⟩, ⟨%f12, H12⟩, ⟨%f13, H13⟩, ⟨%f14, H14⟩⟩, Hr⟩, Ho, ⟨%d0, H0⟩, ⟨%d1, H1⟩, ⟨%d2, H2⟩, ⟨%d3, H3⟩, ⟨%d4, H4⟩⟩
  simp only [← owns_whole]
  iapply (sound_kernel c _ _ _ _ _ _ _ _ _ _ _ _ _ _ _ _ _ _ _ _ _ _ _ _ _ ⟨iblk m c 0 t, iblk m c 1 t, iblk m c 2 t, iblk m c 3 t, (dats m 0 c).before 4 t d4, f8, f9, f10, f11, f12, f13, f14⟩ _)
  obtain ⟨ho, hq, hk, hv, hz⟩ := flashF_eq (F := F) ⟨iblk m c 0 t, iblk m c 1 t, iblk m c 2 t, iblk m c 3 t, (dats m 0 c).before 4 t d4, f8, f9, f10, f11, f12, f13, f14⟩
  unfold own
  rw [ho, hq, hk, hv, hz]
  isplitl [H0 H1 H2 H3 H4 H8 H9 H10 H11 H12 H13 H14]
  · iframe ∗
  iintro ⟨H0, H1, H2, H3, H4, H8, H9, H10, H11, H12, H13, H14⟩
  isplitl [Hr H8 H9 H10 H11 H12 H13 H14]
  · isplitl [H8 H9 H10 H11 H12 H13 H14]
    · isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      iexists _; iexact H14
    iexact Hr
  iframe ∗

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: what every array holds at the end, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

end Launch

end Cert.KernelIdeal.Flash
-- ==== Proof.Frames.lean ====
module

public import proofs.«01_k».proof.Defs
public import proofs.«01_k».proof.Proof.Run
public import proofs.«01_k».proof.Proof.Gen.Kernel
public import proofs.«01_k».proof.Proof.Gen.ReferenceIdeal.Run
public import Idealize.ShloMosaic.Lib.Quiescent
public import Idealize.ShloMosaic.Lib.Claim

@[expose] public section

noncomputable section

namespace Cert.KernelIdeal.Flash

open Idealize.ShloMosaic Idealize.ShloMosaic.TcCoe Idealize.SL.Sem

variable {F : FTy → Type} [FloatOps F] [Named F]

/-- The named-scale program runs from any memory, keeps its arguments, and leaves every semaphore at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (Gen.frame_of m ρ (dats m) (A_eq m) (run_main m ρ)) ((θ_run defs _ _).mono (fun _ h => h.2) (run_main_quiescent m ρ))

/-- Over bit patterns a named constant is its own pattern. -/
@[reducible] def namedBits : Named Bits := ⟨fun _ _ _ bits => Scalar.ofBits _ bits⟩

section AtBits

attribute [local instance] namedBits
set_option maxRecDepth 100000

theorem body_bits : Cert.Kernel.cc0_flash_attention (F := Bits) = cc0_flash_attention (F := Bits) := rfl

theorem main_bits : Cert.Kernel.main (F := Bits) = main (F := Bits) := rfl

theorem defs₀_bits : Cert.Kernel.defs₀ (F := Bits) = defs₀ (F := Bits) := by
  unfold Cert.Kernel.defs₀ defs₀
  rw [body_bits]
  refine congrArg Defs.onTc ?_
  funext x y
  match x, y with
  | 0, (t, s) => rfl
  | ⟨n + 1, h⟩, _ => exact absurd h (Nat.not_lt.2 (Nat.le_add_left _ _))

theorem defs_bits : Cert.Kernel.defs (F := Bits) = defs (F := Bits) := by
  unfold Cert.Kernel.defs defs
  rw [defs₀_bits]
  rfl

/-- The two programs have one text at the bit patterns, so the run of one is the run of the other. -/
theorem frame_kernel : Cert.quiescent_Kernel := fun m ρ _ => by
  rw [main_bits, defs_bits]
  exact frame (F := Bits) m ρ

end AtBits

theorem frame_ideal : Cert.quiescent_KernelIdeal := fun m ρ _ => frame m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The constant the program names is the scale the problem asks for, in base two. -/
theorem preserves : Cert.preserves_Kernel_KernelIdeal :=
  IdealRules.named_const.statement Cert.KernelIdeal.κ "scale" .f32 0x3E0293EE#32 (((Real.sqrt 128)⁻¹ * (Real.log 2)⁻¹ : ℝ) : EReal) rfl

end Cert.KernelIdeal.Flash
-- ==== Proof.Softmax.lean ====
module

public import Idealize.ShloMosaic.Lib.Pointwise

@[expose] public section

noncomputable section

namespace Cert.KernelIdeal.Flash

open Idealize.ShloMosaic

/-! The online softmax over the extended reals, at one row: real scores, any values. -/

/-- A nonnegative real times a sum. -/
theorem coe_mul_sum {ι : Type} (s : Finset ι) (c : ℝ) (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of a real and of finitely many reals is real. -/
theorem fold_max_real {ι : Type} (s : Finset ι) (f : ι → EReal) (hf : ∀ i, ∃ r : ℝ, f i = r) (hs : s.Nonempty) :
    ∃ r : ℝ, s.fold max (⊥ : EReal) f = r := by
  classical
  induction hs using Finset.Nonempty.cons_induction with
  | singleton a => obtain ⟨r, hr⟩ := hf a; exact ⟨r, by simp [hr]⟩
  | cons a s ha hs ih =>
    obtain ⟨r, hr⟩ := hf a
    obtain ⟨t, ht⟩ := ih
    exact ⟨max r t, by rw [Finset.fold_cons, hr, ht]; exact (EReal.coe_strictMono.monotone.map_max).symm⟩

theorem exp2_sub (a b : ℝ) : Ideal.exp2 ((a : EReal) - (b : EReal)) = (((2 : ℝ) ^ (a - b) : ℝ) : EReal) := by
  rw [← EReal.coe_sub, Ideal.exp2_coe]; rfl
theorem exp_sub (a b : ℝ) : Ideal.exp ((a : EReal) - (b : EReal)) = ((Real.exp (a - b) : ℝ) : EReal) := by
  rw [← EReal.coe_sub, Ideal.exp_coe]

theorem pow_chain (a b c : ℝ) : (2 : ℝ) ^ (a - b) * (2 : ℝ) ^ (c - a) = (2 : ℝ) ^ (c - b) := by
  rw [← Real.rpow_add (by norm_num)]; congr 1; ring

section Row

variable (x : ℕ → Fin 256 → ℝ) (m : ℕ → ℝ)

/-- The weight of a score against the maximum after tile `j`. -/
def wt (j i : ℕ) (l : Fin 256) : ℝ := (2 : ℝ) ^ (x i l - m j)

theorem wt_nonneg (j i : ℕ) (l : Fin 256) : 0 ≤ wt x m j i l := (Real.rpow_pos_of_pos (by norm_num) _).le

theorem sums_row (L : ℕ → Fin 128 → EReal) (lo hi : Fin 128 → Fin 256)
    (h0 : ∀ c, L 0 c = Ideal.exp2 ((x 0 (lo c) : EReal) - (m 0 : EReal)) + Ideal.exp2 ((x 0 (hi c) : EReal) - (m 0 : EReal)))
    (hs : ∀ j c, L (j + 1) c = Ideal.exp2 ((m j : EReal) - (m (j + 1) : EReal)) * L j c
      + (Ideal.exp2 ((x (j + 1) (lo c) : EReal) - (m (j + 1) : EReal)) + Ideal.exp2 ((x (j + 1) (hi c) : EReal) - (m (j + 1) : EReal))))
    (j : ℕ) (c : Fin 128) : L j c = ((∑ i ∈ Finset.range (j + 1), (wt x m j i (lo c) + wt x m j i (hi c)) : ℝ) : EReal) := by
  induction j with
  | zero => rw [h0, exp2_sub, exp2_sub, ← EReal.coe_add]; simp [wt]
  | succ j ih =>
    rw [hs, ih, exp2_sub, exp2_sub, exp2_sub, ← EReal.coe_mul, ← EReal.coe_add, ← EReal.coe_add, Finset.sum_range_succ _ (j + 1), Finset.mul_sum]
    congr 2
    refine Finset.sum_congr rfl fun i _ => ?_
    rw [mul_add]
    unfold wt
    rw [pow_chain, pow_chain]

theorem accum_row (A : ℕ → EReal) (V : ℕ → Fin 256 → EReal)
    (h0 : A 0 = ∑ l, Ideal.exp2 ((x 0 l : EReal) - (m 0 : EReal)) * V 0 l)
    (hs : ∀ j, A (j + 1) = Ideal.exp2 ((m j : EReal) - (m (j + 1) : EReal)) * A j + ∑ l, Ideal.exp2 ((x (j + 1) l : EReal) - (m (j + 1) : EReal)) * V (j + 1) l)
    (j : ℕ) : A j = ∑ i ∈ Finset.range (j + 1), ∑ l, (wt x m j i l : EReal) * V i l := by
  induction j with
  | zero => rw [h0]; simp [wt, exp2_sub]
  | succ j ih =>
    rw [hs, ih, exp2_sub, coe_mul_sum _ _ (Real.rpow_pos_of_pos (by norm_num) _).le, Finset.sum_range_succ _ (j + 1)]
    congr 1
    refine Finset.sum_congr rfl fun i _ => ?_
    rw [coe_mul_sum _ _ (Real.rpow_pos_of_pos (by norm_num) _).le]
    refine Finset.sum_congr rfl fun l _ => ?_
    rw [← mul_assoc, ← EReal.coe_mul]
    unfold wt
    rw [pow_chain]

/-- The accumulator over the summed weights is the softmax of the scores against the values. -/
theorem quotient_row (V : ℕ → Fin 256 → EReal) (n : ℕ) (t : ℕ → Fin 256 → ℝ) (ht : ∀ i l, x i l = t i l * (Real.log 2)⁻¹) :
    (∑ i ∈ Finset.range (n + 1), ∑ l, (wt x m n i l : EReal) * V i l)
        * Ideal.div 1 ((∑ i ∈ Finset.range (n + 1), ∑ l, wt x m n i l : ℝ) : EReal)
      = ∑ i ∈ Finset.range (n + 1), ∑ l, ((Real.exp (t i l) / ∑ i ∈ Finset.range (n + 1), ∑ l, Real.exp (t i l) : ℝ) : EReal) * V i l := by
  have hw : ∀ i l, wt x m n i l = (2 : ℝ) ^ (-m n) * Real.exp (t i l) := fun i l => by
    have h2 : Real.log 2 ≠ 0 := (Real.log_pos (by norm_num)).ne'
    unfold wt
    rw [sub_eq_neg_add, Real.rpow_add (by norm_num), ht, Real.rpow_def_of_pos (by norm_num : (0 : ℝ) < 2) (t i l * _)]
    congr 2; field_simp
  have hp : (0 : ℝ) < (2 : ℝ) ^ (-m n) := Real.rpow_pos_of_pos (by norm_num) _
  set Z : ℝ := ∑ i ∈ Finset.range (n + 1), ∑ l, Real.exp (t i l) with hZ
  have hZp : 0 < Z := Finset.sum_pos (fun i _ => Finset.sum_pos (fun l _ => Real.exp_pos _) ⟨0, Finset.mem_univ _⟩) ⟨0, by simp⟩
  have hS : (∑ i ∈ Finset.range (n + 1), ∑ l, wt x m n i l) = (2 : ℝ) ^ (-m n) * Z := by
    rw [hZ, Finset.mul_sum]
    refine Finset.sum_congr rfl fun i _ => ?_
    rw [Finset.mul_sum]
    exact Finset.sum_congr rfl fun l _ => hw i l
  rw [hS]
  have hd : Ideal.div 1 (((2 : ℝ) ^ (-m n) * Z : ℝ) : EReal) = ((((2 : ℝ) ^ (-m n) * Z)⁻¹ : ℝ) : EReal) := by
    have h0 : ((((2 : ℝ) ^ (-m n) * Z : ℝ)) : EReal) ≠ 0 := by
      intro h; exact (mul_pos hp hZp).ne' (by exact_mod_cast h)
    unfold Ideal.div
    rw [if_neg h0, one_mul, ← EReal.coe_inv]
  rw [hd, mul_comm, coe_mul_sum _ _ (by positivity)]
  refine Finset.sum_congr rfl fun i _ => ?_
  rw [coe_mul_sum _ _ (by positivity)]
  refine Finset.sum_congr rfl fun l _ => ?_
  rw [← mul_assoc, ← EReal.coe_mul, hw]
  congr 2
  field_simp

end Row

/-- A softmax weight as the reference takes it: the exponentials of the differences over their sum. -/
theorem weight_ref {ι : Type} [Fintype ι] [Nonempty ι] (t : ι → ℝ) (T : ℝ) (i : ι) :
    Ideal.div (Ideal.exp ((t i : EReal) - (T : EReal))) (∑ i, Ideal.exp ((t i : EReal) - (T : EReal))) = ((Real.exp (t i) / ∑ i, Real.exp (t i) : ℝ) : EReal) := by
  have hp : 0 < ∑ i, Real.exp (t i - T) := Finset.sum_pos (fun l _ => Real.exp_pos _) Finset.univ_nonempty
  have hp' : 0 < ∑ i, Real.exp (t i) := Finset.sum_pos (fun l _ => Real.exp_pos _) Finset.univ_nonempty
  have hs : (∑ i, Ideal.exp ((t i : EReal) - (T : EReal))) = ((∑ i, Real.exp (t i - T) : ℝ) : EReal) := by
    rw [coe_sum]; exact Finset.sum_congr rfl fun i _ => exp_sub _ _
  have h0 : ((∑ i, Real.exp (t i - T) : ℝ) : EReal) ≠ 0 := by
    intro h; exact hp.ne' (by exact_mod_cast h)
  rw [hs, exp_sub]
  unfold Ideal.div
  rw [if_neg h0, ← EReal.coe_inv, ← EReal.coe_mul]
  congr 1
  have : ∑ i, Real.exp (t i - T) = (∑ i, Real.exp (t i)) * Real.exp (-T) := by
    rw [Finset.sum_mul]; exact Finset.sum_congr rfl fun i _ => by rw [← Real.exp_add]; rfl
  rw [this, show t i - T = t i + -T from rfl, Real.exp_add]
  have := Real.exp_pos (-T)
  field_simp

end Cert.KernelIdeal.Flash

end
-- ==== Proof.Values.lean ====
module

public import proofs.«01_k».proof.Proof.Blocks
public import proofs.«01_k».proof.Proof.Softmax
public import Idealize.ShloMosaic.Lib.Pointwise

@[expose] public section

set_option maxRecDepth 16384

noncomputable section

namespace Cert.KernelIdeal.Flash

open Idealize.ShloMosaic Idealize.SL.Sem
open Cert.KernelIdeal.Gen Idealize.ShloMosaic.VecWindow

/-! What a step computes over the extended reals, at an index. -/

theorem window2 {α : Type} {A B a b : ℕ} (x : (⟨2, ![A, B]⟩ : Shape).Idx → α) (o p : ℕ) (inb) (i : Fin a) (j : Fin b) (hi : o + i.1 < A) (hj : p + j.1 < B) :
    window x ![o, p] ![a, b] inb (ix2 i j) = x (ix2 ⟨o + i.1, hi⟩ ⟨p + j.1, hj⟩) := by
  unfold window
  congr 1
  funext t
  fin_cases t
  · apply Fin.ext; simp [Rect.emb, Rect.unit]
  · apply Fin.ext; simp [Rect.emb, Rect.unit]

theorem window3 {α : Type} {A B C a b c : ℕ} (x : (⟨3, ![A, B, C]⟩ : Shape).Idx → α) (o p q : ℕ) (inb) (i : Fin a) (j : Fin b) (k : Fin c) (hi : o + i.1 < A) (hj : p + j.1 < B) (hk : q + k.1 < C) :
    window x ![o, p, q] ![a, b, c] inb (ix3 i j k) = x (ix3 ⟨o + i.1, hi⟩ ⟨p + j.1, hj⟩ ⟨q + k.1, hk⟩) := by
  unfold window
  congr 1
  funext t
  fin_cases t
  · apply Fin.ext; simp [Rect.emb, Rect.unit]
  · apply Fin.ext; simp [Rect.emb, Rect.unit]
  · apply Fin.ext; simp [Rect.emb, Rect.unit]

/-- The constant the queries are scaled by. -/
def scale : ℝ := (Real.sqrt 128)⁻¹ * (Real.log 2)⁻¹

theorem named_scale : (Named.named κ "scale" 0x3E0293EE#32 : Ideal .f32) = (scale : EReal) :=
  IdealRules.named_const.ideal_named_scalar _ _ _ _ rfl

theorem pay578_at (x : S256x128.Idx → Ideal .f32) (r : Fin 256) (d : Fin 128) : k0_pay578 (F := Ideal) x (ix2 r d) = x (ix2 r d) * (scale : EReal) := by
  rw [← named_scale]
  pointwise [k0_pay578]

theorem pay2_at (K : S256x128.Idx → Ideal .bf16) (Q : S1024x128.Idx → Ideal .bf16) (r : Fin 1024) (l : Fin 256) :
    k0_pay2 (F := Ideal) K Q (ix3 0 r l) = ∑ d : Fin 128, Q (ix2 r d) * K (ix2 l d) := by
  pointwise [k0_pay2]

theorem pay3_at (X : S1x32x256.Idx → Ideal .f32) (M : S32x128.Idx → Ideal .f32) (s : Fin 32) (c : Fin 128) :
    k0_pay3 (F := Ideal) X M (ix2 s c) = max (M (ix2 s c)) (Finset.univ.fold max ⊥ fun l : Fin 256 => X (ix3 0 s l)) := by
  pointwise [k0_pay3]
  rfl
theorem pay5_at (X : S1x32x256.Idx → Ideal .f32) (M : S32x128.Idx → Ideal .f32) (s : Fin 32) (c : Fin 128) :
    k0_pay5 (F := Ideal) X M (ix2 s c) = k0_pay3 (F := Ideal) X M (ix2 s c) := by
  pointwise [k0_pay5]
theorem pay584_at (X : S1x32x256.Idx → Ideal .f32) (s : Fin 32) (c : Fin 128) :
    k0_pay584 (F := Ideal) X (ix2 s c) = (Finset.univ.fold max ⊥ fun l : Fin 256 => X (ix3 0 s l)) := by
  pointwise [k0_pay584]
  rfl
theorem pay4_at (X : S1x32x256.Idx → Ideal .f32) (M : S32x128.Idx → Ideal .f32) (s : Fin 32) (c : Fin 128) :
    k0_pay4 (F := Ideal) X M (ix3 0 s c) = Ideal.exp2 (M (ix2 s c) - k0_pay3 (F := Ideal) X M (ix2 s c)) := by
  pointwise [k0_pay4]
  rfl
theorem pay109_at (M : S32x128.Idx → Ideal .f32) (X : S1x32x128.Idx → Ideal .f32) (s : Fin 32) (c : Fin 128) :
    k0_pay109 (F := Ideal) M X (ix3 0 s c) = Ideal.exp2 (X (ix3 0 s c) - M (ix2 s c)) := by
  pointwise [k0_pay109, k0_pay108]
  rfl
theorem pay112_at (M : S32x128.Idx → Ideal .f32) (X Y A : S1x32x128.Idx → Ideal .f32) (L : S32x128.Idx → Ideal .f32) (s : Fin 32) (c : Fin 128) :
    k0_pay112 (F := Ideal) M X Y A L (ix2 s c)
      = A (ix3 0 s c) * L (ix2 s c) + (Ideal.exp2 (X (ix3 0 s c) - M (ix2 s c)) + Ideal.exp2 (Y (ix3 0 s c) - M (ix2 s c))) := by
  pointwise [k0_pay112, k0_pay108, k0_pay110]
  rfl
theorem pay627_at (M : S32x128.Idx → Ideal .f32) (X Y : S1x32x128.Idx → Ideal .f32) (s : Fin 32) (c : Fin 128) :
    k0_pay627 (F := Ideal) M X Y (ix2 s c) = Ideal.exp2 (X (ix3 0 s c) - M (ix2 s c)) + Ideal.exp2 (Y (ix3 0 s c) - M (ix2 s c)) := by
  pointwise [k0_pay627, k0_pay623, k0_pay625]
  rfl
theorem firstValues_at (V : S256x128.Idx → Ideal .bf16) (W : S1x1024x256.Idx → Ideal .bf16) (r : Fin 1024) (d : Fin 128) :
    firstValues (F := Ideal) V W (ix2 r d) = ∑ l : Fin 256, W (ix3 0 r l) * V (ix2 l d) := by
  pointwise [firstValues, k0_pay290, k0_pay576]
theorem pay1653_at (V : S256x128.Idx → Ideal .bf16) (W : S1x1024x256.Idx → Ideal .bf16) (A : S1x1024x128.Idx → Ideal .f32) (C : S1024x128.Idx → Ideal .f32) (r : Fin 1024) (d : Fin 128) :
    k0_pay1653 (F := Ideal) V W A C (ix2 r d) = A (ix3 0 r d) * C (ix2 r d) + ∑ l : Fin 256, W (ix3 0 r l) * V (ix2 l d) := by
  pointwise [k0_pay1653]

theorem pay1_at (A L : S1024x128.Idx → Ideal .f32) (z : S256x512.Idx → Ideal .f32) (r : Fin 256) (g : Fin 4) (d : Fin 128) :
    k0_pay1 (F := Ideal) A L z (ix2 r ⟨128 * g.1 + d.1, by omega⟩)
      = A (ix2 ⟨256 * g.1 + r.1, by omega⟩ d) * Ideal.div 1 (∑ c : Fin 128, L (ix2 ⟨256 * g.1 + r.1, by omega⟩ c))
        * (z (ix2 r ⟨128 * g.1 + d.1, by omega⟩) * Ideal.logistic (z (ix2 r ⟨128 * g.1 + d.1, by omega⟩))) := by
  have key : ∀ (a a' : Fin 1024) (b b' : Fin 128), a = a' → b = b' →
      A (ix2 a b) * Ideal.div 1 (∑ c : Fin 128, L (ix2 a c)) = A (ix2 a' b') * Ideal.div 1 (∑ c : Fin 128, L (ix2 a' c)) := by
    rintro a _ b _ rfl rfl; rfl
  pointwise [k0_pay1]
  refine congrArg (· * _) ?_
  have hd := d.isLt
  rcases g with ⟨g, hg⟩
  dsimp only
  interval_cases g <;> split_ifs <;> first | omega | exact key _ _ _ _ (Fin.ext (by first | rfl | (dsimp only; omega))) (Fin.ext (by first | rfl | (dsimp only; omega)))

section Row

variable (Q : S1024x128.Idx → Ideal .bf16) (k v : S8192x128.Idx → Ideal .bf16) (x : ℕ → Fin 1024 → Fin 256 → ℝ)

/-- The row block of a row, and its place there. -/
def blk (r : Fin 1024) : Fin 32 := ⟨r.1 / 32, by omega⟩
def sub (r : Fin 1024) : Fin 32 := ⟨r.1 % 32, by omega⟩
def row (R s : Fin 32) : Fin 1024 := ⟨32 * R.1 + s.1, by omega⟩
theorem row_blk_sub (r : Fin 1024) : row (blk r) (sub r) = r := Fin.ext (Nat.div_add_mod r.1 32)

theorem rowS_at (X : S1x1024x256.Idx → Ideal .f32) (R s : Fin 32) (l : Fin 256) : rowS (F := Ideal) X R (ix3 0 s l) = X (ix3 0 (row R s) l) := by
  unfold rowS
  refine (window3 X 0 (32 * R.1) 0 _ 0 s l (by simp) (by omega) (by omega)).trans ?_
  congr 1
  refine congrArg₂ (fun a b => ix3 a (row R s) b) ?_ ?_
  · rfl
  · exact Fin.ext (Nat.zero_add _)

theorem halfS_at (X : S1x1024x256.Idx → Ideal .f32) (R s : Fin 32) (h : Fin 2) (c : Fin 128) :
    halfS (F := Ideal) X R h (ix3 0 s c) = X (ix3 0 (row R s) ⟨128 * h.1 + c.1, by omega⟩) := by
  unfold halfS
  exact window3 X 0 (32 * R.1) (128 * h.1) _ 0 s c (by simp) (by omega) (by omega)

theorem max_real (a b : EReal) (ha : ∃ r : ℝ, a = r) (hb : ∃ r : ℝ, b = r) : ∃ r : ℝ, max a b = r := by
  obtain ⟨r, rfl⟩ := ha; obtain ⟨t, rfl⟩ := hb
  exact ⟨max r t, (EReal.coe_strictMono.monotone.map_max).symm⟩

/-- The running maxima are real, and one for all lanes of a row. -/
theorem maxima_real (hx : ∀ j r l, scores (F := Ideal) Q k j (ix3 0 r l) = (x j r l : EReal)) :
    ∃ m : ℕ → Fin 1024 → ℝ, ∀ j R s c, maxima (F := Ideal) Q k j R (ix2 s c) = (m j (row R s) : EReal) := by
  have hf : ∀ j R s, ∃ t : ℝ, (Finset.univ.fold max (⊥ : EReal) fun l : Fin 256 => rowS (F := Ideal) (scores (F := Ideal) Q k j) R (ix3 0 s l)) = t := fun j R s =>
    fold_max_real _ _ (fun l => ⟨x j (row R s) l, by rw [rowS_at, hx]⟩) ⟨0, Finset.mem_univ _⟩
  have step : ∀ j, ∃ m : Fin 32 → Fin 32 → ℝ, ∀ R s c, maxima (F := Ideal) Q k j R (ix2 s c) = (m R s : EReal) := by
    intro j
    induction j with
    | zero =>
      choose t ht using hf 0
      exact ⟨t, fun R s c => (pay584_at _ s c).trans (ht R s)⟩
    | succ j ih =>
      obtain ⟨m, hm⟩ := ih
      choose t ht using fun R s => max_real _ _ ⟨m R s, rfl⟩ (hf (j + 1) R s)
      refine ⟨t, fun R s c => ?_⟩
      rw [← ht]
      refine (pay5_at _ _ s c).trans ((pay3_at _ _ s c).trans ?_)
      rw [hm]
  choose m hm using step
  refine ⟨fun j r => m j (blk r) (sub r), fun j R s c => (hm j R s c).trans ?_⟩
  have hb : blk (row R s) = R := Fin.ext (by change (32 * R.1 + s.1) / 32 = R.1; omega)
  have hs : sub (row R s) = s := Fin.ext (by change (32 * R.1 + s.1) % 32 = s.1; omega)
  change (m j R s : EReal) = (m j (blk (row R s)) (sub (row R s)) : EReal)
  rw [hb, hs]

variable {Q k x} (m : ℕ → Fin 1024 → ℝ)
  (hx : ∀ j r l, scores (F := Ideal) Q k j (ix3 0 r l) = (x j r l : EReal))
  (hm : ∀ j R s c, maxima (F := Ideal) Q k j R (ix2 s c) = (m j (row R s) : EReal))

include hm in
theorem factors_at (j : ℕ) (R s : Fin 32) (c : Fin 128) :
    factors (F := Ideal) Q k j R (ix3 0 s c) = Ideal.exp2 ((m j (row R s) : EReal) - (m (j + 1) (row R s) : EReal)) := by
  have h := hm (j + 1) R s c
  refine (pay4_at _ _ s c).trans ?_
  have h' : k0_pay3 (F := Ideal) (rowS (scores Q k (j + 1)) R) (maxima Q k j R) (ix2 s c) = (m (j + 1) (row R s) : EReal) :=
    ((pay5_at _ _ s c).symm.trans h)
  rw [h', hm]

include hx hm in
theorem weights_at (j : ℕ) (R s : Fin 32) (h : Fin 2) (c : Fin 128) :
    weights (F := Ideal) Q k j R h (ix3 0 s c)
      = Ideal.exp2 ((x j (row R s) ⟨128 * h.1 + c.1, by omega⟩ : EReal) - (m j (row R s) : EReal)) := by
  refine (pay109_at _ _ s c).trans ?_
  rw [hm, halfS_at, hx]

theorem joinA_at (w : Fin 32 → S1x32x128.Idx → Ideal .f32) (r : Fin 1024) (c : Fin 128) : joinA w (ix3 0 r c) = w (blk r) (ix3 0 (sub r) c) := rfl
theorem joinL_at (w : Fin 32 → S32x128.Idx → Ideal .f32) (r : Fin 1024) (c : Fin 128) : joinL w (ix2 r c) = w (blk r) (ix2 (sub r) c) := rfl
theorem joinP_at (w : Fin 32 → Fin 2 → S1x32x128.Idx → Ideal .bf16) (r : Fin 1024) (l : Fin 256) :
    joinP w (ix3 0 r l) = w (blk r) ⟨l.1 / 128, by omega⟩ (ix3 0 (sub r) ⟨l.1 % 128, by omega⟩) := rfl

include hx hm in
theorem joinP_weights (j : ℕ) (r : Fin 1024) (l : Fin 256) :
    joinP (weights (F := Ideal) Q k j) (ix3 0 r l) = Ideal.exp2 ((x j r l : EReal) - (m j r : EReal)) := by
  rw [joinP_at, weights_at m hx hm, row_blk_sub]
  have : (⟨128 * (l.1 / 128) + l.1 % 128, by omega⟩ : Fin 256) = l := Fin.ext (Nat.div_add_mod l.1 128)
  rw [this]

include hx hm in
theorem accum_at (r : Fin 1024) (d : Fin 128) (j : ℕ) :
    accum (F := Ideal) Q k v j (ix2 r d)
      = ∑ i ∈ Finset.range (j + 1), ∑ l, (wt (fun i l => x i r l) (fun i => m i r) j i l : EReal) * tile v i (ix2 l d) := by
  refine accum_row (fun i l => x i r l) (fun i => m i r) (fun j => accum (F := Ideal) Q k v j (ix2 r d)) (fun i l => tile v i (ix2 l d)) ?_ (fun j => ?_) j
  · refine (firstValues_at _ _ r d).trans (Finset.sum_congr rfl fun l _ => ?_)
    rw [joinP_weights m hx hm]
  · refine (pay1653_at _ _ _ _ r d).trans ?_
    rw [joinA_at, factors_at m hm, row_blk_sub]
    exact congrArg _ (Finset.sum_congr rfl fun l _ => by rw [joinP_weights m hx hm])

def loLane (c : Fin 128) : Fin 256 := ⟨c.1, by omega⟩
def hiLane (c : Fin 128) : Fin 256 := ⟨128 + c.1, by omega⟩

include hx hm in
theorem half_lo (j : ℕ) (r : Fin 1024) (c : Fin 128) : halfS (F := Ideal) (scores Q k j) (blk r) 0 (ix3 0 (sub r) c) = (x j r (loLane c) : EReal) := by
  rw [halfS_at, hx, row_blk_sub]
  have : (⟨128 * (0 : Fin 2).1 + c.1, by simp; omega⟩ : Fin 256) = loLane c := Fin.ext (by simp [loLane])
  rw [this]
include hx hm in
theorem half_hi (j : ℕ) (r : Fin 1024) (c : Fin 128) : halfS (F := Ideal) (scores Q k j) (blk r) 1 (ix3 0 (sub r) c) = (x j r (hiLane c) : EReal) := by
  rw [halfS_at, hx, row_blk_sub]
  rfl

include hx hm in
theorem sums_at (r : Fin 1024) (c : Fin 128) (j : ℕ) :
    joinL (sums (F := Ideal) Q k j) (ix2 r c)
      = ((∑ i ∈ Finset.range (j + 1), (wt (fun i l => x i r l) (fun i => m i r) j i (loLane c) + wt (fun i l => x i r l) (fun i => m i r) j i (hiLane c)) : ℝ) : EReal) := by
  refine sums_row (fun i l => x i r l) (fun i => m i r) (fun j c => joinL (sums (F := Ideal) Q k j) (ix2 r c)) loLane hiLane (fun c => ?_) (fun j c => ?_) j c
  · rw [joinL_at]
    refine (pay627_at _ _ _ (sub r) c).trans ?_
    rw [half_lo m hx hm, half_hi m hx hm, hm, row_blk_sub]
  · rw [joinL_at, joinL_at]
    refine (pay112_at _ _ _ _ _ (sub r) c).trans ?_
    rw [half_lo m hx hm, half_hi m hx hm, hm, factors_at m hm, row_blk_sub]

/-- Every row of the accumulator over its sum is the softmax of the scores against the values. -/
theorem row_value (t : ℕ → Fin 1024 → Fin 256 → ℝ)
    (ht : ∀ j r l, scores (F := Ideal) Q k j (ix3 0 r l) = ((t j r l * (Real.log 2)⁻¹ : ℝ) : EReal)) (r : Fin 1024) (d : Fin 128) :
    accum (F := Ideal) Q k v 31 (ix2 r d) * Ideal.div 1 (∑ c : Fin 128, joinL (sums (F := Ideal) Q k 31) (ix2 r c))
      = ∑ i ∈ Finset.range 32, ∑ l, ((Real.exp (t i r l) / ∑ i ∈ Finset.range 32, ∑ l, Real.exp (t i r l) : ℝ) : EReal) * tile v i (ix2 l d) := by
  obtain ⟨m, hm⟩ := maxima_real Q k _ ht
  rw [accum_at v m ht hm]
  have hs : (∑ c : Fin 128, joinL (sums (F := Ideal) Q k 31) (ix2 r c))
      = ((∑ i ∈ Finset.range (31 + 1), ∑ l, wt (fun i l => t i r l * (Real.log 2)⁻¹) (fun i => m i r) 31 i l : ℝ) : EReal) := by
    rw [Finset.sum_congr rfl fun c _ => sums_at m ht hm r c 31, ← coe_sum, Finset.sum_comm]
    congr 1
    refine Finset.sum_congr rfl fun i _ => ?_
    rw [Finset.sum_add_distrib]
    exact (Fin.sum_univ_two_halves 128 128 rfl fun l : Fin 256 => wt (fun i l => t i r l * (Real.log 2)⁻¹) (fun i => m i r) 31 i l).symm
  rw [hs]
  exact quotient_row _ _ _ 31 (fun i l => t i r l) fun i l => rfl

end Row

/-- A sum over the tiles and the lanes is a sum over the keys. -/
theorem sum_keys {M : Type} [AddCommMonoid M] (f : Fin 8192 → M) :
    ∑ i ∈ Finset.range 32, ∑ l : Fin 256, f ⟨256 * (i % 32) + l.1, by have := Nat.mod_lt i (show 0 < 32 by decide); omega⟩ = ∑ n, f n := by
  rw [Finset.sum_range, ← Fintype.sum_prod_type']
  refine Fintype.sum_equiv (finProdFinEquiv (m := 32) (n := 256)) _ _ fun p => congrArg f (Fin.ext ?_)
  change 256 * (p.1.1 % 32) + p.2.1 = p.2.1 + 256 * p.1.1
  have := p.1.isLt
  rw [Nat.mod_eq_of_lt this, Nat.add_comm]

section Block

variable (q z : S256x512.Idx → Ideal .f32) (k v : S8192x128.Idx → Ideal .bf16)

/-- Lane `d` of head `g`. -/
def lane (g : Fin 4) (d : Fin 128) : Fin 512 := ⟨128 * g.1 + d.1, by omega⟩

/-- The score of a query of the block against a key. -/
def score (r : Fin 256) (g : Fin 4) (n : Fin 8192) : ℝ :=
  (∑ d : Fin 128, (q (ix2 r (lane g d)) : EReal).toReal * (k (ix2 n d) : EReal).toReal) / Real.sqrt 128

theorem tile_at (x : S8192x128.Idx → Ideal .bf16) (i : ℕ) (l : Fin 256) (d : Fin 128) :
    tile x i (ix2 l d) = x (ix2 ⟨256 * (i % 32) + l.1, by have := Nat.mod_lt i (show 0 < 32 by decide); omega⟩ d) := by
  unfold tile
  refine (window2 x _ 0 _ l d (by have := Nat.mod_lt i (show 0 < 32 by decide); omega) (by omega)).trans ?_
  exact congrArg (fun b => x (ix2 _ b)) (Fin.ext (Nat.zero_add _))

theorem stack_at (r : Fin 256) (g : Fin 4) (d : Fin 128) :
    stack (F := Ideal) q (ix2 ⟨256 * g.1 + r.1, by omega⟩ d) = q (ix2 r (lane g d)) * (scale : EReal) := by
  have hg : (⟨(256 * g.1 + r.1) / 256, by omega⟩ : Fin 4) = g := Fin.ext (by dsimp only; omega)
  have hr : (⟨(256 * g.1 + r.1) % 256, by omega⟩ : Fin 256) = r := Fin.ext (by dsimp only; omega)
  have h : ∀ (g' : Fin 4) (r' : Fin 256), g' = g → r' = r →
      k0_pay578 (F := Ideal) (window q ![0, 128 * g'.1] S256x128.size (inbQ g'.2)) (ix2 r' d) = q (ix2 r (lane g d)) * (scale : EReal) := by
    rintro g' r' rfl rfl
    rw [pay578_at]
    refine congrArg (· * _) ((window2 q 0 (128 * g'.1) _ r' d (by omega) (by omega)).trans ?_)
    exact congrArg (fun b => q (ix2 b _)) (Fin.ext (Nat.zero_add _))
  exact h _ _ hg hr

theorem scores_at (hq : ∀ i, ∃ t : ℝ, q i = (t : EReal)) (hk : ∀ i, ∃ t : ℝ, k i = (t : EReal)) (j : ℕ) (r : Fin 256) (g : Fin 4) (l : Fin 256) :
    scores (F := Ideal) (stack q) k j (ix3 0 ⟨256 * g.1 + r.1, by omega⟩ l)
      = ((score q k r g ⟨256 * (j % 32) + l.1, by have := Nat.mod_lt j (show 0 < 32 by decide); omega⟩ * (Real.log 2)⁻¹ : ℝ) : EReal) := by
  choose q' hq using hq
  choose k' hk using hk
  refine (pay2_at _ _ _ l).trans ?_
  unfold score
  rw [Finset.sum_div, Finset.sum_mul, coe_sum]
  refine Finset.sum_congr rfl fun d _ => ?_
  rw [stack_at, tile_at, hq, hk, EReal.toReal_coe, EReal.toReal_coe, ← EReal.coe_mul, ← EReal.coe_mul]
  congr 1
  unfold scale
  ring

/-- The block the kernel stores: the softmax of the scores against the values, gated. -/
theorem blockOut_at (hq : ∀ i, ∃ t : ℝ, q i = (t : EReal)) (hk : ∀ i, ∃ t : ℝ, k i = (t : EReal)) (r : Fin 256) (g : Fin 4) (d : Fin 128) :
    blockOut (F := Ideal) q k v z (ix2 r (lane g d))
      = (∑ n : Fin 8192, ((Real.exp (score q k r g n) / ∑ n, Real.exp (score q k r g n) : ℝ) : EReal) * v (ix2 n d))
        * (z (ix2 r (lane g d)) * Ideal.logistic (z (ix2 r (lane g d)))) := by
  refine (pay1_at _ _ z r g d).trans (congrArg (· * _) ?_)
  have hrow : ∀ ρ : Fin 1024, ∃ (g' : Fin 4) (r' : Fin 256), ρ = ⟨256 * g'.1 + r'.1, by omega⟩ := fun ρ =>
    ⟨⟨ρ.1 / 256, by omega⟩, ⟨ρ.1 % 256, by omega⟩, Fin.ext (Nat.div_add_mod ρ.1 256).symm⟩
  choose G R hGR using hrow
  have hgr : G ⟨256 * g.1 + r.1, by omega⟩ = g ∧ R ⟨256 * g.1 + r.1, by omega⟩ = r := by
    have h := congrArg Fin.val (hGR ⟨256 * g.1 + r.1, by omega⟩)
    dsimp only at h
    exact ⟨Fin.ext (by omega), Fin.ext (by omega)⟩
  refine (row_value v (fun j ρ l => score q k (R ρ) (G ρ) ⟨256 * (j % 32) + l.1, by have := Nat.mod_lt j (show 0 < 32 by decide); omega⟩) (fun j ρ l => ?_) _ d).trans ?_
  · have := scores_at q k hq hk j (R ρ) (G ρ) l
    rwa [← hGR ρ] at this
  · rw [hgr.1, hgr.2, sum_keys fun n => Real.exp (score q k r g n)]
    refine Eq.trans ?_ (sum_keys fun n => ((Real.exp (score q k r g n) / ∑ n, Real.exp (score q k r g n) : ℝ) : EReal) * v (ix2 n d))
    exact Finset.sum_congr rfl fun i _ => Finset.sum_congr rfl fun l _ => by rw [tile_at]

end Block

end Cert.KernelIdeal.Flash

end
-- ==== Proof.Refer.lean ====
module

public import proofs.«01_k».proof.Proof.Gen.ReferenceIdeal.Run
public import proofs.«01_k».proof.Proof.Softmax
public import Idealize.ShloMosaic.Lib.Pointwise

@[expose] public section

set_option maxRecDepth 16384

noncomputable section

namespace Cert.ReferenceIdeal.Attention

open Idealize.ShloMosaic Idealize.ShloMosaic.TcCoe Idealize.SL.Sem
open Cert.ReferenceIdeal Cert.ReferenceIdeal.Gen

/-! The reference's result, in the steps of its source, each read at an index. -/

section Terms

variable {F : FTy → Type} [FloatOps F]

/-- The scores. -/
def scores (q : FVec F S16384x2048 .f32) (k : FVec F S16384x512 .f32) : FVec F S2x4x4x8192x8192 .f32 :=
  Host.divf (transpose S2x4x4x8192x8192 [0, 1, 4, 3, 2]
      (Host.dotGeneral dot_S2x8192x4x128_S2x8192x4x4x128_S2x4x8192x8192x4_3_4_1_13_02_02 none
        (shapeCast _ k shapeCasts_S16384x512_S2x8192x4x128) (shapeCast _ q shapeCasts_S16384x2048_S2x8192x4x4x128))
      transposes_S2x4x8192x8192x4_S2x4x4x8192x8192_0_1_4_3_2)
    (broadcastInDim S2x4x4x8192x8192 ![] bcast_S_S2x4x4x8192x8192 (Host.sqrt (constant S_ .f32 0x43000000#32)))
/-- The largest score of a row. -/
def top (s : FVec F S2x4x4x8192x8192 .f32) : FVec F S2x4x4x8192 .f32 :=
  maximumf (broadcastInDim S2x4x4x8192 ![] bcast_S_S2x4x4x8192 (constant S_ .f32 0xFF800000#32))
    (Host.reduce FloatOps.maximumf s (constant S_ .f32 0xFF800000#32) reducesTo_S2x4x4x8192x8192_S2x4x4x8192_d4 h_S_)
/-- One number a row, over the row. -/
def over (t : FVec F S2x4x4x8192 .f32) : FVec F S2x4x4x8192x8192 .f32 :=
  broadcastInDim S2x4x4x8192x8192 ![0, 1, 2, 3, 4] bcast_S2x4x4x8192x1_S2x4x4x8192x8192_0_1_2_3_4
    (broadcastInDim S2x4x4x8192x1 ![0, 1, 2, 3] bcast_S2x4x4x8192_S2x4x4x8192x1_0_1_2_3 t)
/-- The exponentials of the scores over their sum. -/
def powers (s : FVec F S2x4x4x8192x8192 .f32) : FVec F S2x4x4x8192x8192 .f32 := Host.exp (subf s (over (top s)))
def total (p : FVec F S2x4x4x8192x8192 .f32) : FVec F S2x4x4x8192 .f32 :=
  Host.reduceAdd p (constant S_ .f32 0x00000000#32) reducesTo_S2x4x4x8192x8192_S2x4x4x8192_d4 h_S_
def weights (s : FVec F S2x4x4x8192x8192 .f32) : FVec F S2x4x4x8192x8192 .f32 := Host.divf (powers s) (over (total (powers s)))
/-- The weighted values. -/
def mixed (w : FVec F S2x4x4x8192x8192 .f32) (v : FVec F S16384x512 .f32) : FVec F S16384x2048 .f32 :=
  shapeCast _ (transpose S2x8192x4x4x128 [0, 4, 1, 3, 2]
    (Host.dotGeneral dot_S2x8192x4x128_S2x4x4x8192x8192_S2x4x128x4x8192_1_4_3_23_02_01 none (shapeCast _ v shapeCasts_S16384x512_S2x8192x4x128) w)
    transposes_S2x4x128x4x8192_S2x8192x4x4x128_0_4_1_3_2) shapeCasts_S2x8192x4x4x128_S16384x2048
/-- The gate. -/
def gate (zin : FVec F S16384x12288 .f32) : FVec F S16384x2048 .f32 :=
  mulf (extractStridedSlice S16384x2048 ![0, 2048] zin slices_S16384x12288_S16384x2048_0_2048)
    (Host.divf (broadcastInDim S16384x2048 ![] bcast_S_S16384x2048 (constant S_ .f32 0x3F800000#32))
      (addf (broadcastInDim S16384x2048 ![] bcast_S_S16384x2048 (constant S_ .f32 0x3F800000#32))
        (Host.exp (Host.negf (extractStridedSlice S16384x2048 ![0, 2048] zin slices_S16384x12288_S16384x2048_0_2048)))))
def result (q : FVec F S16384x2048 .f32) (k v : FVec F S16384x512 .f32) (zin : FVec F S16384x12288 .f32) : FVec F S16384x2048 .bf16 :=
  truncf .bf16 (mulf (mixed (weights (scores q k)) v) (gate zin)) bitsLt_bf16_f32

end Terms

theorem scores_at (q : FVec Ideal S16384x2048 .f32) (k : FVec Ideal S16384x512 .f32) (b : Fin 2) (h g : Fin 4) (i n : Fin 8192) :
    scores q k (ix5 b h g i n)
      = Ideal.div (∑ d : Fin 128, k (ix2 ⟨b.1 * 8192 + n.1, by omega⟩ ⟨h.1 * 128 + d.1, by omega⟩)
          * q (ix2 ⟨b.1 * 8192 + i.1, by omega⟩ ⟨h.1 * 512 + g.1 * 128 + d.1, by omega⟩)) (Ideal.sqrt (Ideal.ofBits .f32 0x43000000#32)) := by
  pointwise [scores]

/-- The largest of finitely many reals along the last axis is real. -/
theorem reduce_max_real {n0 n1 n2 n3 n4 : ℕ} {t : Shape} (s : (⟨5, ![n0, n1, n2, n3, n4]⟩ : Shape).Idx → EReal) (hs : ∀ i, ∃ r : ℝ, s i = r)
    (init : S_.Idx → EReal) (hi : ∀ i, init i = ⊥) (h : (⟨5, ![n0, n1, n2, n3, n4]⟩ : Shape).ReducesTo [4] t) (hu : 0 < S_.numel) (hn : 0 < n4) (j : t.Idx) :
    ∃ r : ℝ, Host.reduce (FloatOps.maximumf (F := Ideal) (φ := .f32)) s init h hu j = r := by
  rw [Host.reduce_eq_fold, h.fold_fiber_r5_a4, hi]
  exact KernelIdeal.Flash.fold_max_real _ _ (fun i => hs _) ⟨⟨0, hn⟩, Finset.mem_univ _⟩

theorem ninf : Ideal.ofBits .f32 0xFF800000#32 = (⊥ : EReal) := rfl

theorem top_real (s : FVec Ideal S2x4x4x8192x8192 .f32) (hs : ∀ i, ∃ r : ℝ, s i = (r : EReal)) (j : S2x4x4x8192.Idx) : ∃ r : ℝ, top s j = (r : EReal) := by
  have hi : ∀ i, (constant (F := Ideal) S_ .f32 0xFF800000#32 : S_.Idx → EReal) i = ⊥ := fun _ => ninf
  obtain ⟨r, hr⟩ := reduce_max_real s hs (constant (F := Ideal) S_ .f32 0xFF800000#32) hi reducesTo_S2x4x4x8192x8192_S2x4x4x8192_d4 h_S_ (by decide) j
  refine ⟨r, ?_⟩
  unfold top
  rw [maximumf_apply, hr]
  exact max_eq_right bot_le
theorem over_at (t : FVec Ideal S2x4x4x8192 .f32) (b : Fin 2) (h g : Fin 4) (i n : Fin 8192) : over t (ix5 b h g i n) = t (ix4 b h g i) := by
  pointwise [over]
theorem total_at (p : FVec Ideal S2x4x4x8192x8192 .f32) (b : Fin 2) (h g : Fin 4) (i : Fin 8192) :
    total p (ix4 b h g i) = ∑ n : Fin 8192, p (ix5 b h g i n) := by
  pointwise [total]
theorem mixed_at (w : FVec Ideal S2x4x4x8192x8192 .f32) (v : FVec Ideal S16384x512 .f32) (R : Fin 16384) (C : Fin 2048) :
    mixed w v (ix2 R C)
      = ∑ n : Fin 8192, v (ix2 ⟨R.1 / 8192 * 8192 + n.1, by omega⟩ ⟨C.1 / 512 * 128 + C.1 % 128, by omega⟩)
          * w (ix5 ⟨R.1 / 8192, by omega⟩ ⟨C.1 / 512, by omega⟩ ⟨C.1 / 128 % 4, by omega⟩ ⟨R.1 % 8192, by omega⟩ n) := by
  pointwise [mixed]
theorem gate_at (zin : FVec Ideal S16384x12288 .f32) (R : Fin 16384) (C : Fin 2048) :
    gate zin (ix2 R C) = zin (ix2 R ⟨2048 + C.1, by omega⟩) * Ideal.logistic (zin (ix2 R ⟨2048 + C.1, by omega⟩)) := by
  pointwise [gate]
  rfl

/-- The row, the lane of the queries, and the lane of the keys, of a batch, two heads, a position and a lane. -/
def brow (b : Fin 2) (i : Fin 8192) : Fin 16384 := ⟨b.1 * 8192 + i.1, by omega⟩
def qlane (h g : Fin 4) (d : Fin 128) : Fin 2048 := ⟨h.1 * 512 + g.1 * 128 + d.1, by omega⟩
def klane (h : Fin 4) (d : Fin 128) : Fin 512 := ⟨h.1 * 128 + d.1, by omega⟩
def zlane (h g : Fin 4) (d : Fin 128) : Fin 12288 := ⟨2048 + (h.1 * 512 + g.1 * 128 + d.1), by omega⟩

/-- The score of a query against a key. -/
def score (q : FVec Ideal S16384x2048 .f32) (k : FVec Ideal S16384x512 .f32) (b : Fin 2) (h g : Fin 4) (i n : Fin 8192) : ℝ :=
  (∑ d : Fin 128, (q (ix2 (brow b i) (qlane h g d)) : EReal).toReal * (k (ix2 (brow b n) (klane h d)) : EReal).toReal) / Real.sqrt 128

theorem bits_128 : Ideal.ofBits .f32 0x43000000#32 = ((128 : ℝ) : EReal) := by
  simp [Ideal.ofBits, Ideal.ieee, -EReal.coe_mul]; norm_num

theorem div_root (x : ℝ) : Ideal.div (x : EReal) (Ideal.sqrt (Ideal.ofBits .f32 0x43000000#32)) = ((x / Real.sqrt 128 : ℝ) : EReal) := by
  have hp : (0 : ℝ) < Real.sqrt 128 := Real.sqrt_pos.2 (by norm_num)
  have h0 : ((Real.sqrt 128 : ℝ) : EReal) ≠ 0 := by
    intro h; exact hp.ne' (by exact_mod_cast h)
  rw [bits_128, Ideal.sqrt_coe, if_neg (by norm_num)]
  unfold Ideal.div
  rw [if_neg h0, ← EReal.coe_inv, ← EReal.coe_mul]
  rfl

theorem ix2_of {n0 n1 : ℕ} {a a' : Fin n0} {b b' : Fin n1} (ha : a.1 = a'.1) (hb : b.1 = b'.1) : ix2 a b = ix2 a' b' := by
  rw [Fin.ext ha, Fin.ext hb]
theorem ix5_of {n0 n1 n2 n3 n4 : ℕ} {a a' : Fin n0} {b b' : Fin n1} {c c' : Fin n2} {d d' : Fin n3} (e : Fin n4)
    (ha : a.1 = a'.1) (hb : b.1 = b'.1) (hc : c.1 = c'.1) (hd : d.1 = d'.1) : ix5 a b c d e = ix5 a' b' c' d' e := by
  rw [Fin.ext ha, Fin.ext hb, Fin.ext hc, Fin.ext hd]

section Real

variable (q : FVec Ideal S16384x2048 .f32) (k v : FVec Ideal S16384x512 .f32) (zin : FVec Ideal S16384x12288 .f32)

theorem scores_real (hq : ∀ i, ∃ t : ℝ, q i = (t : EReal)) (hk : ∀ i, ∃ t : ℝ, k i = (t : EReal)) (b : Fin 2) (h g : Fin 4) (i n : Fin 8192) :
    scores q k (ix5 b h g i n) = ((score q k b h g i n : ℝ) : EReal) := by
  choose q' hq using hq
  choose k' hk using hk
  rw [scores_at]
  unfold score
  rw [← div_root, KernelIdeal.Flash.coe_sum]
  refine congrArg (Ideal.div · _) (Finset.sum_congr rfl fun d _ => ?_)
  rw [hq (ix2 (brow b i) (qlane h g d)), hk (ix2 (brow b n) (klane h d)), EReal.toReal_coe, EReal.toReal_coe, EReal.coe_mul, mul_comm]
  exact congrArg₂ (· * ·) (hq _) (hk _)

theorem powers_at (s : FVec Ideal S2x4x4x8192x8192 .f32) (b : Fin 2) (h g : Fin 4) (i n : Fin 8192) :
    powers s (ix5 b h g i n) = Ideal.exp (s (ix5 b h g i n) - top s (ix4 b h g i)) :=
  (show powers s (ix5 b h g i n) = Ideal.exp (s (ix5 b h g i n) - over (top s) (ix5 b h g i n)) from rfl).trans (by rw [over_at])

theorem weights_at (s : FVec Ideal S2x4x4x8192x8192 .f32) (b : Fin 2) (h g : Fin 4) (i n : Fin 8192) :
    weights s (ix5 b h g i n) = Ideal.div (Ideal.exp (s (ix5 b h g i n) - top s (ix4 b h g i))) (∑ n : Fin 8192, Ideal.exp (s (ix5 b h g i n) - top s (ix4 b h g i))) :=
  (show weights s (ix5 b h g i n) = Ideal.div (powers s (ix5 b h g i n)) (over (total (powers s)) (ix5 b h g i n)) from rfl).trans
    (by rw [over_at, total_at, powers_at]; exact congrArg _ (Finset.sum_congr rfl fun n _ => powers_at s b h g i n))

theorem weights_real (hq : ∀ i, ∃ t : ℝ, q i = (t : EReal)) (hk : ∀ i, ∃ t : ℝ, k i = (t : EReal)) (b : Fin 2) (h g : Fin 4) (i n : Fin 8192) :
    weights (scores q k) (ix5 b h g i n) = ((Real.exp (score q k b h g i n) / ∑ n, Real.exp (score q k b h g i n) : ℝ) : EReal) := by
  have hs : ∀ j, ∃ r : ℝ, scores q k j = (r : EReal) := by
    intro j
    have hj : j = ix5 (j 0) (j 1) (j 2) (j 3) (j 4) := eq_ix5 j
    rw [hj]
    exact ⟨_, scores_real q k hq hk _ _ _ _ _⟩
  obtain ⟨T, hT⟩ := top_real _ hs (ix4 b h g i)
  rw [weights_at, hT]
  refine Eq.trans ?_ (KernelIdeal.Flash.weight_ref (score q k b h g i) T n)
  rw [scores_real q k hq hk]
  exact congrArg _ (Finset.sum_congr rfl fun n _ => by rw [scores_real q k hq hk])

/-- The reference's result at an index. -/
theorem result_at (hq : ∀ i, ∃ t : ℝ, q i = (t : EReal)) (hk : ∀ i, ∃ t : ℝ, k i = (t : EReal)) (b : Fin 2) (h g : Fin 4) (i : Fin 8192) (d : Fin 128) :
    result q k v zin (ix2 (brow b i) (qlane h g d))
      = (∑ n : Fin 8192, ((Real.exp (score q k b h g i n) / ∑ n, Real.exp (score q k b h g i n) : ℝ) : EReal) * v (ix2 (brow b n) (klane h d)))
        * (zin (ix2 (brow b i) (zlane h g d)) * Ideal.logistic (zin (ix2 (brow b i) (zlane h g d)))) := by
  refine (show result q k v zin (ix2 (brow b i) (qlane h g d)) = mixed (weights (scores q k)) v (ix2 (brow b i) (qlane h g d)) * gate zin (ix2 (brow b i) (qlane h g d)) from rfl).trans ?_
  rw [mixed_at, gate_at]
  refine congrArg₂ (· * ·) (Finset.sum_congr rfl fun n _ => ?_) rfl
  rw [mul_comm]
  refine congrArg₂ (· * ·) (Eq.trans (congrArg _ ?_) (weights_real q k hq hk b h g i n)) (congrArg v ?_)
  · exact ix5_of n (by dsimp only [brow]; omega) (by dsimp only [qlane]; omega) (by dsimp only [qlane]; omega) (by dsimp only [brow]; omega)
  · exact ix2_of (by dsimp only [brow]; omega) (by dsimp only [qlane, klane]; omega)

end Real

/-- The reference runs to its result. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = result (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2⟩) (Value.run (F := Ideal) m ρ)

end Cert.ReferenceIdeal.Attention

end
-- ==== Proof.Array.lean ====
module

public import proofs.«01_k».proof.Proof.Run
public import proofs.«01_k».proof.Proof.Values
public import proofs.«01_k».proof.Proof.Refer
public import Idealize.ShloMosaic.Lib.Pipeline.ValueKit
public import Idealize.ShloMosaic.Lib.Pointwise

@[expose] public section

set_option maxRecDepth 16384

noncomputable section

namespace Cert.KernelIdeal.Flash

open Idealize.ShloMosaic Idealize.ShloMosaic.TcCoe Idealize.SL.Sem
open Cert.KernelIdeal.Gen
open Cert.ReferenceIdeal.Attention (brow qlane klane zlane)

/-! The output array the kernel leaves, from the blocks it stores. -/

variable (m : (ℓ : Loc nD τ sig) → Buf (Elt Ideal) ℓ)

/-- Each window's block at a point of the grid. -/
theorem idx : ∀ t : Fin cfg0.N, win0_0.index t = ![t.1 / 128 * 32 + t.1 % 32, t.1 / 32 % 4] ∧ win0_1.index t = ![t.1 / 128, t.1 / 32 % 4]
    ∧ win0_2.index t = ![t.1 / 128, t.1 / 32 % 4] ∧ win0_3.index t = ![t.1 / 128 * 32 + t.1 % 32, 4 + t.1 / 32 % 4]
    ∧ win0_4.index t = ![t.1 / 128 * 32 + t.1 % 32, t.1 / 32 % 4] :=
  (by decide +kernel : ∀ t : Fin grid0.N, _)

theorem covers : (cfg0.win 4).Covers := by decide +kernel

def bat (t : Fin cfg0.N) : Fin 2 := ⟨t.1 / 128, by have h : t.1 < 256 := t.2; omega⟩
def hd (t : Fin cfg0.N) : Fin 4 := ⟨t.1 / 32 % 4, by omega⟩
def pos (t : Fin cfg0.N) (r : Fin 256) : Fin 8192 := ⟨t.1 % 32 * 256 + r.1, by omega⟩

theorem blk0_at (c : Dev nD) (t : Fin cfg0.N) (r : Fin 256) (g : Fin 4) (d : Fin 128) :
    iblk m c 0 t (ix2 r (lane g d)) = m ((c : Thread nD τ).loc main_arg0) (ix2 (brow (bat t) (pos t r)) (qlane (hd t) g d)) := by
  blk_ext! [iblk, V, idx t, bat, hd, pos, brow, qlane, lane]
/-- The keys as the region finds them. -/
theorem V_keys (c : Dev nD) : V m c main_v0 = truncf (F := Ideal) .bf16 (m ((c : Thread nD τ).loc main_arg1)) bitsLt_bf16_f32 := by
  simp only [V, hostOps0]; after_results_simp <;> rfl
theorem blk1_emb (c : Dev nD) (t : Fin cfg0.N) (y : S8192x128.Idx) : iblk m c 1 t y = m ((c : Thread nD τ).loc main_arg1) ((win0_1.blk t).view.emb y) :=
  (show iblk m c 1 t y = V m c main_v0 ((win0_1.blk t).view.emb y) from rfl).trans (by rw [V_keys]; rfl)
theorem blk1_at (c : Dev nD) (t : Fin cfg0.N) (n : Fin 8192) (d : Fin 128) :
    iblk m c 1 t (ix2 n d) = m ((c : Thread nD τ).loc main_arg1) (ix2 (brow (bat t) n) (klane (hd t) d)) := by
  refine (blk1_emb m c t (ix2 n d)).trans ?_
  blk_ext! [idx t, bat, hd, brow, klane]
/-- The values as the region finds them. -/
theorem V_values (c : Dev nD) : V m c main_v1 = truncf (F := Ideal) .bf16 (m ((c : Thread nD τ).loc main_arg2)) bitsLt_bf16_f32 := by
  simp only [V, hostOps0]; after_results_simp <;> rfl
theorem blk2_emb (c : Dev nD) (t : Fin cfg0.N) (y : S8192x128.Idx) : iblk m c 2 t y = m ((c : Thread nD τ).loc main_arg2) ((win0_2.blk t).view.emb y) :=
  (show iblk m c 2 t y = V m c main_v1 ((win0_2.blk t).view.emb y) from rfl).trans (by rw [V_values]; rfl)
theorem blk2_at (c : Dev nD) (t : Fin cfg0.N) (n : Fin 8192) (d : Fin 128) :
    iblk m c 2 t (ix2 n d) = m ((c : Thread nD τ).loc main_arg2) (ix2 (brow (bat t) n) (klane (hd t) d)) := by
  refine (blk2_emb m c t (ix2 n d)).trans ?_
  blk_ext! [idx t, bat, hd, brow, klane]
theorem blk3_at (c : Dev nD) (t : Fin cfg0.N) (r : Fin 256) (g : Fin 4) (d : Fin 128) :
    iblk m c 3 t (ix2 r (lane g d)) = m ((c : Thread nD τ).loc main_arg3) (ix2 (brow (bat t) (pos t r)) (zlane (hd t) g d)) := by
  blk_ext! [iblk, V, idx t, bat, hd, pos, brow, zlane, lane]

theorem blk0_real (c : Dev nD) (t : Fin cfg0.N) (hq : ∀ i, ∃ x : ℝ, m ((c : Thread nD τ).loc main_arg0) i = (x : EReal)) (y : S256x512.Idx) :
    ∃ x : ℝ, iblk m c 0 t y = (x : EReal) := by
  obtain ⟨x, hx⟩ := hq ((win0_0.blk t).view.emb y)
  exact ⟨x, (show iblk m c 0 t y = V m c main_arg0 ((win0_0.blk t).view.emb y) from rfl).trans ((congrFun (V_main_arg0 m c) _).trans hx)⟩
theorem blk1_real (c : Dev nD) (t : Fin cfg0.N) (hk : ∀ i, ∃ x : ℝ, m ((c : Thread nD τ).loc main_arg1) i = (x : EReal)) (y : S8192x128.Idx) :
    ∃ x : ℝ, iblk m c 1 t y = (x : EReal) := by
  obtain ⟨x, hx⟩ := hk ((win0_1.blk t).view.emb y)
  exact ⟨x, (blk1_emb m c t y).trans hx⟩

/-- The scores of a block are the scores of its batch and heads. -/
theorem score_blk (c : Dev nD) (t : Fin cfg0.N) (r : Fin 256) (g : Fin 4) :
    score (iblk m c 0 t) (iblk m c 1 t) r g
      = Cert.ReferenceIdeal.Attention.score (m ((c : Thread nD τ).loc main_arg0)) (m ((c : Thread nD τ).loc main_arg1)) (bat t) (hd t) g (pos t r) := by
  funext n
  unfold score Cert.ReferenceIdeal.Attention.score
  refine congrArg (· / _) (Finset.sum_congr rfl fun d _ => ?_)
  rw [blk0_at, blk1_at]

theorem block_value (c : Dev nD) (t : Fin cfg0.N) (hq : ∀ i, ∃ x : ℝ, m ((c : Thread nD τ).loc main_arg0) i = (x : EReal))
    (hk : ∀ i, ∃ x : ℝ, m ((c : Thread nD τ).loc main_arg1) i = (x : EReal)) (r : Fin 256) (g : Fin 4) (d : Fin 128) :
    blockOut (iblk m c 0 t) (iblk m c 1 t) (iblk m c 2 t) (iblk m c 3 t) (ix2 r (lane g d))
      = Cert.ReferenceIdeal.Attention.result (F := Ideal) (m ((c : Thread nD τ).loc main_arg0)) (m ((c : Thread nD τ).loc main_arg1))
          (m ((c : Thread nD τ).loc main_arg2)) (m ((c : Thread nD τ).loc main_arg3)) (ix2 (brow (bat t) (pos t r)) (qlane (hd t) g d)) := by
  refine (blockOut_at (iblk m c 0 t) (iblk m c 3 t) (iblk m c 1 t) (iblk m c 2 t) (blk0_real m c t hq) (blk1_real m c t hk) r g d).trans ?_
  refine Eq.trans ?_ (Cert.ReferenceIdeal.Attention.result_at _ _ _ _ hq hk (bat t) (hd t) g (pos t r) d).symm
  rw [score_blk, blk3_at]
  exact congrArg (· * _) (Finset.sum_congr rfl fun n _ => by rw [blk2_at])

/-- The array the kernel leaves is the reference's result. -/
theorem array (c : Dev nD) (hq : ∀ i, ∃ x : ℝ, m ((c : Thread nD τ).loc main_arg0) i = (x : EReal))
    (hk : ∀ i, ∃ x : ℝ, m ((c : Thread nD τ).loc main_arg1) i = (x : EReal)) :
    (dats m 0 c).arrAt 4 cfg0.N = Cert.ReferenceIdeal.Attention.result (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ covers fun t hf y => ?_
  blk_simp
  rw [after4]
  obtain ⟨r, g, d, hy⟩ : ∃ (r : Fin 256) (g : Fin 4) (d : Fin 128), (y : S256x512.Idx) = ix2 r (lane g d) :=
    ⟨(y : S256x512.Idx) 0, ⟨((y : S256x512.Idx) 1).1 / 128, by have h : ((y : S256x512.Idx) 1).1 < 512 := ((y : S256x512.Idx) 1).2; omega⟩,
      ⟨((y : S256x512.Idx) 1).1 % 128, by omega⟩,
      (eq_ix2 (y : S256x512.Idx)).trans (congrArg (ix2 _) (Fin.ext (Nat.div_add_mod _ 128).symm))⟩
  have h := block_value m c t hq hk r g d
  rw [← hy] at h
  refine h.trans ?_
  rw [show y = (ix2 r (lane g d) : S256x512.Idx) from hy]
  generalize Cert.ReferenceIdeal.Attention.result (F := Ideal) _ _ _ _ = G
  blk_ext! [idx t, bat, hd, pos, brow, qlane, lane]

end Cert.KernelIdeal.Flash

end
-- ==== Proof.Claims.lean ====
module

public import proofs.«01_k».proof.Defs
public import proofs.«01_k».proof.Proof.Frames
public import proofs.«01_k».proof.Proof.Array
public import Idealize.ShloMosaic.Lib.Claim

@[expose] public section

noncomputable section

namespace Cert.KernelIdeal.Flash

open Idealize.ShloMosaic Idealize.ShloMosaic.TcCoe Idealize.SL.Sem
open Cert.KernelIdeal.Gen

/-! The value claim: the kernel's result is the reference's, for finite queries and keys. -/

/-- The side conditions the precondition states. -/
theorem pre_facts : Cert.Pre_finite_scores.Facts where
  bcast_S_S16384x2048 := by decide
  bcast_S_S16384x512 := by decide

/-- A value whose absolute value is below infinity is real. -/
theorem real_of_abs (x : EReal) (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  have hlt : max x (-x) < ⊤ := by
    by_contra hn
    simp [Ideal.cmp, hn] at h
  induction x using EReal.rec with
  | bot => simp at hlt
  | top => simp at hlt
  | coe r => exact ⟨r, rfl⟩

theorem queries_real [hPre : Cert.Pre_finite_scores.Facts] (m : (ℓ : Loc nD τ sig) → Buf (Elt Ideal) ℓ) (h : Cert.Pre_KernelIdeal_finite_scores m) (c : Dev nD)
    (i : S16384x2048.Idx) : ∃ x : ℝ, m ((c : Thread nD τ).loc main_arg0) i = (x : EReal) :=
  real_of_abs _ (congrFun (h c).1 i)
theorem keys_real [hPre : Cert.Pre_finite_scores.Facts] (m : (ℓ : Loc nD τ sig) → Buf (Elt Ideal) ℓ) (h : Cert.Pre_KernelIdeal_finite_scores m) (c : Dev nD)
    (i : S16384x512.Idx) : ∃ x : ℝ, m ((c : Thread nD τ).loc main_arg1) i = (x : EReal) :=
  real_of_abs _ (congrFun (h c).2 i)

/-- The kernel runs to the reference's result. -/
theorem run_value (m : (ℓ : Loc nD τ sig) → Buf (Elt Ideal) ℓ) (ρ : Dev nD → PrngReg)
    (hq : ∀ (c : Dev nD) (i : S16384x2048.Idx), ∃ x : ℝ, m ((c : Thread nD τ).loc main_arg0) i = (x : EReal))
    (hk : ∀ (c : Dev nD) (i : S16384x512.Idx), ∃ x : ℝ, m ((c : Thread nD τ).loc main_arg1) i = (x : EReal)) :
    θ_run (defs (F := Ideal)) (onTc (τ := τ) (main (F := Ideal))) ⟨m, fun _ => 0, ρ⟩ fun r => ∀ c : Dev nD,
      r.2.mem ((c.tc : Thread nD τ).loc main_v2) = Cert.ReferenceIdeal.Attention.result (F := Ideal) (m ((c : Thread nD τ).loc main_arg0))
        (m ((c : Thread nD τ).loc main_arg1)) (m ((c : Thread nD τ).loc main_arg2)) (m ((c : Thread nD τ).loc main_arg3)) :=
  (θ_run defs _ _).mono (fun _ h c => ((h c).1 4).trans (array m c (hq c) (hk c))) (run_main m ρ)

theorem frame_ideal_finite [hPre : Cert.Pre_finite_scores.Facts] : Cert.quiescent_KernelIdeal_pre_finite_scores := fun m ρ _ => frame_ideal m ρ trivial
theorem frame_reference_finite [hPre : Cert.Pre_finite_scores.Facts] : Cert.quiescent_ReferenceIdeal_pre_finite_scores := fun m ρ _ => frame_reference m ρ trivial

theorem algebraic [hPre : Cert.Pre_finite_scores.Facts] : Cert.algebraic_KernelIdeal_ReferenceIdeal_pre_finite_scores := fun m ρ m' ρ' hpre hargs => by
  refine ⟨fun c => Cert.ReferenceIdeal.Attention.result (F := Ideal) (m ((c : Thread nD τ).loc main_arg0)) (m ((c : Thread nD τ).loc main_arg1))
    (m ((c : Thread nD τ).loc main_arg2)) (m ((c : Thread nD τ).loc main_arg3)), ?_, ?_⟩
  · exact (θ_run defs _ _).mono (fun r h c => ⟨h.1 c, h.2.1 c⟩)
      (θ_run_and (run_value m ρ (queries_real m hpre) (keys_real m hpre)) (frame m ρ))
  · refine (θ_run Cert.ReferenceIdeal.defs _ _).mono (fun r h c => ⟨(h c).1.trans ?_, (h c).2⟩) (Cert.ReferenceIdeal.Attention.run_result m' ρ')
    rw [(hargs c).1, (hargs c).2.1, (hargs c).2.2.1, (hargs c).2.2.2]

end Cert.KernelIdeal.Flash

end
-- ==== Proof.InOrder.lean ====
module

public import proofs.«01_k».proof.Proof.Gen.InProjIdeal.Value
public import proofs.«01_k».proof.Proof.Gen.InProjReferenceIdeal.Run
public import Idealize.ShloMosaic.Lib.Pointwise

@[expose] public section

set_option maxRecDepth 16384

noncomputable section

namespace Cert.InProjIdeal.Order

open Idealize.ShloMosaic Idealize.ShloMosaic.TcCoe Idealize.SL.Sem

/-! The order of the projection's columns: the kernel takes the weight's columns in it, the reference the product's. -/

/-- The lane a lane of the output holds. -/
def lane (x : ℕ) : ℕ := x / 128 * 128 + x / 32 % 2 * 64 + x / 64 % 2 * 32 + x % 32

/-- The column of the weight a column of the output holds. -/
def column (e : ℕ) : ℕ :=
  if e < 2048 then 7184 + lane e else if e < 4096 then 8208 + e else if e < 11264 then e - 4096
  else if e < 11776 then 9232 + lane (e - 11264) else e - 2032

theorem column_queries {e : ℕ} (x : ℕ) (hx : x < 2048) (he : e = x) : column e = 7184 + lane x := by
  unfold column
  rw [if_pos (show e < 2048 by omega), he]
theorem column_gates {e : ℕ} (x : ℕ) (hx : x < 2048) (he : e = 2048 + x) : column e = 10256 + x := by
  unfold column
  rw [if_neg (show ¬ e < 2048 by omega), if_pos (show e < 4096 by omega)]
  omega
theorem column_mixers {e : ℕ} (x : ℕ) (hx : x < 7168) (he : e = 4096 + x) : column e = x := by
  unfold column
  rw [if_neg (show ¬ e < 2048 by omega), if_neg (show ¬ e < 4096 by omega), if_pos (show e < 11264 by omega)]
  omega
theorem column_keys {e : ℕ} (x : ℕ) (hx : x < 512) (he : e = 11264 + x) : column e = 9232 + lane x := by
  unfold column
  rw [if_neg (show ¬ e < 2048 by omega), if_neg (show ¬ e < 4096 by omega), if_neg (show ¬ e < 11264 by omega), if_pos (show e < 11776 by omega), he,
    Nat.add_sub_cancel_left]
theorem column_values {e : ℕ} (x : ℕ) (hx : x < 512) (he : e = 11776 + x) : column e = 9744 + x := by
  unfold column
  rw [if_neg (show ¬ e < 2048 by omega), if_neg (show ¬ e < 4096 by omega), if_neg (show ¬ e < 11264 by omega), if_neg (show ¬ e < 11776 by omega)]
  omega

/-- A choice is `R` when both of its sides are. -/
theorem pick {q : Prop} [Decidable q] {x : q → EReal} {y : ¬ q → EReal} {R : EReal} (hx : ∀ h, x h = R) (hy : ∀ h, y h = R) : dite q x y = R := by
  split
  · exact hx _
  · exact hy _

theorem column_lt (e : Fin 12288) : column e.1 < 12304 := by
  unfold column lane
  split_ifs <;> omega

section Weights

open Cert.InProjIdeal Cert.InProjIdeal.Gen

/-- The queries' and the keys' columns of the weight, in the output's order. -/
def queries (w : FVec Ideal S4096x12304 .f32) : FVec Ideal S4096x2048 .f32 :=
  shapeCast S4096x2048 (transpose S4096x16x2x2x32 [0, 1, 3, 2, 4]
    (shapeCast S4096x16x2x2x32 (extractStridedSlice S4096x2048 ![0, 7184] w slices_S4096x12304_S4096x2048_0_7184) shapeCasts_S4096x2048_S4096x16x2x2x32)
    transposes_S4096x16x2x2x32_S4096x16x2x2x32_0_1_3_2_4) shapeCasts_S4096x16x2x2x32_S4096x2048
def keys (w : FVec Ideal S4096x12304 .f32) : FVec Ideal S4096x512 .f32 :=
  shapeCast S4096x512 (transpose S4096x4x2x2x32 [0, 1, 3, 2, 4]
    (shapeCast S4096x4x2x2x32 (extractStridedSlice S4096x512 ![0, 9232] w slices_S4096x12304_S4096x512_0_9232) shapeCasts_S4096x512_S4096x4x2x2x32)
    transposes_S4096x4x2x2x32_S4096x4x2x2x32_0_1_3_2_4) shapeCasts_S4096x4x2x2x32_S4096x512

theorem queries_at (w : FVec Ideal S4096x12304 .f32) (k : Fin 4096) (x : Fin 2048) (j : Fin 12304) (hj : j.1 = 7184 + lane x.1) :
    queries w (ix2 k x) = w (ix2 k j) := by
  pointwise [queries]
  exact congrArg (fun c => w (ix2 k c)) (Fin.ext hj.symm)
theorem keys_at (w : FVec Ideal S4096x12304 .f32) (k : Fin 4096) (x : Fin 512) (j : Fin 12304) (hj : j.1 = 9232 + lane x.1) :
    keys w (ix2 k x) = w (ix2 k j) := by
  pointwise [keys]
  exact congrArg (fun c => w (ix2 k c)) (Fin.ext hj.symm)
/-- Five arrays side by side. -/
def beside (q z : FVec Ideal S4096x2048 .f32) (u : FVec Ideal S4096x7168 .f32) (n v : FVec Ideal S4096x512 .f32) : FVec Ideal S4096x12288 .f32 :=
  concatenate S4096x12288 1
    [⟨S4096x2048, (q : (⟨S4096x2048, .f32⟩ : BufTy).Contents (Elt Ideal))⟩, ⟨S4096x2048, (z : (⟨S4096x2048, .f32⟩ : BufTy).Contents (Elt Ideal))⟩,
     ⟨S4096x7168, (u : (⟨S4096x7168, .f32⟩ : BufTy).Contents (Elt Ideal))⟩, ⟨S4096x512, (n : (⟨S4096x512, .f32⟩ : BufTy).Contents (Elt Ideal))⟩,
     ⟨S4096x512, (v : (⟨S4096x512, .f32⟩ : BufTy).Contents (Elt Ideal))⟩]
    concatenates_S4096x2048_S4096x2048_S4096x7168_S4096x512_S4096x512_S4096x12288_d1
/-- The weight's columns in the output's order. -/
def ordered (w : FVec Ideal S4096x12304 .f32) : FVec Ideal S4096x12288 .f32 :=
  beside (queries w) (extractStridedSlice S4096x2048 ![0, 10256] w slices_S4096x12304_S4096x2048_0_10256)
    (extractStridedSlice S4096x7168 ![0, 0] w slices_S4096x12304_S4096x7168_0_0) (keys w)
    (extractStridedSlice S4096x512 ![0, 9744] w slices_S4096x12304_S4096x512_0_9744)

theorem gates_at (w : FVec Ideal S4096x12304 .f32) (k : Fin 4096) (x : Fin 2048) (j : Fin 12304) (hj : j.1 = 10256 + x.1) :
    extractStridedSlice S4096x2048 ![0, 10256] w slices_S4096x12304_S4096x2048_0_10256 (ix2 k x) = w (ix2 k j) := by
  pointwise
  exact congrArg (fun c => w (ix2 k c)) (Fin.ext (by simp only; omega))
theorem mixers_at (w : FVec Ideal S4096x12304 .f32) (k : Fin 4096) (x : Fin 7168) (j : Fin 12304) (hj : j.1 = x.1) :
    extractStridedSlice S4096x7168 ![0, 0] w slices_S4096x12304_S4096x7168_0_0 (ix2 k x) = w (ix2 k j) := by
  pointwise
  exact congrArg (fun c => w (ix2 k c)) (Fin.ext (by simp only; omega))
theorem values_at (w : FVec Ideal S4096x12304 .f32) (k : Fin 4096) (x : Fin 512) (j : Fin 12304) (hj : j.1 = 9744 + x.1) :
    extractStridedSlice S4096x512 ![0, 9744] w slices_S4096x12304_S4096x512_0_9744 (ix2 k x) = w (ix2 k j) := by
  pointwise
  exact congrArg (fun c => w (ix2 k c)) (Fin.ext (by simp only; omega))

theorem beside_at (q z : FVec Ideal S4096x2048 .f32) (u : FVec Ideal S4096x7168 .f32) (n v : FVec Ideal S4096x512 .f32) (k : Fin 4096) (e : Fin 12288) (R : EReal)
    (hq : ∀ x : Fin 2048, e.1 = x.1 → q (ix2 k x) = R) (hz : ∀ x : Fin 2048, e.1 = 2048 + x.1 → z (ix2 k x) = R)
    (hu : ∀ x : Fin 7168, e.1 = 4096 + x.1 → u (ix2 k x) = R) (hn : ∀ x : Fin 512, e.1 = 11264 + x.1 → n (ix2 k x) = R)
    (hv : ∀ x : Fin 512, e.1 = 11776 + x.1 → v (ix2 k x) = R) :
    beside q z u n v (ix2 k e) = R := by
  pointwise [beside]
  exact pick (fun _ => hq _ rfl) fun _ => pick (fun _ => hz _ (by simp only; omega)) fun _ => pick (fun _ => hu _ (by simp only; omega)) fun _ => pick (fun _ => hn _ (by simp only; omega)) fun _ =>
    hv _ (by simp only; omega)

theorem ordered_at (w : FVec Ideal S4096x12304 .f32) (k : Fin 4096) (e : Fin 12288) (j : Fin 12304) (hj : j.1 = column e.1) :
    ordered w (ix2 k e) = w (ix2 k j) := by
  exact beside_at _ _ _ _ _ k e _ (fun x hx => queries_at w k x j (hj.trans (column_queries _ x.2 hx)))
    (fun x hx => gates_at w k x j (hj.trans (column_gates _ x.2 hx))) (fun x hx => mixers_at w k x j (hj.trans (column_mixers _ x.2 hx)))
    (fun x hx => keys_at w k x j (hj.trans (column_keys _ x.2 hx))) (fun x hx => values_at w k x j (hj.trans (column_values _ x.2 hx)))

end Weights

section Product

open Cert.InProjReferenceIdeal Cert.InProjReferenceIdeal.Gen

/-- The queries' and the keys' columns of the product, in the output's order. -/
def product_queries (p : FVec Ideal S16384x12304 .f32) : FVec Ideal S16384x2048 .f32 :=
  shapeCast _ (transpose S16384x16x2x2x32 [0, 1, 3, 2, 4] (shapeCast _ (extractStridedSlice S16384x2048 ![0, 7184] p slices_S16384x12304_S16384x2048_0_7184)
    shapeCasts_S16384x2048_S16384x16x2x2x32) transposes_S16384x16x2x2x32_S16384x16x2x2x32_0_1_3_2_4) shapeCasts_S16384x16x2x2x32_S16384x2048
def product_keys (p : FVec Ideal S16384x12304 .f32) : FVec Ideal S16384x512 .f32 :=
  shapeCast _ (transpose S16384x4x2x2x32 [0, 1, 3, 2, 4] (shapeCast _ (extractStridedSlice S16384x512 ![0, 9232] p slices_S16384x12304_S16384x512_0_9232)
    shapeCasts_S16384x512_S16384x4x2x2x32) transposes_S16384x4x2x2x32_S16384x4x2x2x32_0_1_3_2_4) shapeCasts_S16384x4x2x2x32_S16384x512

theorem product_queries_of (p : FVec Ideal S16384x12304 .f32) (k : Fin 16384) (x : Fin 2048) (j : Fin 12304) (hj : j.1 = 7184 + lane x.1) :
    product_queries p (ix2 k x) = p (ix2 k j) := by
  pointwise [product_queries]
  exact congrArg (fun c => p (ix2 k c)) (Fin.ext hj.symm)
theorem product_keys_of (p : FVec Ideal S16384x12304 .f32) (k : Fin 16384) (x : Fin 512) (j : Fin 12304) (hj : j.1 = 9232 + lane x.1) :
    product_keys p (ix2 k x) = p (ix2 k j) := by
  pointwise [product_keys]
  exact congrArg (fun c => p (ix2 k c)) (Fin.ext hj.symm)

/-- Eleven arrays side by side. -/
def row11 (q z : FVec Ideal S16384x2048 .f32) (u0 u1 u2 u3 u4 u5 u6 : FVec Ideal S16384x1024 .f32) (n v : FVec Ideal S16384x512 .f32) : FVec Ideal S16384x12288 .f32 :=
  concatenate S16384x12288 1
    [⟨S16384x2048, (q : (⟨S16384x2048, .f32⟩ : BufTy).Contents (Elt Ideal))⟩, ⟨S16384x2048, (z : (⟨S16384x2048, .f32⟩ : BufTy).Contents (Elt Ideal))⟩,
     ⟨S16384x1024, (u0 : (⟨S16384x1024, .f32⟩ : BufTy).Contents (Elt Ideal))⟩,
     ⟨S16384x1024, (u1 : (⟨S16384x1024, .f32⟩ : BufTy).Contents (Elt Ideal))⟩,
     ⟨S16384x1024, (u2 : (⟨S16384x1024, .f32⟩ : BufTy).Contents (Elt Ideal))⟩,
     ⟨S16384x1024, (u3 : (⟨S16384x1024, .f32⟩ : BufTy).Contents (Elt Ideal))⟩,
     ⟨S16384x1024, (u4 : (⟨S16384x1024, .f32⟩ : BufTy).Contents (Elt Ideal))⟩,
     ⟨S16384x1024, (u5 : (⟨S16384x1024, .f32⟩ : BufTy).Contents (Elt Ideal))⟩,
     ⟨S16384x1024, (u6 : (⟨S16384x1024, .f32⟩ : BufTy).Contents (Elt Ideal))⟩,
     ⟨S16384x512, (n : (⟨S16384x512, .f32⟩ : BufTy).Contents (Elt Ideal))⟩, ⟨S16384x512, (v : (⟨S16384x512, .f32⟩ : BufTy).Contents (Elt Ideal))⟩]
    concatenates_S16384x2048_S16384x2048_S16384x1024_S16384x1024_S16384x1024_S16384x1024_S16384x1024_S16384x1024_S16384x1024_S16384x512_S16384x512_S16384x12288_d1

/-- The product's columns in the output's order. -/
def arranged (p : FVec Ideal S16384x12304 .f32) : FVec Ideal S16384x12288 .f32 :=
  row11 (product_queries p) (extractStridedSlice S16384x2048 ![0, 10256] p slices_S16384x12304_S16384x2048_0_10256)
    (extractStridedSlice S16384x1024 ![0, 0] p slices_S16384x12304_S16384x1024_0_0)
    (extractStridedSlice S16384x1024 ![0, 1024] p slices_S16384x12304_S16384x1024_0_1024)
    (extractStridedSlice S16384x1024 ![0, 2048] p slices_S16384x12304_S16384x1024_0_2048)
    (extractStridedSlice S16384x1024 ![0, 3072] p slices_S16384x12304_S16384x1024_0_3072)
    (extractStridedSlice S16384x1024 ![0, 4096] p slices_S16384x12304_S16384x1024_0_4096)
    (extractStridedSlice S16384x1024 ![0, 5120] p slices_S16384x12304_S16384x1024_0_5120)
    (extractStridedSlice S16384x1024 ![0, 6144] p slices_S16384x12304_S16384x1024_0_6144)
    (product_keys p) (extractStridedSlice S16384x512 ![0, 9744] p slices_S16384x12304_S16384x512_0_9744)

theorem gates_of (p : FVec Ideal S16384x12304 .f32) (k : Fin 16384) (x : Fin 2048) (j : Fin 12304) (hj : j.1 = 10256 + x.1) :
    extractStridedSlice S16384x2048 ![0, 10256] p slices_S16384x12304_S16384x2048_0_10256 (ix2 k x) = p (ix2 k j) := by
  pointwise
  exact congrArg (fun c => p (ix2 k c)) (Fin.ext (by simp only; omega))
theorem mixer0_of (p : FVec Ideal S16384x12304 .f32) (k : Fin 16384) (x : Fin 1024) (j : Fin 12304) (hj : j.1 = 0 + x.1) :
    extractStridedSlice S16384x1024 ![0, 0] p slices_S16384x12304_S16384x1024_0_0 (ix2 k x) = p (ix2 k j) := by
  pointwise
  exact congrArg (fun c => p (ix2 k c)) (Fin.ext (by simp only; omega))
theorem mixer1_of (p : FVec Ideal S16384x12304 .f32) (k : Fin 16384) (x : Fin 1024) (j : Fin 12304) (hj : j.1 = 1024 + x.1) :
    extractStridedSlice S16384x1024 ![0, 1024] p slices_S16384x12304_S16384x1024_0_1024 (ix2 k x) = p (ix2 k j) := by
  pointwise
  exact congrArg (fun c => p (ix2 k c)) (Fin.ext (by simp only; omega))
theorem mixer2_of (p : FVec Ideal S16384x12304 .f32) (k : Fin 16384) (x : Fin 1024) (j : Fin 12304) (hj : j.1 = 2048 + x.1) :
    extractStridedSlice S16384x1024 ![0, 2048] p slices_S16384x12304_S16384x1024_0_2048 (ix2 k x) = p (ix2 k j) := by
  pointwise
  exact congrArg (fun c => p (ix2 k c)) (Fin.ext (by simp only; omega))
theorem mixer3_of (p : FVec Ideal S16384x12304 .f32) (k : Fin 16384) (x : Fin 1024) (j : Fin 12304) (hj : j.1 = 3072 + x.1) :
    extractStridedSlice S16384x1024 ![0, 3072] p slices_S16384x12304_S16384x1024_0_3072 (ix2 k x) = p (ix2 k j) := by
  pointwise
  exact congrArg (fun c => p (ix2 k c)) (Fin.ext (by simp only; omega))
theorem mixer4_of (p : FVec Ideal S16384x12304 .f32) (k : Fin 16384) (x : Fin 1024) (j : Fin 12304) (hj : j.1 = 4096 + x.1) :
    extractStridedSlice S16384x1024 ![0, 4096] p slices_S16384x12304_S16384x1024_0_4096 (ix2 k x) = p (ix2 k j) := by
  pointwise
  exact congrArg (fun c => p (ix2 k c)) (Fin.ext (by simp only; omega))
theorem mixer5_of (p : FVec Ideal S16384x12304 .f32) (k : Fin 16384) (x : Fin 1024) (j : Fin 12304) (hj : j.1 = 5120 + x.1) :
    extractStridedSlice S16384x1024 ![0, 5120] p slices_S16384x12304_S16384x1024_0_5120 (ix2 k x) = p (ix2 k j) := by
  pointwise
  exact congrArg (fun c => p (ix2 k c)) (Fin.ext (by simp only; omega))
theorem mixer6_of (p : FVec Ideal S16384x12304 .f32) (k : Fin 16384) (x : Fin 1024) (j : Fin 12304) (hj : j.1 = 6144 + x.1) :
    extractStridedSlice S16384x1024 ![0, 6144] p slices_S16384x12304_S16384x1024_0_6144 (ix2 k x) = p (ix2 k j) := by
  pointwise
  exact congrArg (fun c => p (ix2 k c)) (Fin.ext (by simp only; omega))
theorem values_of (p : FVec Ideal S16384x12304 .f32) (k : Fin 16384) (x : Fin 512) (j : Fin 12304) (hj : j.1 = 9744 + x.1) :
    extractStridedSlice S16384x512 ![0, 9744] p slices_S16384x12304_S16384x512_0_9744 (ix2 k x) = p (ix2 k j) := by
  pointwise
  exact congrArg (fun c => p (ix2 k c)) (Fin.ext (by simp only; omega))

theorem row11_at (q z : FVec Ideal S16384x2048 .f32) (u0 u1 u2 u3 u4 u5 u6 : FVec Ideal S16384x1024 .f32) (n v : FVec Ideal S16384x512 .f32)
    (k : Fin 16384) (e : Fin 12288) (R : EReal)
    (hq : ∀ x : Fin 2048, e.1 = x.1 → q (ix2 k x) = R) (hz : ∀ x : Fin 2048, e.1 = 2048 + x.1 → z (ix2 k x) = R)
    (h0 : ∀ x : Fin 1024, e.1 = 4096 + x.1 → u0 (ix2 k x) = R)
    (h1 : ∀ x : Fin 1024, e.1 = 5120 + x.1 → u1 (ix2 k x) = R)
    (h2 : ∀ x : Fin 1024, e.1 = 6144 + x.1 → u2 (ix2 k x) = R)
    (h3 : ∀ x : Fin 1024, e.1 = 7168 + x.1 → u3 (ix2 k x) = R)
    (h4 : ∀ x : Fin 1024, e.1 = 8192 + x.1 → u4 (ix2 k x) = R)
    (h5 : ∀ x : Fin 1024, e.1 = 9216 + x.1 → u5 (ix2 k x) = R)
    (h6 : ∀ x : Fin 1024, e.1 = 10240 + x.1 → u6 (ix2 k x) = R)
    (hn : ∀ x : Fin 512, e.1 = 11264 + x.1 → n (ix2 k x) = R) (hv : ∀ x : Fin 512, e.1 = 11776 + x.1 → v (ix2 k x) = R) :
    row11 q z u0 u1 u2 u3 u4 u5 u6 n v (ix2 k e) = R := by
  pointwise [row11]
  exact pick (fun _ => hq _ rfl) fun _ => pick (fun _ => hz _ (by simp only; omega)) fun _ => pick (fun _ => h0 _ (by simp only; omega)) fun _ => pick (fun _ => h1 _ (by simp only; omega)) fun _ =>
    pick (fun _ => h2 _ (by simp only; omega)) fun _ => pick (fun _ => h3 _ (by simp only; omega)) fun _ => pick (fun _ => h4 _ (by simp only; omega)) fun _ => pick (fun _ => h5 _ (by simp only; omega)) fun _ =>
    pick (fun _ => h6 _ (by simp only; omega)) fun _ => pick (fun _ => hn _ (by simp only; omega)) fun _ => hv _ (by simp only; omega)

theorem arranged_at (p : FVec Ideal S16384x12304 .f32) (k : Fin 16384) (e : Fin 12288) (j : Fin 12304) (hj : j.1 = column e.1) :
    arranged p (ix2 k e) = p (ix2 k j) := by
  exact row11_at _ _ _ _ _ _ _ _ _ _ _ k e _ (fun x hx => product_queries_of p k x j (hj.trans (column_queries _ x.2 hx)))
    (fun x hx => gates_of p k x j (hj.trans (column_gates _ x.2 hx)))
    (fun x hx => mixer0_of p k x j (hj.trans (column_mixers (0 + x.1) (by omega) (by omega))))
    (fun x hx => mixer1_of p k x j (hj.trans (column_mixers (1024 + x.1) (by omega) (by omega))))
    (fun x hx => mixer2_of p k x j (hj.trans (column_mixers (2048 + x.1) (by omega) (by omega))))
    (fun x hx => mixer3_of p k x j (hj.trans (column_mixers (3072 + x.1) (by omega) (by omega))))
    (fun x hx => mixer4_of p k x j (hj.trans (column_mixers (4096 + x.1) (by omega) (by omega))))
    (fun x hx => mixer5_of p k x j (hj.trans (column_mixers (5120 + x.1) (by omega) (by omega))))
    (fun x hx => mixer6_of p k x j (hj.trans (column_mixers (6144 + x.1) (by omega) (by omega))))
    (fun x hx => product_keys_of p k x j (hj.trans (column_keys _ x.2 hx))) (fun x hx => values_of p k x j (hj.trans (column_values _ x.2 hx)))

end Product

end Cert.InProjIdeal.Order

end
-- ==== Proof.InValue.lean ====
module

public import proofs.«01_k».proof.Defs
public import proofs.«01_k».proof.Proof.Gen.InProj.Frame
public import proofs.«01_k».proof.Proof.InOrder
public import Idealize.ShloMosaic.Lib.Pipeline.ValueKit
public import Idealize.ShloMosaic.Lib.Quiescent
public import Idealize.ShloMosaic.Lib.Claim

@[expose] public section

set_option maxRecDepth 16384

noncomputable section

namespace Cert.InProjIdeal.Order

open Idealize.ShloMosaic Idealize.ShloMosaic.TcCoe Idealize.SL.Sem
open Cert.InProjIdeal Cert.InProjIdeal.Gen

/-! The input projection: the product with the reordered weight is the product with the weight, reordered. -/

/-- The reference's product, and its result. -/
def product (h : FVec Ideal Cert.InProjReferenceIdeal.S16384x4096 .f32) (w : FVec Ideal Cert.InProjReferenceIdeal.S4096x12304 .f32) :
    FVec Ideal Cert.InProjReferenceIdeal.S16384x12304 .f32 :=
  Host.dotGeneral Cert.InProjReferenceIdeal.dot_S16384x4096_S4096x12304_S16384x12304_1_0_0_1_n_n none h w
def result (h : FVec Ideal Cert.InProjReferenceIdeal.S16384x4096 .f32) (w : FVec Ideal Cert.InProjReferenceIdeal.S4096x12304 .f32) :
    FVec Ideal Cert.InProjReferenceIdeal.S16384x12288 .f32 := arranged (product h w)

theorem product_at (h : FVec Ideal S16384x4096 .f32) (w : FVec Ideal S4096x12304 .f32) (r : Fin 16384) (j : Fin 12304) :
    product h w (ix2 r j) = ∑ k : Fin 4096, h (ix2 r k) * w (ix2 k j) := by
  pointwise [product]
theorem result_at (h : FVec Ideal S16384x4096 .f32) (w : FVec Ideal S4096x12304 .f32) (r : Fin 16384) (e : Fin 12288) :
    result h w (ix2 r e) = ∑ k : Fin 4096, h (ix2 r k) * ordered w (ix2 k e) := by
  refine (arranged_at (product h w) r e ⟨column e.1, column_lt e⟩ rfl).trans ((product_at h w r _).trans (Finset.sum_congr rfl fun k _ => ?_))
  rw [ordered_at w k e ⟨column e.1, column_lt e⟩ rfl]

theorem body_at (h : FVec Ideal S1024x4096 .bf16) (w : FVec Ideal S4096x1024 .bf16) (r e : Fin 1024) :
    k0_pay1 (F := Ideal) h w (ix2 r e) = ∑ k : Fin 4096, h (ix2 r k) * w (ix2 k e) := by
  pointwise [k0_pay1]

variable (m : (ℓ : Loc nD τ sig) → Buf (Elt Ideal) ℓ)

/-- Each window's block at a point of the grid. -/
theorem idx : ∀ t : Fin cfg0.N, win0_0.index t = ![t.1 / 12, 0] ∧ win0_1.index t = ![0, t.1 % 12] ∧ win0_2.index t = ![t.1 / 12, t.1 % 12] :=
  (by decide +kernel : ∀ t : Fin grid0.N, _)

def row (t : Fin cfg0.N) (r : Fin 1024) : Fin 16384 := ⟨t.1 / 12 * 1024 + r.1, by have h : t.1 < 192 := t.2; omega⟩
def col (t : Fin cfg0.N) (e : Fin 1024) : Fin 12288 := ⟨t.1 % 12 * 1024 + e.1, by omega⟩

theorem V_h (c : Dev nD) : V m c main_v13 = truncf (F := Ideal) .bf16 (m ((c : Thread nD τ).loc main_arg0)) bitsLt_bf16_f32 := by
  simp only [V, hostOps0]; after_results_simp <;> rfl
theorem V_w (c : Dev nD) : V m c main_v12 = truncf (F := Ideal) .bf16 (ordered (m ((c : Thread nD τ).loc main_arg1))) bitsLt_bf16_f32 := by
  simp only [V, hostOps0]; after_results_simp <;> rfl

theorem h_at (c : Dev nD) (t : Fin cfg0.N) (r : Fin 1024) (k : Fin 4096) :
    iblk m c 0 t (ix2 r k) = m ((c : Thread nD τ).loc main_arg0) (ix2 (row t r) k) := by
  refine (show iblk m c 0 t (ix2 r k) = V m c main_v13 ((win0_0.blk t).view.emb (ix2 r k)) from rfl).trans (Eq.trans (by rw [V_h]; rfl)
    (?_ : m ((c : Thread nD τ).loc main_arg0) ((win0_0.blk t).view.emb (ix2 r k)) = _))
  blk_ext! [idx t, row]
theorem w_at (c : Dev nD) (t : Fin cfg0.N) (k : Fin 4096) (e : Fin 1024) :
    iblk m c 1 t (ix2 k e) = ordered (m ((c : Thread nD τ).loc main_arg1)) (ix2 k (col t e)) := by
  refine (show iblk m c 1 t (ix2 k e) = V m c main_v12 ((win0_1.blk t).view.emb (ix2 k e)) from rfl).trans (Eq.trans (by rw [V_w]; rfl)
    (?_ : ordered (m ((c : Thread nD τ).loc main_arg1)) ((win0_1.blk t).view.emb (ix2 k e)) = _))
  generalize ordered (m ((c : Thread nD τ).loc main_arg1)) = W
  blk_ext! [idx t, col]

theorem block (c : Dev nD) (t : Fin cfg0.N) (r e : Fin 1024) :
    k0_pay1 (F := Ideal) (iblk m c 0 t) (iblk m c 1 t) (ix2 r e)
      = result (m ((c : Thread nD τ).loc main_arg0)) (m ((c : Thread nD τ).loc main_arg1)) (ix2 (row t r) (col t e)) := by
  refine (body_at _ _ r e).trans (Eq.trans ?_ (result_at _ _ (row t r) (col t e)).symm)
  exact Finset.sum_congr rfl fun k _ => congrArg₂ (· * ·) (h_at m c t r k) (w_at m c t k e)

/-- The array the kernel leaves is the reference's result. -/
theorem array (c : Dev nD) : (dats m 0 c).arrAt 2 cfg0.N = result (m ((c : Thread nD τ).loc main_arg0)) (m ((c : Thread nD τ).loc main_arg1)) := by
  refine (dats m 0 c).arrAt_eq_of_covers 2 _ (by decide +kernel) fun t _ y => ?_
  blk_simp
  rw [after0_2]; frame_out
  have h := block m c t ((y : S1024x1024.Idx) 0) ((y : S1024x1024.Idx) 1)
  rw [← show y = (ix2 ((y : S1024x1024.Idx) 0) ((y : S1024x1024.Idx) 1) : S1024x1024.Idx) from eq_ix2 (y : S1024x1024.Idx)] at h
  refine h.trans ?_
  generalize result _ _ = G
  blk_ext! [idx t, row, col]

theorem frame_kernel : Cert.quiescent_InProj := fun m ρ _ => Cert.InProj.Gen.frame m ρ
theorem frame_ideal : Cert.quiescent_InProjIdeal := fun m ρ _ => Cert.InProjIdeal.Gen.frame m ρ
theorem frame_reference : Cert.quiescent_InProjReferenceIdeal := fun m ρ _ =>
  (θ_run Cert.InProjReferenceIdeal.defs _ _).mono (fun r h => ⟨fun c => (h c).2, sem_eq_zero_of_no_sems (by decide) r.2⟩)
    (Cert.InProjReferenceIdeal.Value.run (F := Ideal) m ρ)

theorem algebraic : Cert.algebraic_InProjIdeal_InProjReferenceIdeal := fun m ρ m' ρ' _ hargs => by
  refine ⟨fun c => result (m ((c : Thread nD τ).loc main_arg0)) (m ((c : Thread nD τ).loc main_arg1)), ?_, ?_⟩
  · exact (θ_run defs _ _).mono (fun r h c => ⟨(h c).1.trans (array m c), (h c).2⟩) (Value.run_blocks m ρ)
  · refine (θ_run Cert.InProjReferenceIdeal.defs _ _).mono (fun r h c => ⟨(h c).1.trans ?_, (h c).2⟩) (Cert.InProjReferenceIdeal.Value.run (F := Ideal) m' ρ')
    unfold Cert.InProjReferenceIdeal.Value.res_main_v19
    rw [(hargs c).1, (hargs c).2]
    rfl

end Cert.InProjIdeal.Order

end
-- ==== Proof.OutValue.lean ====
module

public import proofs.«01_k».proof.Defs
public import proofs.«01_k».proof.Proof.Gen.OutProj.Frame
public import proofs.«01_k».proof.Proof.Gen.OutProjIdeal.Value
public import proofs.«01_k».proof.Proof.Gen.OutProjReferenceIdeal.Run
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

namespace Cert.OutProjIdeal.Joined

open Idealize.ShloMosaic Idealize.ShloMosaic.TcCoe Idealize.SL.Sem
open Cert.OutProjIdeal Cert.OutProjIdeal.Gen

/-! The output projection: the product of the joined mixers is the sum of three products, one per mixer, with the weight's rows split. -/

/-- The mixers side by side. -/
def joined (a b : FVec Ideal Cert.OutProjReferenceIdeal.S16384x1024 .f32) (d : FVec Ideal Cert.OutProjReferenceIdeal.S16384x2048 .f32) :
    FVec Ideal Cert.OutProjReferenceIdeal.S16384x4096 .f32 :=
  concatenate Cert.OutProjReferenceIdeal.S16384x4096 1
    [⟨Cert.OutProjReferenceIdeal.S16384x1024, (a : (⟨Cert.OutProjReferenceIdeal.S16384x1024, .f32⟩ : BufTy).Contents (Elt Ideal))⟩,
     ⟨Cert.OutProjReferenceIdeal.S16384x1024, (b : (⟨Cert.OutProjReferenceIdeal.S16384x1024, .f32⟩ : BufTy).Contents (Elt Ideal))⟩,
     ⟨Cert.OutProjReferenceIdeal.S16384x2048, (d : (⟨Cert.OutProjReferenceIdeal.S16384x2048, .f32⟩ : BufTy).Contents (Elt Ideal))⟩]
    Cert.OutProjReferenceIdeal.Gen.concatenates_S16384x1024_S16384x1024_S16384x2048_S16384x4096_d1

/-- The reference's result of its arguments. -/
def result (a b : FVec Ideal Cert.OutProjReferenceIdeal.S16384x1024 .f32) (d : FVec Ideal Cert.OutProjReferenceIdeal.S16384x2048 .f32)
    (w : FVec Ideal Cert.OutProjReferenceIdeal.S4096x4096 .f32) : FVec Ideal Cert.OutProjReferenceIdeal.S16384x4096 .f32 :=
  Host.dotGeneral Cert.OutProjReferenceIdeal.dot_S16384x4096_S4096x4096_S16384x4096_1_0_0_1_n_n none (joined a b d) w

theorem joined_first (a b : FVec Ideal S16384x1024 .f32) (d : FVec Ideal S16384x2048 .f32) (r : Fin 16384) (k : Fin 1024) :
    joined a b d (ix2 r ⟨k.1, by omega⟩) = a (ix2 r k) := by
  pointwise [joined]
theorem joined_second (a b : FVec Ideal S16384x1024 .f32) (d : FVec Ideal S16384x2048 .f32) (r : Fin 16384) (k : Fin 1024) :
    joined a b d (ix2 r ⟨1024 + k.1, by omega⟩) = b (ix2 r k) := by
  pointwise [joined]
theorem joined_third (a b : FVec Ideal S16384x1024 .f32) (d : FVec Ideal S16384x2048 .f32) (r : Fin 16384) (k : Fin 2048) :
    joined a b d (ix2 r ⟨2048 + k.1, by omega⟩) = d (ix2 r k) := by
  pointwise [joined]
  rw [dif_neg (by omega), dif_neg (by omega)]
  exact congrArg (fun j => d (ix2 r j)) (Fin.ext (by show 2048 + k.1 - 1024 - 1024 = k.1; omega))

theorem sum_parts (f : Fin 4096 → EReal) :
    ∑ k, f k = (∑ k : Fin 1024, f ⟨k.1, by omega⟩ + ∑ k : Fin 1024, f ⟨1024 + k.1, by omega⟩) + ∑ k : Fin 2048, f ⟨2048 + k.1, by omega⟩ := by
  refine (Fin.sum_univ_add (a := 2048) (b := 2048) f).trans (congrArg₂ (· + ·) ?_ rfl)
  exact Fin.sum_univ_add (a := 1024) (b := 1024) fun k => f (Fin.castAdd 2048 k)

theorem result_at (a b : FVec Ideal S16384x1024 .f32) (d : FVec Ideal S16384x2048 .f32) (w : FVec Ideal S4096x4096 .f32) (r : Fin 16384) (e : Fin 4096) :
    result a b d w (ix2 r e) = (∑ k : Fin 1024, a (ix2 r k) * w (ix2 ⟨k.1, by omega⟩ e) + ∑ k : Fin 1024, b (ix2 r k) * w (ix2 ⟨1024 + k.1, by omega⟩ e))
      + ∑ k : Fin 2048, d (ix2 r k) * w (ix2 ⟨2048 + k.1, by omega⟩ e) := by
  have h : result a b d w (ix2 r e) = ∑ k : Fin 4096, joined a b d (ix2 r k) * w (ix2 k e) := by
    unfold result
    generalize joined a b d = J
    pointwise
  rw [h, sum_parts]
  simp only [joined_first, joined_second, joined_third]

theorem body_at (a b : FVec Ideal S1024x1024 .bf16) (d : FVec Ideal S1024x2048 .bf16) (wa wb : FVec Ideal S1024x1024 .bf16) (wd : FVec Ideal S2048x1024 .bf16)
    (r e : Fin 1024) :
    k0_pay1 (F := Ideal) a wa b wb d wd (ix2 r e)
      = (∑ k : Fin 1024, a (ix2 r k) * wa (ix2 k e) + ∑ k : Fin 1024, b (ix2 r k) * wb (ix2 k e)) + ∑ k : Fin 2048, d (ix2 r k) * wd (ix2 k e) := by
  pointwise [k0_pay1]

variable (m : (ℓ : Loc nD τ sig) → Buf (Elt Ideal) ℓ)

/-- Each window's block at a point of the grid. -/
theorem idx : ∀ t : Fin cfg0.N, win0_0.index t = ![t.1 / 4, 0] ∧ win0_1.index t = ![t.1 / 4, 0] ∧ win0_2.index t = ![t.1 / 4, 0]
    ∧ win0_3.index t = ![0, t.1 % 4] ∧ win0_4.index t = ![1, t.1 % 4] ∧ win0_5.index t = ![1, t.1 % 4] ∧ win0_6.index t = ![t.1 / 4, t.1 % 4] :=
  (by decide +kernel : ∀ t : Fin grid0.N, _)

def row (t : Fin cfg0.N) (r : Fin 1024) : Fin 16384 := ⟨t.1 / 4 * 1024 + r.1, by have h : t.1 < 64 := t.2; omega⟩
def col (t : Fin cfg0.N) (e : Fin 1024) : Fin 4096 := ⟨t.1 % 4 * 1024 + e.1, by omega⟩

theorem V_a (c : Dev nD) : V m c main_v0 = truncf (F := Ideal) .bf16 (m ((c : Thread nD τ).loc main_arg0)) bitsLt_bf16_f32 := by
  simp only [V, hostOps0]; after_results_simp <;> rfl
theorem V_b (c : Dev nD) : V m c main_v1 = truncf (F := Ideal) .bf16 (m ((c : Thread nD τ).loc main_arg1)) bitsLt_bf16_f32 := by
  simp only [V, hostOps0]; after_results_simp <;> rfl
theorem V_d (c : Dev nD) : V m c main_v2 = truncf (F := Ideal) .bf16 (m ((c : Thread nD τ).loc main_arg2)) bitsLt_bf16_f32 := by
  simp only [V, hostOps0]; after_results_simp <;> rfl
theorem V_w (c : Dev nD) : V m c main_v3 = truncf (F := Ideal) .bf16 (m ((c : Thread nD τ).loc main_arg3)) bitsLt_bf16_f32 := by
  simp only [V, hostOps0]; after_results_simp <;> rfl

theorem a_at (c : Dev nD) (t : Fin cfg0.N) (r : Fin 1024) (k : Fin 1024) :
    iblk m c 0 t (ix2 r k) = m ((c : Thread nD τ).loc main_arg0) (ix2 (row t r) k) := by
  refine (show iblk m c 0 t (ix2 r k) = V m c main_v0 ((win0_0.blk t).view.emb (ix2 r k)) from rfl).trans (Eq.trans (by rw [V_a]; rfl)
    (?_ : m ((c : Thread nD τ).loc main_arg0) ((win0_0.blk t).view.emb (ix2 r k)) = _))
  blk_ext! [idx t, row]
theorem b_at (c : Dev nD) (t : Fin cfg0.N) (r : Fin 1024) (k : Fin 1024) :
    iblk m c 1 t (ix2 r k) = m ((c : Thread nD τ).loc main_arg1) (ix2 (row t r) k) := by
  refine (show iblk m c 1 t (ix2 r k) = V m c main_v1 ((win0_1.blk t).view.emb (ix2 r k)) from rfl).trans (Eq.trans (by rw [V_b]; rfl)
    (?_ : m ((c : Thread nD τ).loc main_arg1) ((win0_1.blk t).view.emb (ix2 r k)) = _))
  blk_ext! [idx t, row]
theorem d_at (c : Dev nD) (t : Fin cfg0.N) (r : Fin 1024) (k : Fin 2048) :
    iblk m c 2 t (ix2 r k) = m ((c : Thread nD τ).loc main_arg2) (ix2 (row t r) k) := by
  refine (show iblk m c 2 t (ix2 r k) = V m c main_v2 ((win0_2.blk t).view.emb (ix2 r k)) from rfl).trans (Eq.trans (by rw [V_d]; rfl)
    (?_ : m ((c : Thread nD τ).loc main_arg2) ((win0_2.blk t).view.emb (ix2 r k)) = _))
  blk_ext! [idx t, row]
theorem wa_at (c : Dev nD) (t : Fin cfg0.N) (k : Fin 1024) (e : Fin 1024) :
    iblk m c 3 t (ix2 k e) = m ((c : Thread nD τ).loc main_arg3) (ix2 ⟨k.1, by omega⟩ (col t e)) := by
  refine (show iblk m c 3 t (ix2 k e) = V m c main_v3 ((win0_3.blk t).view.emb (ix2 k e)) from rfl).trans (Eq.trans (by rw [V_w]; rfl)
    (?_ : m ((c : Thread nD τ).loc main_arg3) ((win0_3.blk t).view.emb (ix2 k e)) = _))
  blk_ext! [idx t, col]
theorem wb_at (c : Dev nD) (t : Fin cfg0.N) (k : Fin 1024) (e : Fin 1024) :
    iblk m c 4 t (ix2 k e) = m ((c : Thread nD τ).loc main_arg3) (ix2 ⟨1024 + k.1, by omega⟩ (col t e)) := by
  refine (show iblk m c 4 t (ix2 k e) = V m c main_v3 ((win0_4.blk t).view.emb (ix2 k e)) from rfl).trans (Eq.trans (by rw [V_w]; rfl)
    (?_ : m ((c : Thread nD τ).loc main_arg3) ((win0_4.blk t).view.emb (ix2 k e)) = _))
  blk_ext! [idx t, col]
theorem wd_at (c : Dev nD) (t : Fin cfg0.N) (k : Fin 2048) (e : Fin 1024) :
    iblk m c 5 t (ix2 k e) = m ((c : Thread nD τ).loc main_arg3) (ix2 ⟨2048 + k.1, by omega⟩ (col t e)) := by
  refine (show iblk m c 5 t (ix2 k e) = V m c main_v3 ((win0_5.blk t).view.emb (ix2 k e)) from rfl).trans (Eq.trans (by rw [V_w]; rfl)
    (?_ : m ((c : Thread nD τ).loc main_arg3) ((win0_5.blk t).view.emb (ix2 k e)) = _))
  blk_ext! [idx t, col]

theorem block (c : Dev nD) (t : Fin cfg0.N) (r e : Fin 1024) :
    k0_pay1 (F := Ideal) (iblk m c 0 t) (iblk m c 3 t) (iblk m c 1 t) (iblk m c 4 t) (iblk m c 2 t) (iblk m c 5 t) (ix2 r e)
      = result (m ((c : Thread nD τ).loc main_arg0)) (m ((c : Thread nD τ).loc main_arg1)) (m ((c : Thread nD τ).loc main_arg2))
          (m ((c : Thread nD τ).loc main_arg3)) (ix2 (row t r) (col t e)) := by
  refine (body_at _ _ _ _ _ _ r e).trans (Eq.trans ?_ (result_at _ _ _ _ (row t r) (col t e)).symm)
  refine congrArg₂ (· + ·) (congrArg₂ (· + ·) (Finset.sum_congr rfl fun k _ => ?_) (Finset.sum_congr rfl fun k _ => ?_)) (Finset.sum_congr rfl fun k _ => ?_)
  · exact congrArg₂ (· * ·) (a_at m c t r k) (wa_at m c t k e)
  · exact congrArg₂ (· * ·) (b_at m c t r k) (wb_at m c t k e)
  · exact congrArg₂ (· * ·) (d_at m c t r k) (wd_at m c t k e)

/-- The array the kernel leaves is the reference's result. -/
theorem array (c : Dev nD) : (dats m 0 c).arrAt 6 cfg0.N
    = result (m ((c : Thread nD τ).loc main_arg0)) (m ((c : Thread nD τ).loc main_arg1)) (m ((c : Thread nD τ).loc main_arg2))
          (m ((c : Thread nD τ).loc main_arg3)) := by
  refine (dats m 0 c).arrAt_eq_of_covers 6 _ (by decide +kernel) fun t _ y => ?_
  blk_simp
  rw [after0_6]; frame_out
  have h := block m c t ((y : S1024x1024.Idx) 0) ((y : S1024x1024.Idx) 1)
  rw [← show y = (ix2 ((y : S1024x1024.Idx) 0) ((y : S1024x1024.Idx) 1) : S1024x1024.Idx) from eq_ix2 (y : S1024x1024.Idx)] at h
  refine h.trans ?_
  generalize result _ _ _ _ = G
  blk_ext! [idx t, row, col]

theorem frame_kernel : Cert.quiescent_OutProj := fun m ρ _ => Cert.OutProj.Gen.frame m ρ
theorem frame_ideal : Cert.quiescent_OutProjIdeal := fun m ρ _ => Cert.OutProjIdeal.Gen.frame m ρ
theorem frame_reference : Cert.quiescent_OutProjReferenceIdeal := fun m ρ _ =>
  (θ_run Cert.OutProjReferenceIdeal.defs _ _).mono (fun r h => ⟨fun c => (h c).2, sem_eq_zero_of_no_sems (by decide) r.2⟩)
    (Cert.OutProjReferenceIdeal.Value.run (F := Ideal) m ρ)

theorem algebraic : Cert.algebraic_OutProjIdeal_OutProjReferenceIdeal := fun m ρ m' ρ' _ hargs => by
  refine ⟨fun c => result (m ((c : Thread nD τ).loc main_arg0)) (m ((c : Thread nD τ).loc main_arg1)) (m ((c : Thread nD τ).loc main_arg2))
    (m ((c : Thread nD τ).loc main_arg3)), ?_, ?_⟩
  · exact (θ_run defs _ _).mono (fun r h c => ⟨(h c).1.trans (array m c), (h c).2⟩) (Value.run_blocks m ρ)
  · refine (θ_run Cert.OutProjReferenceIdeal.defs _ _).mono (fun r h c => ⟨(h c).1.trans ?_, (h c).2⟩) (Cert.OutProjReferenceIdeal.Value.run (F := Ideal) m' ρ')
    rw [(hargs c).1, (hargs c).2.1, (hargs c).2.2.1, (hargs c).2.2.2]
    rfl

end Cert.OutProjIdeal.Joined

end
-- ==== Proof.PleValue.lean ====
module

public import proofs.«01_k».proof.Defs
public import proofs.«01_k».proof.Proof.Gen.Ple.Frame
public import proofs.«01_k».proof.Proof.Gen.PleIdeal.Value
public import proofs.«01_k».proof.Proof.Gen.PleReferenceIdeal.Run
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

namespace Cert.PleIdeal.Gated

open Idealize.ShloMosaic Idealize.ShloMosaic.TcCoe Idealize.SL.Sem
open Cert.PleIdeal Cert.PleIdeal.Gen

/-! The gated per-layer embedding: each block is the projection times the gate, over the whole of both sums. -/

/-- The reference's result of its arguments. -/
def result (p : FVec Ideal Cert.PleReferenceIdeal.S16384x256 .f32) (x : FVec Ideal Cert.PleReferenceIdeal.S16384x4096 .f32)
    (wp : FVec Ideal Cert.PleReferenceIdeal.S256x4096 .f32) (wg : FVec Ideal Cert.PleReferenceIdeal.S4096x4096 .f32) :
    FVec Ideal Cert.PleReferenceIdeal.S16384x4096 .f32 :=
  mulf (Host.dotGeneral Cert.PleReferenceIdeal.dot_S16384x256_S256x4096_S16384x4096_1_0_0_1_n_n none p wp)
    (Host.divf (broadcastInDim Cert.PleReferenceIdeal.S16384x4096 ![] Cert.PleReferenceIdeal.Gen.bcast_S_S16384x4096 (constant Cert.PleReferenceIdeal.S_ .f32 0x3F800000#32))
      (addf (broadcastInDim Cert.PleReferenceIdeal.S16384x4096 ![] Cert.PleReferenceIdeal.Gen.bcast_S_S16384x4096 (constant Cert.PleReferenceIdeal.S_ .f32 0x3F800000#32))
        (Host.exp (Host.negf (Host.dotGeneral Cert.PleReferenceIdeal.dot_S16384x4096_S4096x4096_S16384x4096_1_0_0_1_n_n none x wg)))))

theorem result_at (p : FVec Ideal S16384x256 .f32) (x : FVec Ideal S16384x4096 .f32) (wp : FVec Ideal S256x4096 .f32) (wg : FVec Ideal S4096x4096 .f32)
    (r : Fin 16384) (e : Fin 4096) :
    result p x wp wg (ix2 r e) = (∑ k : Fin 256, p (ix2 r k) * wp (ix2 k e)) * Ideal.logistic (∑ k : Fin 4096, x (ix2 r k) * wg (ix2 k e)) := by
  pointwise [result]
  rfl

theorem body_at (p : FVec Ideal S1024x256 .f32) (wp : FVec Ideal S256x1024 .bf16) (x : FVec Ideal S1024x4096 .bf16) (wg : FVec Ideal S4096x1024 .bf16)
    (r e : Fin 1024) :
    k0_pay1 (F := Ideal) p wp x wg (ix2 r e) = (∑ k : Fin 256, p (ix2 r k) * wp (ix2 k e)) * Ideal.logistic (∑ k : Fin 4096, x (ix2 r k) * wg (ix2 k e)) := by
  pointwise [k0_pay1]

variable (m : (ℓ : Loc nD τ sig) → Buf (Elt Ideal) ℓ)

/-- Each window's block at a point of the grid. -/
theorem idx : ∀ t : Fin cfg0.N, win0_0.index t = ![t.1 / 4, 0] ∧ win0_1.index t = ![t.1 / 4, 0] ∧ win0_2.index t = ![0, t.1 % 4]
    ∧ win0_3.index t = ![0, t.1 % 4] ∧ win0_4.index t = ![t.1 / 4, t.1 % 4] :=
  (by decide +kernel : ∀ t : Fin grid0.N, _)

def row (t : Fin cfg0.N) (r : Fin 1024) : Fin 16384 := ⟨t.1 / 4 * 1024 + r.1, by have h : t.1 < 64 := t.2; omega⟩
def col (t : Fin cfg0.N) (e : Fin 1024) : Fin 4096 := ⟨t.1 % 4 * 1024 + e.1, by omega⟩

theorem V_x (c : Dev nD) : V m c main_v0 = truncf (F := Ideal) .bf16 (m ((c : Thread nD τ).loc main_arg1)) bitsLt_bf16_f32 := by
  simp only [V, hostOps0]; after_results_simp <;> rfl
theorem V_wp (c : Dev nD) : V m c main_v1 = truncf (F := Ideal) .bf16 (m ((c : Thread nD τ).loc main_arg2)) bitsLt_bf16_f32 := by
  simp only [V, hostOps0]; after_results_simp <;> rfl
theorem V_wg (c : Dev nD) : V m c main_v2 = truncf (F := Ideal) .bf16 (m ((c : Thread nD τ).loc main_arg3)) bitsLt_bf16_f32 := by
  simp only [V, hostOps0]; after_results_simp <;> rfl

theorem p_at (c : Dev nD) (t : Fin cfg0.N) (r : Fin 1024) (k : Fin 256) :
    iblk m c 0 t (ix2 r k) = m ((c : Thread nD τ).loc main_arg0) (ix2 (row t r) k) := by
  blk_ext! [iblk, V, idx t, row]
theorem x_at (c : Dev nD) (t : Fin cfg0.N) (r : Fin 1024) (k : Fin 4096) :
    iblk m c 1 t (ix2 r k) = m ((c : Thread nD τ).loc main_arg1) (ix2 (row t r) k) := by
  refine (show iblk m c 1 t (ix2 r k) = V m c main_v0 ((win0_1.blk t).view.emb (ix2 r k)) from rfl).trans (Eq.trans (by rw [V_x]; rfl)
    (?_ : m ((c : Thread nD τ).loc main_arg1) ((win0_1.blk t).view.emb (ix2 r k)) = _))
  blk_ext! [idx t, row]
theorem wp_at (c : Dev nD) (t : Fin cfg0.N) (k : Fin 256) (e : Fin 1024) :
    iblk m c 2 t (ix2 k e) = m ((c : Thread nD τ).loc main_arg2) (ix2 k (col t e)) := by
  refine (show iblk m c 2 t (ix2 k e) = V m c main_v1 ((win0_2.blk t).view.emb (ix2 k e)) from rfl).trans (Eq.trans (by rw [V_wp]; rfl)
    (?_ : m ((c : Thread nD τ).loc main_arg2) ((win0_2.blk t).view.emb (ix2 k e)) = _))
  blk_ext! [idx t, col]
theorem wg_at (c : Dev nD) (t : Fin cfg0.N) (k : Fin 4096) (e : Fin 1024) :
    iblk m c 3 t (ix2 k e) = m ((c : Thread nD τ).loc main_arg3) (ix2 k (col t e)) := by
  refine (show iblk m c 3 t (ix2 k e) = V m c main_v2 ((win0_3.blk t).view.emb (ix2 k e)) from rfl).trans (Eq.trans (by rw [V_wg]; rfl)
    (?_ : m ((c : Thread nD τ).loc main_arg3) ((win0_3.blk t).view.emb (ix2 k e)) = _))
  blk_ext! [idx t, col]

theorem block (c : Dev nD) (t : Fin cfg0.N) (r e : Fin 1024) :
    k0_pay1 (F := Ideal) (iblk m c 0 t) (iblk m c 2 t) (iblk m c 1 t) (iblk m c 3 t) (ix2 r e)
      = result (m ((c : Thread nD τ).loc main_arg0)) (m ((c : Thread nD τ).loc main_arg1)) (m ((c : Thread nD τ).loc main_arg2))
          (m ((c : Thread nD τ).loc main_arg3)) (ix2 (row t r) (col t e)) := by
  refine (body_at _ _ _ _ r e).trans (Eq.trans ?_ (result_at _ _ _ _ (row t r) (col t e)).symm)
  refine congrArg₂ (· * ·) (Finset.sum_congr rfl fun k _ => ?_) (congrArg Ideal.logistic (Finset.sum_congr rfl fun k _ => ?_))
  · exact congrArg₂ (· * ·) (p_at m c t r k) (wp_at m c t k e)
  · exact congrArg₂ (· * ·) (x_at m c t r k) (wg_at m c t k e)

/-- The array the kernel leaves is the reference's result. -/
theorem array (c : Dev nD) : (dats m 0 c).arrAt 4 cfg0.N
    = result (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t _ y => ?_
  blk_simp
  rw [after0_4]; frame_out
  have h := block m c t ((y : S1024x1024.Idx) 0) ((y : S1024x1024.Idx) 1)
  rw [← show y = (ix2 ((y : S1024x1024.Idx) 0) ((y : S1024x1024.Idx) 1) : S1024x1024.Idx) from eq_ix2 (y : S1024x1024.Idx)] at h
  refine h.trans ?_
  generalize result _ _ _ _ = G
  blk_ext! [idx t, row, col]

theorem frame_kernel : Cert.quiescent_Ple := fun m ρ _ => Cert.Ple.Gen.frame m ρ
theorem frame_ideal : Cert.quiescent_PleIdeal := fun m ρ _ => Cert.PleIdeal.Gen.frame m ρ
theorem frame_reference : Cert.quiescent_PleReferenceIdeal := fun m ρ _ =>
  (θ_run Cert.PleReferenceIdeal.defs _ _).mono (fun r h => ⟨fun c => (h c).2, sem_eq_zero_of_no_sems (by decide) r.2⟩)
    (Cert.PleReferenceIdeal.Value.run (F := Ideal) m ρ)

theorem algebraic : Cert.algebraic_PleIdeal_PleReferenceIdeal := fun m ρ m' ρ' _ hargs => by
  refine ⟨fun c => result (m ((c : Thread nD τ).loc main_arg0)) (m ((c : Thread nD τ).loc main_arg1)) (m ((c : Thread nD τ).loc main_arg2))
    (m ((c : Thread nD τ).loc main_arg3)), ?_, ?_⟩
  · exact (θ_run defs _ _).mono (fun r h c => ⟨(h c).1.trans (array m c), (h c).2⟩) (Value.run_blocks m ρ)
  · refine (θ_run Cert.PleReferenceIdeal.defs _ _).mono (fun r h c => ⟨(h c).1.trans ?_, (h c).2⟩) (Cert.PleReferenceIdeal.Value.run (F := Ideal) m' ρ')
    rw [(hargs c).1, (hargs c).2.1, (hargs c).2.2.1, (hargs c).2.2.2]
    rfl

end Cert.PleIdeal.Gated

end
-- ==== Proof.ResidualValue.lean ====
module

public import proofs.«01_k».proof.Defs
public import proofs.«01_k».proof.Proof.Gen.Residual.Frame
public import proofs.«01_k».proof.Proof.Gen.ResidualIdeal.Value
public import proofs.«01_k».proof.Proof.Gen.ResidualReferenceIdeal.Run
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

namespace Cert.ResidualIdeal.Normed

open Idealize.ShloMosaic Idealize.ShloMosaic.TcCoe Idealize.SL.Sem
open Cert.ResidualIdeal Cert.ResidualIdeal.Gen

/-! The residual add of a normalised row: each block holds whole rows, so its means are the reference's. -/

/-- The reference's result of its arguments. -/
def result (x y : FVec Ideal Cert.ResidualReferenceIdeal.S16384x4096 .f32) (g : FVec Ideal Cert.ResidualReferenceIdeal.S4096 .f32) :
    FVec Ideal Cert.ResidualReferenceIdeal.S16384x4096 .f32 :=
  addf x (mulf (mulf y (broadcastInDim Cert.ResidualReferenceIdeal.S16384x4096 ![0, 1] Cert.ResidualReferenceIdeal.Gen.bcast_S16384x1_S16384x4096_0_1
      (Host.rsqrt (addf (Host.divf (broadcastInDim Cert.ResidualReferenceIdeal.S16384x1 ![0] Cert.ResidualReferenceIdeal.Gen.bcast_S16384_S16384x1_0
          (Host.reduceAdd (mulf y y) (constant Cert.ResidualReferenceIdeal.S_ .f32 0x00000000#32)
            Cert.ResidualReferenceIdeal.Gen.reducesTo_S16384x4096_S16384_d1 Cert.ResidualReferenceIdeal.Gen.h_S_))
          (broadcastInDim Cert.ResidualReferenceIdeal.S16384x1 ![] Cert.ResidualReferenceIdeal.Gen.bcast_S_S16384x1 (constant Cert.ResidualReferenceIdeal.S_ .f32 0x45800000#32)))
        (broadcastInDim Cert.ResidualReferenceIdeal.S16384x1 ![] Cert.ResidualReferenceIdeal.Gen.bcast_S_S16384x1 (constant Cert.ResidualReferenceIdeal.S_ .f32 0x358637BD#32))))))
    (broadcastInDim Cert.ResidualReferenceIdeal.S16384x4096 ![0, 1] Cert.ResidualReferenceIdeal.Gen.bcast_S1x4096_S16384x4096_0_1
      (broadcastInDim Cert.ResidualReferenceIdeal.S1x4096 ![1] Cert.ResidualReferenceIdeal.Gen.bcast_S4096_S1x4096_1 g)))

theorem result_at (x y : FVec Ideal S16384x4096 .f32) (g : FVec Ideal S4096 .f32) (r : Fin 16384) (e : Fin 4096) :
    result x y g (ix2 r e) = x (ix2 r e) + y (ix2 r e)
      * Ideal.rsqrt (Ideal.div (∑ k : Fin 4096, y (ix2 r k) * y (ix2 r k)) (Ideal.ofBits .f32 0x45800000#32) + Ideal.ofBits .f32 0x358637BD#32) * g (ix1 e) := by
  pointwise [result]

theorem body_at (x y : FVec Ideal S256x4096 .f32) (g : FVec Ideal S1x4096 .f32) (r : Fin 256) (e : Fin 4096) :
    k0_pay1 (F := Ideal) y x g (ix2 r e) = x (ix2 r e) + y (ix2 r e)
      * Ideal.rsqrt (Ideal.div (∑ k : Fin 4096, y (ix2 r k) * y (ix2 r k)) (Ideal.ofBits .f32 0x45800000#32) + Ideal.ofBits .f32 0x358637BD#32) * g (ix2 0 e) := by
  pointwise [k0_pay1]

variable (m : (ℓ : Loc nD τ sig) → Buf (Elt Ideal) ℓ)

/-- Each window's block at a point of the grid. -/
theorem idx : ∀ t : Fin cfg0.N, win0_0.index t = ![t.1, 0] ∧ win0_1.index t = ![t.1, 0] ∧ win0_2.index t = ![0, 0] ∧ win0_3.index t = ![t.1, 0] :=
  (by decide +kernel : ∀ t : Fin grid0.N, _)

def row (t : Fin cfg0.N) (r : Fin 256) : Fin 16384 := ⟨t.1 * 256 + r.1, by have h : t.1 < 64 := t.2; omega⟩

theorem V_g (c : Dev nD) : V m c main_v0 = shapeCast S1x4096 (m ((c : Thread nD τ).loc main_arg2)) shapeCasts_S4096_S1x4096 := by
  simp only [V, hostOps0]; after_results_simp <;> rfl

theorem x_at (c : Dev nD) (t : Fin cfg0.N) (r : Fin 256) (k : Fin 4096) :
    iblk m c 0 t (ix2 r k) = m ((c : Thread nD τ).loc main_arg0) (ix2 (row t r) k) := by
  blk_ext! [iblk, V, idx t, row]
theorem y_at (c : Dev nD) (t : Fin cfg0.N) (r : Fin 256) (k : Fin 4096) :
    iblk m c 1 t (ix2 r k) = m ((c : Thread nD τ).loc main_arg1) (ix2 (row t r) k) := by
  blk_ext! [iblk, V, idx t, row]
theorem g_emb (t : Fin cfg0.N) (e : Fin 4096) : (win0_2.blk t).view.emb (ix2 0 e : S1x4096.Idx) = (ix2 0 e : S1x4096.Idx) := by
  blk_ext! [idx t]
theorem cast_at (g : FVec Ideal S4096 .f32) (e : Fin 4096) : shapeCast S1x4096 g shapeCasts_S4096_S1x4096 (ix2 0 e) = g (ix1 e) := by
  pointwise
theorem g_at (c : Dev nD) (t : Fin cfg0.N) (e : Fin 4096) :
    iblk m c 2 t (ix2 0 e) = m ((c : Thread nD τ).loc main_arg2) (ix1 e) := by
  refine (show iblk m c 2 t (ix2 0 e) = V m c main_v0 ((win0_2.blk t).view.emb (ix2 0 e)) from rfl).trans ?_
  rw [V_g, g_emb]
  exact cast_at (m ((c : Thread nD τ).loc main_arg2)) e

theorem block (c : Dev nD) (t : Fin cfg0.N) (r : Fin 256) (e : Fin 4096) :
    k0_pay1 (F := Ideal) (iblk m c 1 t) (iblk m c 0 t) (iblk m c 2 t) (ix2 r e)
      = result (m ((c : Thread nD τ).loc main_arg0)) (m ((c : Thread nD τ).loc main_arg1)) (m ((c : Thread nD τ).loc main_arg2)) (ix2 (row t r) e) := by
  refine (body_at _ _ _ r e).trans (Eq.trans ?_ (result_at _ _ _ (row t r) e).symm)
  refine congrArg₂ (· + ·) (x_at m c t r e) (congrArg₂ (· * ·) (congrArg₂ (· * ·) (y_at m c t r e) ?_) (g_at m c t e))
  exact congrArg (fun s => Ideal.rsqrt (Ideal.div s _ + _)) (Finset.sum_congr rfl fun k _ => congrArg₂ (· * ·) (y_at m c t r k) (y_at m c t r k))

/-- The array the kernel leaves is the reference's result. -/
theorem array (c : Dev nD) : (dats m 0 c).arrAt 3 cfg0.N
    = result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  have h := block m c t ((y : S256x4096.Idx) 0) ((y : S256x4096.Idx) 1)
  rw [← show y = (ix2 ((y : S256x4096.Idx) 0) ((y : S256x4096.Idx) 1) : S256x4096.Idx) from eq_ix2 (y : S256x4096.Idx)] at h
  refine h.trans ?_
  generalize result _ _ _ = G
  blk_ext! [idx t, row]

theorem frame_kernel : Cert.quiescent_Residual := fun m ρ _ => Cert.Residual.Gen.frame m ρ
theorem frame_ideal : Cert.quiescent_ResidualIdeal := fun m ρ _ => Cert.ResidualIdeal.Gen.frame m ρ
theorem frame_reference : Cert.quiescent_ResidualReferenceIdeal := fun m ρ _ =>
  (θ_run Cert.ResidualReferenceIdeal.defs _ _).mono (fun r h => ⟨fun c => (h c).2, sem_eq_zero_of_no_sems (by decide) r.2⟩)
    (Cert.ResidualReferenceIdeal.Value.run (F := Ideal) m ρ)

theorem algebraic : Cert.algebraic_ResidualIdeal_ResidualReferenceIdeal := fun m ρ m' ρ' _ hargs => by
  refine ⟨fun c => result (m ((c : Thread nD τ).loc main_arg0)) (m ((c : Thread nD τ).loc main_arg1)) (m ((c : Thread nD τ).loc main_arg2)), ?_, ?_⟩
  · exact (θ_run defs _ _).mono (fun r h c => ⟨(h c).1.trans (array m c), (h c).2⟩) (Value.run_blocks m ρ)
  · refine (θ_run Cert.ResidualReferenceIdeal.defs _ _).mono (fun r h c => ⟨(h c).1.trans ?_, (h c).2⟩) (Cert.ResidualReferenceIdeal.Value.run (F := Ideal) m' ρ')
    rw [(hargs c).1, (hargs c).2.1, (hargs c).2.2]
    rfl

end Cert.ResidualIdeal.Normed

end
-- ==== Proof.TailMath.lean ====
module

public import proofs.«01_k».proof.Defs
public import proofs.«01_k».proof.Proof.Gen.TailIdeal.Frame
public import proofs.«01_k».proof.Proof.Gen.TailReferenceIdeal.Run
public import Idealize.ShloMosaic.Lib.Pipeline.ValueKit
public import Idealize.ShloMosaic.Lib.Pointwise

@[expose] public section

set_option maxRecDepth 16384

noncomputable section

namespace Cert.TailIdeal.Whole

open Idealize.ShloMosaic Idealize.ShloMosaic.TcCoe Idealize.SL.Sem
open Cert.TailIdeal Cert.TailIdeal.Gen

/-! The references of the layer's tail: the output projection, the residual add of a normalised row and the gated embedding. -/

/-- The mixers side by side. -/
def joined (a b : FVec Ideal Cert.TailReferenceIdeal.S16384x1024 .f32) (d : FVec Ideal Cert.TailReferenceIdeal.S16384x2048 .f32) :
    FVec Ideal Cert.TailReferenceIdeal.S16384x4096 .f32 :=
  concatenate Cert.TailReferenceIdeal.S16384x4096 1
    [⟨Cert.TailReferenceIdeal.S16384x1024, (a : (⟨Cert.TailReferenceIdeal.S16384x1024, .f32⟩ : BufTy).Contents (Elt Ideal))⟩,
     ⟨Cert.TailReferenceIdeal.S16384x1024, (b : (⟨Cert.TailReferenceIdeal.S16384x1024, .f32⟩ : BufTy).Contents (Elt Ideal))⟩,
     ⟨Cert.TailReferenceIdeal.S16384x2048, (d : (⟨Cert.TailReferenceIdeal.S16384x2048, .f32⟩ : BufTy).Contents (Elt Ideal))⟩]
    Cert.TailReferenceIdeal.Gen.concatenates_S16384x1024_S16384x1024_S16384x2048_S16384x4096_d1

/-- The reference's outOf of its arguments. -/
def outOf (a b : FVec Ideal Cert.TailReferenceIdeal.S16384x1024 .f32) (d : FVec Ideal Cert.TailReferenceIdeal.S16384x2048 .f32)
    (w : FVec Ideal Cert.TailReferenceIdeal.S4096x4096 .f32) : FVec Ideal Cert.TailReferenceIdeal.S16384x4096 .f32 :=
  Host.dotGeneral Cert.TailReferenceIdeal.dot_S16384x4096_S4096x4096_S16384x4096_1_0_0_1_n_n none (joined a b d) w

theorem joined_first (a b : FVec Ideal S16384x1024 .f32) (d : FVec Ideal S16384x2048 .f32) (r : Fin 16384) (k : Fin 1024) :
    joined a b d (ix2 r ⟨k.1, by omega⟩) = a (ix2 r k) := by
  pointwise [joined]
theorem joined_second (a b : FVec Ideal S16384x1024 .f32) (d : FVec Ideal S16384x2048 .f32) (r : Fin 16384) (k : Fin 1024) :
    joined a b d (ix2 r ⟨1024 + k.1, by omega⟩) = b (ix2 r k) := by
  pointwise [joined]
theorem joined_third (a b : FVec Ideal S16384x1024 .f32) (d : FVec Ideal S16384x2048 .f32) (r : Fin 16384) (k : Fin 2048) :
    joined a b d (ix2 r ⟨2048 + k.1, by omega⟩) = d (ix2 r k) := by
  pointwise [joined]
  rw [dif_neg (by omega), dif_neg (by omega)]
  exact congrArg (fun j => d (ix2 r j)) (Fin.ext (by show 2048 + k.1 - 1024 - 1024 = k.1; omega))

theorem sum_parts (f : Fin 4096 → EReal) :
    ∑ k, f k = (∑ k : Fin 1024, f ⟨k.1, by omega⟩ + ∑ k : Fin 1024, f ⟨1024 + k.1, by omega⟩) + ∑ k : Fin 2048, f ⟨2048 + k.1, by omega⟩ := by
  refine (Fin.sum_univ_add (a := 2048) (b := 2048) f).trans (congrArg₂ (· + ·) ?_ rfl)
  exact Fin.sum_univ_add (a := 1024) (b := 1024) fun k => f (Fin.castAdd 2048 k)

theorem outOf_at (a b : FVec Ideal S16384x1024 .f32) (d : FVec Ideal S16384x2048 .f32) (w : FVec Ideal S4096x4096 .f32) (r : Fin 16384) (e : Fin 4096) :
    outOf a b d w (ix2 r e) = (∑ k : Fin 1024, a (ix2 r k) * w (ix2 ⟨k.1, by omega⟩ e) + ∑ k : Fin 1024, b (ix2 r k) * w (ix2 ⟨1024 + k.1, by omega⟩ e))
      + ∑ k : Fin 2048, d (ix2 r k) * w (ix2 ⟨2048 + k.1, by omega⟩ e) := by
  have h : outOf a b d w (ix2 r e) = ∑ k : Fin 4096, joined a b d (ix2 r k) * w (ix2 k e) := by
    unfold outOf
    generalize joined a b d = J
    pointwise
  rw [h, sum_parts]
  simp only [joined_first, joined_second, joined_third]

theorem out_body (a b : FVec Ideal S1024x1024 .bf16) (d : FVec Ideal S1024x2048 .bf16) (wa wb : FVec Ideal S1024x1024 .bf16) (wd : FVec Ideal S2048x1024 .bf16)
    (r e : Fin 1024) :
    k1_pay1 (F := Ideal) a wa b wb d wd (ix2 r e)
      = (∑ k : Fin 1024, a (ix2 r k) * wa (ix2 k e) + ∑ k : Fin 1024, b (ix2 r k) * wb (ix2 k e)) + ∑ k : Fin 2048, d (ix2 r k) * wd (ix2 k e) := by
  pointwise [k1_pay1]

/-- The reference's normOf of its arguments. -/
def normOf (x y : FVec Ideal Cert.TailReferenceIdeal.S16384x4096 .f32) (g : FVec Ideal Cert.TailReferenceIdeal.S4096 .f32) :
    FVec Ideal Cert.TailReferenceIdeal.S16384x4096 .f32 :=
  addf x (mulf (mulf y (broadcastInDim Cert.TailReferenceIdeal.S16384x4096 ![0, 1] Cert.TailReferenceIdeal.Gen.bcast_S16384x1_S16384x4096_0_1
      (Host.rsqrt (addf (Host.divf (broadcastInDim Cert.TailReferenceIdeal.S16384x1 ![0] Cert.TailReferenceIdeal.Gen.bcast_S16384_S16384x1_0
          (Host.reduceAdd (mulf y y) (constant Cert.TailReferenceIdeal.S_ .f32 0x00000000#32)
            Cert.TailReferenceIdeal.Gen.reducesTo_S16384x4096_S16384_d1 Cert.TailReferenceIdeal.Gen.h_S_))
          (broadcastInDim Cert.TailReferenceIdeal.S16384x1 ![] Cert.TailReferenceIdeal.Gen.bcast_S_S16384x1 (constant Cert.TailReferenceIdeal.S_ .f32 0x45800000#32)))
        (broadcastInDim Cert.TailReferenceIdeal.S16384x1 ![] Cert.TailReferenceIdeal.Gen.bcast_S_S16384x1 (constant Cert.TailReferenceIdeal.S_ .f32 0x358637BD#32))))))
    (broadcastInDim Cert.TailReferenceIdeal.S16384x4096 ![0, 1] Cert.TailReferenceIdeal.Gen.bcast_S1x4096_S16384x4096_0_1
      (broadcastInDim Cert.TailReferenceIdeal.S1x4096 ![1] Cert.TailReferenceIdeal.Gen.bcast_S4096_S1x4096_1 g)))

theorem normOf_at (x y : FVec Ideal S16384x4096 .f32) (g : FVec Ideal S4096 .f32) (r : Fin 16384) (e : Fin 4096) :
    normOf x y g (ix2 r e) = x (ix2 r e) + y (ix2 r e)
      * Ideal.rsqrt (Ideal.div (∑ k : Fin 4096, y (ix2 r k) * y (ix2 r k)) (Ideal.ofBits .f32 0x45800000#32) + Ideal.ofBits .f32 0x358637BD#32) * g (ix1 e) := by
  pointwise [normOf]

theorem norm_body2 (x y : FVec Ideal S256x4096 .f32) (g : FVec Ideal S1x4096 .f32) (r : Fin 256) (e : Fin 4096) :
    k2_pay1 (F := Ideal) y x g (ix2 r e) = x (ix2 r e) + y (ix2 r e)
      * Ideal.rsqrt (Ideal.div (∑ k : Fin 4096, y (ix2 r k) * y (ix2 r k)) (Ideal.ofBits .f32 0x45800000#32) + Ideal.ofBits .f32 0x358637BD#32) * g (ix2 0 e) := by
  pointwise [k2_pay1]

theorem norm_body4 (x y : FVec Ideal S256x4096 .f32) (g : FVec Ideal S1x4096 .f32) (r : Fin 256) (e : Fin 4096) :
    k4_pay1 (F := Ideal) y x g (ix2 r e) = x (ix2 r e) + y (ix2 r e)
      * Ideal.rsqrt (Ideal.div (∑ k : Fin 4096, y (ix2 r k) * y (ix2 r k)) (Ideal.ofBits .f32 0x45800000#32) + Ideal.ofBits .f32 0x358637BD#32) * g (ix2 0 e) := by
  pointwise [k4_pay1]

theorem norm_copy (x y : FVec Ideal S256x4096 .f32) (g : FVec Ideal S1x4096 .f32) (i : S256x4096.Idx) :
    k2_pay2 (F := Ideal) y x g i = k2_pay1 (F := Ideal) y x g i := rfl

/-- The reference's pleOf of its arguments. -/
def pleOf (p : FVec Ideal Cert.TailReferenceIdeal.S16384x256 .f32) (x : FVec Ideal Cert.TailReferenceIdeal.S16384x4096 .f32)
    (wp : FVec Ideal Cert.TailReferenceIdeal.S256x4096 .f32) (wg : FVec Ideal Cert.TailReferenceIdeal.S4096x4096 .f32) :
    FVec Ideal Cert.TailReferenceIdeal.S16384x4096 .f32 :=
  mulf (Host.dotGeneral Cert.TailReferenceIdeal.dot_S16384x256_S256x4096_S16384x4096_1_0_0_1_n_n none p wp)
    (Host.divf (broadcastInDim Cert.TailReferenceIdeal.S16384x4096 ![] Cert.TailReferenceIdeal.Gen.bcast_S_S16384x4096 (constant Cert.TailReferenceIdeal.S_ .f32 0x3F800000#32))
      (addf (broadcastInDim Cert.TailReferenceIdeal.S16384x4096 ![] Cert.TailReferenceIdeal.Gen.bcast_S_S16384x4096 (constant Cert.TailReferenceIdeal.S_ .f32 0x3F800000#32))
        (Host.exp (Host.negf (Host.dotGeneral Cert.TailReferenceIdeal.dot_S16384x4096_S4096x4096_S16384x4096_1_0_0_1_n_n none x wg)))))

theorem pleOf_at (p : FVec Ideal S16384x256 .f32) (x : FVec Ideal S16384x4096 .f32) (wp : FVec Ideal S256x4096 .f32) (wg : FVec Ideal S4096x4096 .f32)
    (r : Fin 16384) (e : Fin 4096) :
    pleOf p x wp wg (ix2 r e) = (∑ k : Fin 256, p (ix2 r k) * wp (ix2 k e)) * Ideal.logistic (∑ k : Fin 4096, x (ix2 r k) * wg (ix2 k e)) := by
  pointwise [pleOf]
  rfl

theorem ple_body (p : FVec Ideal S1024x256 .f32) (wp : FVec Ideal S256x1024 .bf16) (x : FVec Ideal S1024x4096 .bf16) (wg : FVec Ideal S4096x1024 .bf16)
    (r e : Fin 1024) :
    k3_pay1 (F := Ideal) p wp x wg (ix2 r e) = (∑ k : Fin 256, p (ix2 r k) * wp (ix2 k e)) * Ideal.logistic (∑ k : Fin 4096, x (ix2 r k) * wg (ix2 k e)) := by
  pointwise [k3_pay1]

end Cert.TailIdeal.Whole

end
-- ==== Proof.TailMix.lean ====
module

public import proofs.«01_k».proof.Defs
public import proofs.«01_k».proof.Proof.Gen.TailIdeal.Frame
public import proofs.«01_k».proof.Proof.Gen.TailReferenceIdeal.Run
public import Idealize.ShloMosaic.Lib.Pipeline.ValueKit
public import Idealize.ShloMosaic.Lib.Pointwise

@[expose] public section

set_option maxRecDepth 16384

noncomputable section

namespace Cert.TailIdeal.Whole

open Idealize.ShloMosaic Idealize.ShloMosaic.TcCoe Idealize.SL.Sem
open Cert.TailIdeal Cert.TailIdeal.Gen

/-! The mLSTM's output: both directions added, each head normalised, then the two gates. -/

/-- The two directions added, one head beside the other, and each head normalised. -/
def heads (a b : FVec Ideal Cert.TailReferenceIdeal.S16384x1024 .f32) : FVec Ideal Cert.TailReferenceIdeal.S16384x4x256 .f32 :=
  shapeCast _ (addf a b) Cert.TailReferenceIdeal.Gen.shapeCasts_S16384x1024_S16384x4x256
def headNorm (h : FVec Ideal Cert.TailReferenceIdeal.S16384x4x256 .f32) : FVec Ideal Cert.TailReferenceIdeal.S16384x4x256 .f32 :=
  mulf h (broadcastInDim Cert.TailReferenceIdeal.S16384x4x256 ![0, 1, 2] Cert.TailReferenceIdeal.Gen.bcast_S16384x4x1_S16384x4x256_0_1_2
    (Host.rsqrt (addf (Host.divf (broadcastInDim Cert.TailReferenceIdeal.S16384x4x1 ![0, 1] Cert.TailReferenceIdeal.Gen.bcast_S16384x4_S16384x4x1_0_1
        (Host.reduceAdd (mulf h h) (constant Cert.TailReferenceIdeal.S_ .f32 0x00000000#32) Cert.TailReferenceIdeal.Gen.reducesTo_S16384x4x256_S16384x4_d2 Cert.TailReferenceIdeal.Gen.h_S_))
        (broadcastInDim Cert.TailReferenceIdeal.S16384x4x1 ![] Cert.TailReferenceIdeal.Gen.bcast_S_S16384x4x1 (constant Cert.TailReferenceIdeal.S_ .f32 0x43800000#32)))
      (broadcastInDim Cert.TailReferenceIdeal.S16384x4x1 ![] Cert.TailReferenceIdeal.Gen.bcast_S_S16384x4x1 (constant Cert.TailReferenceIdeal.S_ .f32 0x358637BD#32)))))
/-- The sigmoid of an array, as the reference computes it. -/
def sigmoid (z : FVec Ideal Cert.TailReferenceIdeal.S16384x1024 .f32) : FVec Ideal Cert.TailReferenceIdeal.S16384x1024 .f32 :=
  Host.divf (broadcastInDim Cert.TailReferenceIdeal.S16384x1024 ![] Cert.TailReferenceIdeal.Gen.bcast_S_S16384x1024 (constant Cert.TailReferenceIdeal.S_ .f32 0x3F800000#32))
    (addf (broadcastInDim Cert.TailReferenceIdeal.S16384x1024 ![] Cert.TailReferenceIdeal.Gen.bcast_S_S16384x1024 (constant Cert.TailReferenceIdeal.S_ .f32 0x3F800000#32)) (Host.exp (Host.negf z)))
/-- The reference's output of the mLSTM mixer. -/
def mlOf (a b : FVec Ideal Cert.TailReferenceIdeal.S16384x1024 .f32) (zin : FVec Ideal Cert.TailReferenceIdeal.S16384x12288 .f32) (g : FVec Ideal Cert.TailReferenceIdeal.S1024 .f32) :
    FVec Ideal Cert.TailReferenceIdeal.S16384x1024 .f32 :=
  mulf (mulf (mulf (shapeCast _ (headNorm (heads a b)) Cert.TailReferenceIdeal.Gen.shapeCasts_S16384x4x256_S16384x1024)
      (broadcastInDim Cert.TailReferenceIdeal.S16384x1024 ![0, 1] Cert.TailReferenceIdeal.Gen.bcast_S1x1024_S16384x1024_0_1 (broadcastInDim Cert.TailReferenceIdeal.S1x1024 ![1] Cert.TailReferenceIdeal.Gen.bcast_S1024_S1x1024_1 g)))
      (sigmoid (extractStridedSlice Cert.TailReferenceIdeal.S16384x1024 ![0, 9216] zin Cert.TailReferenceIdeal.Gen.slices_S16384x12288_S16384x1024_0_9216)))
    (mulf (extractStridedSlice Cert.TailReferenceIdeal.S16384x1024 ![0, 10240] zin Cert.TailReferenceIdeal.Gen.slices_S16384x12288_S16384x1024_0_10240)
      (sigmoid (extractStridedSlice Cert.TailReferenceIdeal.S16384x1024 ![0, 10240] zin Cert.TailReferenceIdeal.Gen.slices_S16384x12288_S16384x1024_0_10240)))

/-- A lane of the head that holds lane `e`. -/
def mate (e : Fin 1024) (k : Fin 256) : Fin 1024 := ⟨e.1 / 256 * 256 + k.1, by omega⟩
def scaleOf (s : EReal) : EReal := Ideal.rsqrt (Ideal.div s (Ideal.ofBits .f32 0x43800000#32) + Ideal.ofBits .f32 0x358637BD#32)

theorem heads_at (a b : FVec Ideal S16384x1024 .f32) (r : Fin 16384) (e : Fin 1024) (k : Fin 256) (h : Fin 4) (hh : h.1 = e.1 / 256) :
    heads a b (ix3 r h k) = a (ix2 r (mate e k)) + b (ix2 r (mate e k)) := by
  pointwise [heads]
  refine congrArg (fun j => a (ix2 r j) + b (ix2 r j)) (Fin.ext ?_)
  simp only [mate]; omega
theorem headNorm_at (h : FVec Ideal Cert.TailReferenceIdeal.S16384x4x256 .f32) (r : Fin 16384) (j : Fin 4) (k : Fin 256) :
    headNorm h (ix3 r j k) = h (ix3 r j k) * scaleOf (∑ l : Fin 256, h (ix3 r j l) * h (ix3 r j l)) := by
  pointwise [headNorm, scaleOf]
theorem cast_head (h : FVec Ideal Cert.TailReferenceIdeal.S16384x4x256 .f32) (r : Fin 16384) (e : Fin 1024) :
    shapeCast S16384x1024 h Cert.TailReferenceIdeal.Gen.shapeCasts_S16384x4x256_S16384x1024 (ix2 r e)
      = h (ix3 r ⟨e.1 / 256, by omega⟩ ⟨e.1 % 256, by omega⟩) := by
  pointwise
theorem sigmoid_at (z : FVec Ideal S16384x1024 .f32) (r : Fin 16384) (e : Fin 1024) : sigmoid z (ix2 r e) = Ideal.logistic (z (ix2 r e)) := by
  pointwise [sigmoid]
  rfl
theorem gate_at (zin : FVec Ideal Cert.TailReferenceIdeal.S16384x12288 .f32) (r : Fin 16384) (e : Fin 1024) :
    extractStridedSlice Cert.TailReferenceIdeal.S16384x1024 ![0, 9216] zin Cert.TailReferenceIdeal.Gen.slices_S16384x12288_S16384x1024_0_9216 (ix2 r e) = zin (ix2 r ⟨9216 + e.1, by omega⟩) := by
  pointwise
theorem side_at (zin : FVec Ideal Cert.TailReferenceIdeal.S16384x12288 .f32) (r : Fin 16384) (e : Fin 1024) :
    extractStridedSlice Cert.TailReferenceIdeal.S16384x1024 ![0, 10240] zin Cert.TailReferenceIdeal.Gen.slices_S16384x12288_S16384x1024_0_10240 (ix2 r e) = zin (ix2 r ⟨10240 + e.1, by omega⟩) := by
  pointwise
theorem spread_at (g : FVec Ideal S1024 .f32) (r : Fin 16384) (e : Fin 1024) :
    broadcastInDim Cert.TailReferenceIdeal.S16384x1024 ![0, 1] Cert.TailReferenceIdeal.Gen.bcast_S1x1024_S16384x1024_0_1 (broadcastInDim Cert.TailReferenceIdeal.S1x1024 ![1] Cert.TailReferenceIdeal.Gen.bcast_S1024_S1x1024_1 g) (ix2 r e)
      = g (ix1 e) := by
  pointwise

theorem mlOf_at (a b : FVec Ideal S16384x1024 .f32) (zin : FVec Ideal Cert.TailReferenceIdeal.S16384x12288 .f32) (g : FVec Ideal S1024 .f32) (r : Fin 16384) (e : Fin 1024) :
    mlOf a b zin g (ix2 r e)
      = (a (ix2 r e) + b (ix2 r e)) * scaleOf (∑ k : Fin 256, (a (ix2 r (mate e k)) + b (ix2 r (mate e k))) * (a (ix2 r (mate e k)) + b (ix2 r (mate e k))))
        * g (ix1 e) * Ideal.logistic (zin (ix2 r ⟨9216 + e.1, by omega⟩))
        * (zin (ix2 r ⟨10240 + e.1, by omega⟩) * Ideal.logistic (zin (ix2 r ⟨10240 + e.1, by omega⟩))) := by
  refine congrArg₂ (· * ·) (congrArg₂ (· * ·) (congrArg₂ (· * ·) ?_ (spread_at g r e)) ?_) (congrArg₂ (· * ·) (side_at zin r e) ?_)
  · refine (cast_head _ r e).trans ((headNorm_at _ r _ _).trans (congrArg₂ (· * ·) ?_ (congrArg scaleOf (Finset.sum_congr rfl fun k _ => ?_))))
    · refine (heads_at a b r e _ _ rfl).trans (congrArg (fun j => a (ix2 r j) + b (ix2 r j)) (Fin.ext ?_))
      simp only [mate]; omega
    · rw [heads_at a b r e k _ rfl]
  · exact (sigmoid_at _ r e).trans (congrArg Ideal.logistic (gate_at zin r e))
  · exact (sigmoid_at _ r e).trans (congrArg Ideal.logistic (side_at zin r e))

/-- The kernel's block: four heads side by side. -/
def rows4 (a b : FVec Ideal S512x1024 .f32) (r : Fin 512) (e : Fin 1024) : EReal :=
  (a (ix2 r e) + b (ix2 r e)) * scaleOf (∑ k : Fin 256, (a (ix2 r (mate e k)) + b (ix2 r (mate e k))) * (a (ix2 r (mate e k)) + b (ix2 r (mate e k))))

theorem head0_at (a b : FVec Ideal S512x1024 .f32) (r : Fin 512) (x : Fin 256) (e : Fin 1024) (he : e = ⟨0 + x.1, by omega⟩) :
    k0_pay3 (F := Ideal) a b (ix2 r x) = rows4 a b r e := by
  subst he
  have hm : ∀ k : Fin 256, mate ⟨0 + x.1, by omega⟩ k = ⟨0 + k.1, by omega⟩ := fun k => Fin.ext (by simp only [mate]; omega)
  simp only [rows4, hm]
  pointwise [k0_pay3, k0_pay2, scaleOf]
theorem head256_at (a b : FVec Ideal S512x1024 .f32) (r : Fin 512) (x : Fin 256) (e : Fin 1024) (he : e = ⟨256 + x.1, by omega⟩) :
    k0_pay4 (F := Ideal) a b (ix2 r x) = rows4 a b r e := by
  subst he
  have hm : ∀ k : Fin 256, mate ⟨256 + x.1, by omega⟩ k = ⟨256 + k.1, by omega⟩ := fun k => Fin.ext (by simp only [mate]; omega)
  simp only [rows4, hm]
  pointwise [k0_pay4, k0_pay2, scaleOf]
theorem head512_at (a b : FVec Ideal S512x1024 .f32) (r : Fin 512) (x : Fin 256) (e : Fin 1024) (he : e = ⟨512 + x.1, by omega⟩) :
    k0_pay5 (F := Ideal) a b (ix2 r x) = rows4 a b r e := by
  subst he
  have hm : ∀ k : Fin 256, mate ⟨512 + x.1, by omega⟩ k = ⟨512 + k.1, by omega⟩ := fun k => Fin.ext (by simp only [mate]; omega)
  simp only [rows4, hm]
  pointwise [k0_pay5, k0_pay2, scaleOf]
/-- The last head's norm, which the kernel finishes after the other three. -/
def tail4 (a b : FVec Ideal S512x1024 .f32) : FVec Ideal S512x256 .f32 :=
  mulf (k0_pay6 (F := Ideal) a b) (broadcastTo S512x256 (rsqrt (addf (k0_pay7 (F := Ideal) a b) (k0_pay8 (F := Ideal)))) broadcasts_S512x1_S512x256)
theorem head768_at (a b : FVec Ideal S512x1024 .f32) (r : Fin 512) (x : Fin 256) (e : Fin 1024) (he : e = ⟨768 + x.1, by omega⟩) :
    tail4 a b (ix2 r x) = rows4 a b r e := by
  subst he
  have hm : ∀ k : Fin 256, mate ⟨768 + x.1, by omega⟩ k = ⟨768 + k.1, by omega⟩ := fun k => Fin.ext (by simp only [mate]; omega)
  simp only [rows4, hm]
  pointwise [tail4, k0_pay6, k0_pay7, k0_pay8, k0_pay2, scaleOf]

/-- Four arrays side by side. -/
def beside (p q s u : FVec Ideal S512x256 .f32) : FVec Ideal S512x1024 .f32 :=
  concatenate S512x1024 1 [⟨S512x256, p⟩, ⟨S512x256, q⟩, ⟨S512x256, s⟩, ⟨S512x256, u⟩] concatenates_S512x256_S512x256_S512x256_S512x256_S512x1024_d1
/-- A choice is `v` when both of its sides are. -/
theorem pick {q : Prop} [Decidable q] {x : q → EReal} {y : ¬ q → EReal} {v : EReal} (hx : ∀ h, x h = v) (hy : ∀ h, y h = v) : dite q x y = v := by
  split
  · exact hx _
  · exact hy _
theorem beside_at (p q s u : FVec Ideal S512x256 .f32) (r : Fin 512) (e : Fin 1024) (v : EReal)
    (hp : ∀ x : Fin 256, e.1 = 0 + x.1 → p (ix2 r x) = v) (hq : ∀ x : Fin 256, e.1 = 256 + x.1 → q (ix2 r x) = v)
    (hs : ∀ x : Fin 256, e.1 = 512 + x.1 → s (ix2 r x) = v) (hu : ∀ x : Fin 256, e.1 = 768 + x.1 → u (ix2 r x) = v) : beside p q s u (ix2 r e) = v := by
  pointwise [beside]
  exact pick (fun _ => hp _ (by simp only; omega)) fun _ => pick (fun _ => hq _ (by simp only; omega)) fun _ => pick (fun _ => hs _ (by simp only; omega)) fun _ =>
    hu _ (by simp only; omega)

/-- What the gates make of the normalised heads. -/
theorem gated_at (p q s u : FVec Ideal S512x256 .f32) (v w : FVec Ideal S512x1 .f32) (g : FVec Ideal S1x1024 .f32) (o z : FVec Ideal S512x1024 .f32) (r : Fin 512) (e : Fin 1024) :
    k0_pay1 (F := Ideal) p q s u v w g o z (ix2 r e)
      = beside p q s (mulf u (broadcastTo S512x256 (rsqrt (addf v w)) broadcasts_S512x1_S512x256)) (ix2 r e) * g (ix2 0 e) * Ideal.logistic (o (ix2 r e))
        * (z (ix2 r e) * Ideal.logistic (z (ix2 r e))) := by
  have h : broadcastTo S512x1024 (shapeCast S1x1024 g shapeCasts_S1x1024_S1x1024) broadcasts_S1x1024_S512x1024 (ix2 r e) = g (ix2 0 e) := by
    pointwise
  rw [← h]
  rfl

theorem ml_body (a b o z : FVec Ideal S512x1024 .f32) (g : FVec Ideal S1x1024 .f32) (r : Fin 512) (e : Fin 1024) :
    k0_pay1 (F := Ideal) (k0_pay3 (F := Ideal) a b) (k0_pay4 (F := Ideal) a b) (k0_pay5 (F := Ideal) a b) (k0_pay6 (F := Ideal) a b) (k0_pay7 (F := Ideal) a b)
        (k0_pay8 (F := Ideal)) g o z (ix2 r e)
      = rows4 a b r e * g (ix2 0 e) * Ideal.logistic (o (ix2 r e)) * (z (ix2 r e) * Ideal.logistic (z (ix2 r e))) := by
  refine (gated_at _ _ _ _ _ _ _ _ _ r e).trans ?_
  rw [show beside (k0_pay3 (F := Ideal) a b) (k0_pay4 (F := Ideal) a b) (k0_pay5 (F := Ideal) a b)
      (mulf (k0_pay6 (F := Ideal) a b) (broadcastTo S512x256 (rsqrt (addf (k0_pay7 (F := Ideal) a b) (k0_pay8 (F := Ideal)))) broadcasts_S512x1_S512x256)) (ix2 r e)
      = rows4 a b r e from beside_at _ _ _ _ r e _ (fun x hx => head0_at a b r x e (Fin.ext hx)) (fun x hx => head256_at a b r x e (Fin.ext hx))
        (fun x hx => head512_at a b r x e (Fin.ext hx)) (fun x hx => head768_at a b r x e (Fin.ext hx))]

end Cert.TailIdeal.Whole

end
-- ==== Proof.TailStages.lean ====
module

public import proofs.«01_k».proof.Proof.TailMath
public import proofs.«01_k».proof.Proof.TailMix

@[expose] public section

set_option maxRecDepth 16384

noncomputable section

namespace Cert.TailIdeal.Whole

open Idealize.ShloMosaic Idealize.ShloMosaic.TcCoe Idealize.SL.Sem
open Cert.TailIdeal Cert.TailIdeal.Gen

/-! What each call leaves in its array, from the arrays it finds. -/

variable (V : (c : Dev nD) → (b : Ref sig .tc) → Buf (Elt Ideal) ((c : Thread nD τ).loc b))

namespace Mix

/-- Each window's block at a point of the grid. -/
theorem idx : ∀ t : Fin cfg0.N, win0_0.index t = ![t.1, 0] ∧ win0_1.index t = ![t.1, 0] ∧ win0_2.index t = ![t.1, 9] ∧ win0_3.index t = ![t.1, 10] ∧ win0_4.index t = ![0, 0] ∧ win0_5.index t = ![t.1, 0] :=
  (by decide +kernel : ∀ t : Fin grid0.N, _)

def row (t : Fin cfg0.N) (r : Fin 512) : Fin 16384 := ⟨t.1 * 512 + r.1, by have h : t.1 < 32 := t.2; omega⟩

theorem a_at (c : Dev nD) (t : Fin cfg0.N) (r : Fin 512) (k : Fin 1024) :
    iblk0 V c 0 t (ix2 r k) = V c main_arg1 (ix2 (row t r) k) := by
  refine (show iblk0 V c 0 t (ix2 r k) = V c main_arg1 ((win0_0.blk t).view.emb (ix2 r k)) from rfl).trans ?_
  blk_ext! [idx t, row]
theorem b_at (c : Dev nD) (t : Fin cfg0.N) (r : Fin 512) (k : Fin 1024) :
    iblk0 V c 1 t (ix2 r k) = V c main_arg2 (ix2 (row t r) k) := by
  refine (show iblk0 V c 1 t (ix2 r k) = V c main_arg2 ((win0_1.blk t).view.emb (ix2 r k)) from rfl).trans ?_
  blk_ext! [idx t, row]
theorem o_at (c : Dev nD) (t : Fin cfg0.N) (r : Fin 512) (k : Fin 1024) :
    iblk0 V c 2 t (ix2 r k) = V c main_arg3 (ix2 (row t r) ⟨9216 + k.1, by omega⟩) := by
  refine (show iblk0 V c 2 t (ix2 r k) = V c main_arg3 ((win0_2.blk t).view.emb (ix2 r k)) from rfl).trans ?_
  blk_ext! [idx t, row]
theorem z_at (c : Dev nD) (t : Fin cfg0.N) (r : Fin 512) (k : Fin 1024) :
    iblk0 V c 3 t (ix2 r k) = V c main_arg3 (ix2 (row t r) ⟨10240 + k.1, by omega⟩) := by
  refine (show iblk0 V c 3 t (ix2 r k) = V c main_arg3 ((win0_3.blk t).view.emb (ix2 r k)) from rfl).trans ?_
  blk_ext! [idx t, row]
theorem g_at (c : Dev nD) (t : Fin cfg0.N) (e : Fin 1024) : iblk0 V c 4 t (ix2 0 e) = V c main_v0 (ix2 0 e) := by
  refine (show iblk0 V c 4 t (ix2 0 e) = V c main_v0 ((win0_4.blk t).view.emb (ix2 0 e)) from rfl).trans ?_
  refine congrArg (V c main_v0) ?_
  blk_ext! [idx t]

theorem block (c : Dev nD) (g : FVec Ideal S1024 .f32) (hg : ∀ e : Fin 1024, V c main_v0 (ix2 0 e) = g (ix1 e)) (t : Fin cfg0.N) (r : Fin 512) (e : Fin 1024) :
    k0_pay1 (F := Ideal) (k0_pay3 (F := Ideal) (iblk0 V c 0 t) (iblk0 V c 1 t)) (k0_pay4 (F := Ideal) (iblk0 V c 0 t) (iblk0 V c 1 t))
        (k0_pay5 (F := Ideal) (iblk0 V c 0 t) (iblk0 V c 1 t)) (k0_pay6 (F := Ideal) (iblk0 V c 0 t) (iblk0 V c 1 t)) (k0_pay7 (F := Ideal) (iblk0 V c 0 t) (iblk0 V c 1 t))
        (k0_pay8 (F := Ideal)) (iblk0 V c 4 t) (iblk0 V c 2 t) (iblk0 V c 3 t) (ix2 r e)
      = mlOf (V c main_arg1) (V c main_arg2) (V c main_arg3) g (ix2 (row t r) e) := by
  refine (ml_body _ _ _ _ _ r e).trans (Eq.trans ?_ (mlOf_at _ _ _ _ (row t r) e).symm)
  refine congrArg₂ (· * ·) (congrArg₂ (· * ·) (congrArg₂ (· * ·) (congrArg₂ (· * ·) (congrArg₂ (· + ·) (a_at V c t r e) (b_at V c t r e)) ?_) ((g_at V c t e).trans (hg e))) (congrArg Ideal.logistic (o_at V c t r e)))
    (congrArg₂ (· * ·) (z_at V c t r e) (congrArg Ideal.logistic (z_at V c t r e)))
  exact congrArg scaleOf (Finset.sum_congr rfl fun k _ => congrArg₂ (· * ·) (congrArg₂ (· + ·) (a_at V c t r (mate e k)) (b_at V c t r (mate e k))) (congrArg₂ (· + ·) (a_at V c t r (mate e k)) (b_at V c t r (mate e k))))

/-- The array the call leaves. -/
theorem array (c : Dev nD) (g : FVec Ideal S1024 .f32) (hg : ∀ e : Fin 1024, V c main_v0 (ix2 0 e) = g (ix1 e)) : (dat0 V c).arrAt 5 cfg0.N = mlOf (V c main_arg1) (V c main_arg2) (V c main_arg3) g := by
  refine (dat0 V c).arrAt_eq_of_covers 5 _ (by decide +kernel) fun t _ y => ?_
  blk_simp
  rw [after0_5]; frame_out
  have h := block V c g hg t ((y : S512x1024.Idx) 0) ((y : S512x1024.Idx) 1)
  rw [← show y = (ix2 ((y : S512x1024.Idx) 0) ((y : S512x1024.Idx) 1) : S512x1024.Idx) from eq_ix2 (y : S512x1024.Idx)] at h
  refine h.trans ?_
  generalize mlOf _ _ _ _ = G
  blk_ext! [idx t, row]

end Mix

namespace Out

/-- Each window's block at a point of the grid. -/
theorem idx : ∀ t : Fin cfg1.N, win1_0.index t = ![t.1 / 4, 0] ∧ win1_1.index t = ![t.1 / 4, 0] ∧ win1_2.index t = ![t.1 / 4, 0] ∧ win1_3.index t = ![0, t.1 % 4] ∧ win1_4.index t = ![1, t.1 % 4] ∧ win1_5.index t = ![1, t.1 % 4] ∧ win1_6.index t = ![t.1 / 4, t.1 % 4] :=
  (by decide +kernel : ∀ t : Fin grid1.N, _)

def row (t : Fin cfg1.N) (r : Fin 1024) : Fin 16384 := ⟨t.1 / 4 * 1024 + r.1, by have h : t.1 < 64 := t.2; omega⟩
def col (t : Fin cfg1.N) (e : Fin 1024) : Fin 4096 := ⟨t.1 % 4 * 1024 + e.1, by omega⟩

theorem a_at (c : Dev nD) (t : Fin cfg1.N) (r : Fin 1024) (k : Fin 1024) :
    iblk1 V c 0 t (ix2 r k) = V c main_v2 (ix2 (row t r) k) := by
  refine (show iblk1 V c 0 t (ix2 r k) = V c main_v2 ((win1_0.blk t).view.emb (ix2 r k)) from rfl).trans ?_
  blk_ext! [idx t, row]
theorem b_at (c : Dev nD) (t : Fin cfg1.N) (r : Fin 1024) (k : Fin 1024) :
    iblk1 V c 1 t (ix2 r k) = V c main_v1 (ix2 (row t r) k) := by
  refine (show iblk1 V c 1 t (ix2 r k) = V c main_v1 ((win1_1.blk t).view.emb (ix2 r k)) from rfl).trans ?_
  blk_ext! [idx t, row]
theorem d_at (c : Dev nD) (t : Fin cfg1.N) (r : Fin 1024) (k : Fin 2048) :
    iblk1 V c 2 t (ix2 r k) = V c main_v3 (ix2 (row t r) k) := by
  refine (show iblk1 V c 2 t (ix2 r k) = V c main_v3 ((win1_2.blk t).view.emb (ix2 r k)) from rfl).trans ?_
  blk_ext! [idx t, row]
theorem wa_at (c : Dev nD) (t : Fin cfg1.N) (r : Fin 1024) (k : Fin 1024) :
    iblk1 V c 3 t (ix2 r k) = V c main_v4 (ix2 ⟨r.1, by omega⟩ (col t k)) := by
  refine (show iblk1 V c 3 t (ix2 r k) = V c main_v4 ((win1_3.blk t).view.emb (ix2 r k)) from rfl).trans ?_
  blk_ext! [idx t, col]
theorem wb_at (c : Dev nD) (t : Fin cfg1.N) (r : Fin 1024) (k : Fin 1024) :
    iblk1 V c 4 t (ix2 r k) = V c main_v4 (ix2 ⟨1024 + r.1, by omega⟩ (col t k)) := by
  refine (show iblk1 V c 4 t (ix2 r k) = V c main_v4 ((win1_4.blk t).view.emb (ix2 r k)) from rfl).trans ?_
  blk_ext! [idx t, col]
theorem wd_at (c : Dev nD) (t : Fin cfg1.N) (r : Fin 2048) (k : Fin 1024) :
    iblk1 V c 5 t (ix2 r k) = V c main_v4 (ix2 ⟨2048 + r.1, by omega⟩ (col t k)) := by
  refine (show iblk1 V c 5 t (ix2 r k) = V c main_v4 ((win1_5.blk t).view.emb (ix2 r k)) from rfl).trans ?_
  blk_ext! [idx t, col]

theorem block (c : Dev nD) (t : Fin cfg1.N) (r e : Fin 1024) :
    k1_pay1 (F := Ideal) (iblk1 V c 0 t) (iblk1 V c 3 t) (iblk1 V c 1 t) (iblk1 V c 4 t) (iblk1 V c 2 t) (iblk1 V c 5 t) (ix2 r e)
      = outOf (V c main_v2) (V c main_v1) (V c main_v3) (V c main_v4) (ix2 (row t r) (col t e)) := by
  refine (out_body _ _ _ _ _ _ r e).trans (Eq.trans ?_ (outOf_at _ _ _ _ (row t r) (col t e)).symm)
  refine congrArg₂ (· + ·) (congrArg₂ (· + ·) (Finset.sum_congr rfl fun k _ => ?_) (Finset.sum_congr rfl fun k _ => ?_)) (Finset.sum_congr rfl fun k _ => ?_)
  · exact congrArg₂ (· * ·) (a_at V c t r k) (wa_at V c t k e)
  · exact congrArg₂ (· * ·) (b_at V c t r k) (wb_at V c t k e)
  · exact congrArg₂ (· * ·) (d_at V c t r k) (wd_at V c t k e)

/-- The array the call leaves. -/
theorem array (c : Dev nD) : (dat1 V c).arrAt 6 cfg1.N = outOf (V c main_v2) (V c main_v1) (V c main_v3) (V c main_v4) := by
  refine (dat1 V c).arrAt_eq_of_covers 6 _ (by decide +kernel) fun t _ y => ?_
  blk_simp
  rw [after1_6]; frame_out
  have h := block V c t ((y : S1024x1024.Idx) 0) ((y : S1024x1024.Idx) 1)
  rw [← show y = (ix2 ((y : S1024x1024.Idx) 0) ((y : S1024x1024.Idx) 1) : S1024x1024.Idx) from eq_ix2 (y : S1024x1024.Idx)] at h
  refine h.trans ?_
  generalize outOf _ _ _ _ = G
  blk_ext! [idx t, row, col]

end Out

namespace Norm

/-- Each window's block at a point of the grid. -/
theorem idx : ∀ t : Fin cfg2.N, win2_0.index t = ![t.1, 0] ∧ win2_1.index t = ![t.1, 0] ∧ win2_2.index t = ![0, 0] ∧ win2_3.index t = ![t.1, 0] ∧ win2_4.index t = ![t.1, 0] :=
  (by decide +kernel : ∀ t : Fin grid2.N, _)

def row (t : Fin cfg2.N) (r : Fin 256) : Fin 16384 := ⟨t.1 * 256 + r.1, by have h : t.1 < 64 := t.2; omega⟩

theorem x_at (c : Dev nD) (t : Fin cfg2.N) (r : Fin 256) (k : Fin 4096) :
    iblk2 V c 0 t (ix2 r k) = V c main_arg0 (ix2 (row t r) k) := by
  refine (show iblk2 V c 0 t (ix2 r k) = V c main_arg0 ((win2_0.blk t).view.emb (ix2 r k)) from rfl).trans ?_
  blk_ext! [idx t, row]
theorem y_at (c : Dev nD) (t : Fin cfg2.N) (r : Fin 256) (k : Fin 4096) :
    iblk2 V c 1 t (ix2 r k) = V c main_v5 (ix2 (row t r) k) := by
  refine (show iblk2 V c 1 t (ix2 r k) = V c main_v5 ((win2_1.blk t).view.emb (ix2 r k)) from rfl).trans ?_
  blk_ext! [idx t, row]
theorem g_at (c : Dev nD) (t : Fin cfg2.N) (e : Fin 4096) : iblk2 V c 2 t (ix2 0 e) = V c main_v6 (ix2 0 e) := by
  refine (show iblk2 V c 2 t (ix2 0 e) = V c main_v6 ((win2_2.blk t).view.emb (ix2 0 e)) from rfl).trans ?_
  refine congrArg (V c main_v6) ?_
  blk_ext! [idx t]

theorem block (c : Dev nD) (g : FVec Ideal S4096 .f32) (hg : ∀ e : Fin 4096, V c main_v6 (ix2 0 e) = g (ix1 e)) (t : Fin cfg2.N) (r : Fin 256) (e : Fin 4096) :
    k2_pay1 (F := Ideal) (iblk2 V c 1 t) (iblk2 V c 0 t) (iblk2 V c 2 t) (ix2 r e) = normOf (V c main_arg0) (V c main_v5) g (ix2 (row t r) e) := by
  refine (norm_body2 _ _ _ r e).trans (Eq.trans ?_ (normOf_at _ _ _ (row t r) e).symm)
  refine congrArg₂ (· + ·) (x_at V c t r e) (congrArg₂ (· * ·) (congrArg₂ (· * ·) (y_at V c t r e) ?_) ((g_at V c t e).trans (hg e)))
  exact congrArg (fun s => Ideal.rsqrt (Ideal.div s _ + _)) (Finset.sum_congr rfl fun k _ => congrArg₂ (· * ·) (y_at V c t r k) (y_at V c t r k))
theorem block_copy (c : Dev nD) (g : FVec Ideal S4096 .f32) (hg : ∀ e : Fin 4096, V c main_v6 (ix2 0 e) = g (ix1 e)) (t : Fin cfg2.N) (r : Fin 256) (e : Fin 4096) :
    k2_pay2 (F := Ideal) (iblk2 V c 1 t) (iblk2 V c 0 t) (iblk2 V c 2 t) (ix2 r e) = normOf (V c main_arg0) (V c main_v5) g (ix2 (row t r) e) :=
  block V c g hg t r e

/-- The array the call leaves. -/
theorem array (c : Dev nD) (g : FVec Ideal S4096 .f32) (hg : ∀ e : Fin 4096, V c main_v6 (ix2 0 e) = g (ix1 e)) : (dat2 V c).arrAt 3 cfg2.N = normOf (V c main_arg0) (V c main_v5) g := by
  refine (dat2 V c).arrAt_eq_of_covers 3 _ (by decide +kernel) fun t _ y => ?_
  blk_simp
  rw [after2_3]; frame_out
  have h := block V c g hg t ((y : S256x4096.Idx) 0) ((y : S256x4096.Idx) 1)
  rw [← show y = (ix2 ((y : S256x4096.Idx) 0) ((y : S256x4096.Idx) 1) : S256x4096.Idx) from eq_ix2 (y : S256x4096.Idx)] at h
  refine h.trans ?_
  generalize normOf _ _ _ = G
  blk_ext! [idx t, row]

/-- The array the call leaves. -/
theorem array_copy (c : Dev nD) (g : FVec Ideal S4096 .f32) (hg : ∀ e : Fin 4096, V c main_v6 (ix2 0 e) = g (ix1 e)) : (dat2 V c).arrAt 4 cfg2.N = normOf (V c main_arg0) (V c main_v5) g := by
  refine (dat2 V c).arrAt_eq_of_covers 4 _ (by decide +kernel) fun t _ y => ?_
  blk_simp
  rw [after2_4]; frame_out
  have h := block_copy V c g hg t ((y : S256x4096.Idx) 0) ((y : S256x4096.Idx) 1)
  rw [← show y = (ix2 ((y : S256x4096.Idx) 0) ((y : S256x4096.Idx) 1) : S256x4096.Idx) from eq_ix2 (y : S256x4096.Idx)] at h
  refine h.trans ?_
  generalize normOf _ _ _ = G
  blk_ext! [idx t, row]

end Norm

namespace Last

/-- Each window's block at a point of the grid. -/
theorem idx : ∀ t : Fin cfg4.N, win4_0.index t = ![t.1, 0] ∧ win4_1.index t = ![t.1, 0] ∧ win4_2.index t = ![0, 0] ∧ win4_3.index t = ![t.1, 0] :=
  (by decide +kernel : ∀ t : Fin grid4.N, _)

def row (t : Fin cfg4.N) (r : Fin 256) : Fin 16384 := ⟨t.1 * 256 + r.1, by have h : t.1 < 64 := t.2; omega⟩

theorem x_at (c : Dev nD) (t : Fin cfg4.N) (r : Fin 256) (k : Fin 4096) :
    iblk4 V c 0 t (ix2 r k) = V c main_v7_0 (ix2 (row t r) k) := by
  refine (show iblk4 V c 0 t (ix2 r k) = V c main_v7_0 ((win4_0.blk t).view.emb (ix2 r k)) from rfl).trans ?_
  blk_ext! [idx t, row]
theorem y_at (c : Dev nD) (t : Fin cfg4.N) (r : Fin 256) (k : Fin 4096) :
    iblk4 V c 1 t (ix2 r k) = V c main_v10 (ix2 (row t r) k) := by
  refine (show iblk4 V c 1 t (ix2 r k) = V c main_v10 ((win4_1.blk t).view.emb (ix2 r k)) from rfl).trans ?_
  blk_ext! [idx t, row]
theorem g_at (c : Dev nD) (t : Fin cfg4.N) (e : Fin 4096) : iblk4 V c 2 t (ix2 0 e) = V c main_v11 (ix2 0 e) := by
  refine (show iblk4 V c 2 t (ix2 0 e) = V c main_v11 ((win4_2.blk t).view.emb (ix2 0 e)) from rfl).trans ?_
  refine congrArg (V c main_v11) ?_
  blk_ext! [idx t]

theorem block (c : Dev nD) (g : FVec Ideal S4096 .f32) (hg : ∀ e : Fin 4096, V c main_v11 (ix2 0 e) = g (ix1 e)) (t : Fin cfg4.N) (r : Fin 256) (e : Fin 4096) :
    k4_pay1 (F := Ideal) (iblk4 V c 1 t) (iblk4 V c 0 t) (iblk4 V c 2 t) (ix2 r e) = normOf (V c main_v7_0) (V c main_v10) g (ix2 (row t r) e) := by
  refine (norm_body4 _ _ _ r e).trans (Eq.trans ?_ (normOf_at _ _ _ (row t r) e).symm)
  refine congrArg₂ (· + ·) (x_at V c t r e) (congrArg₂ (· * ·) (congrArg₂ (· * ·) (y_at V c t r e) ?_) ((g_at V c t e).trans (hg e)))
  exact congrArg (fun s => Ideal.rsqrt (Ideal.div s _ + _)) (Finset.sum_congr rfl fun k _ => congrArg₂ (· * ·) (y_at V c t r k) (y_at V c t r k))

/-- The array the call leaves. -/
theorem array (c : Dev nD) (g : FVec Ideal S4096 .f32) (hg : ∀ e : Fin 4096, V c main_v11 (ix2 0 e) = g (ix1 e)) : (dat4 V c).arrAt 3 cfg4.N = normOf (V c main_v7_0) (V c main_v10) g := by
  refine (dat4 V c).arrAt_eq_of_covers 3 _ (by decide +kernel) fun t _ y => ?_
  blk_simp
  rw [after4_3]; frame_out
  have h := block V c g hg t ((y : S256x4096.Idx) 0) ((y : S256x4096.Idx) 1)
  rw [← show y = (ix2 ((y : S256x4096.Idx) 0) ((y : S256x4096.Idx) 1) : S256x4096.Idx) from eq_ix2 (y : S256x4096.Idx)] at h
  refine h.trans ?_
  generalize normOf _ _ _ = G
  blk_ext! [idx t, row]

end Last

namespace Embed

/-- Each window's block at a point of the grid. -/
theorem idx : ∀ t : Fin cfg3.N, win3_0.index t = ![t.1 / 4, 0] ∧ win3_1.index t = ![t.1 / 4, 0] ∧ win3_2.index t = ![0, t.1 % 4] ∧ win3_3.index t = ![0, t.1 % 4] ∧ win3_4.index t = ![t.1 / 4, t.1 % 4] :=
  (by decide +kernel : ∀ t : Fin grid3.N, _)

def row (t : Fin cfg3.N) (r : Fin 1024) : Fin 16384 := ⟨t.1 / 4 * 1024 + r.1, by have h : t.1 < 64 := t.2; omega⟩
def col (t : Fin cfg3.N) (e : Fin 1024) : Fin 4096 := ⟨t.1 % 4 * 1024 + e.1, by omega⟩

theorem p_at (c : Dev nD) (t : Fin cfg3.N) (r : Fin 1024) (k : Fin 256) :
    iblk3 V c 0 t (ix2 r k) = V c main_arg6 (ix2 (row t r) k) := by
  refine (show iblk3 V c 0 t (ix2 r k) = V c main_arg6 ((win3_0.blk t).view.emb (ix2 r k)) from rfl).trans ?_
  blk_ext! [idx t, row]
theorem x_at (c : Dev nD) (t : Fin cfg3.N) (r : Fin 1024) (k : Fin 4096) :
    iblk3 V c 1 t (ix2 r k) = V c main_v7_1 (ix2 (row t r) k) := by
  refine (show iblk3 V c 1 t (ix2 r k) = V c main_v7_1 ((win3_1.blk t).view.emb (ix2 r k)) from rfl).trans ?_
  blk_ext! [idx t, row]
theorem wp_at (c : Dev nD) (t : Fin cfg3.N) (r : Fin 256) (k : Fin 1024) :
    iblk3 V c 2 t (ix2 r k) = V c main_v8 (ix2 r (col t k)) := by
  refine (show iblk3 V c 2 t (ix2 r k) = V c main_v8 ((win3_2.blk t).view.emb (ix2 r k)) from rfl).trans ?_
  blk_ext! [idx t, col]
theorem wg_at (c : Dev nD) (t : Fin cfg3.N) (r : Fin 4096) (k : Fin 1024) :
    iblk3 V c 3 t (ix2 r k) = V c main_v9 (ix2 r (col t k)) := by
  refine (show iblk3 V c 3 t (ix2 r k) = V c main_v9 ((win3_3.blk t).view.emb (ix2 r k)) from rfl).trans ?_
  blk_ext! [idx t, col]

theorem block (c : Dev nD) (t : Fin cfg3.N) (r e : Fin 1024) :
    k3_pay1 (F := Ideal) (iblk3 V c 0 t) (iblk3 V c 2 t) (iblk3 V c 1 t) (iblk3 V c 3 t) (ix2 r e) = pleOf (V c main_arg6) (V c main_v7_1) (V c main_v8) (V c main_v9) (ix2 (row t r) (col t e)) := by
  refine (ple_body _ _ _ _ r e).trans (Eq.trans ?_ (pleOf_at _ _ _ _ (row t r) (col t e)).symm)
  refine congrArg₂ (· * ·) (Finset.sum_congr rfl fun k _ => ?_) (congrArg Ideal.logistic (Finset.sum_congr rfl fun k _ => ?_))
  · exact congrArg₂ (· * ·) (p_at V c t r k) (wp_at V c t k e)
  · exact congrArg₂ (· * ·) (x_at V c t r k) (wg_at V c t k e)

/-- The array the call leaves. -/
theorem array (c : Dev nD) : (dat3 V c).arrAt 4 cfg3.N = pleOf (V c main_arg6) (V c main_v7_1) (V c main_v8) (V c main_v9) := by
  refine (dat3 V c).arrAt_eq_of_covers 4 _ (by decide +kernel) fun t _ y => ?_
  blk_simp
  rw [after3_4]; frame_out
  have h := block V c t ((y : S1024x1024.Idx) 0) ((y : S1024x1024.Idx) 1)
  rw [← show y = (ix2 ((y : S1024x1024.Idx) 0) ((y : S1024x1024.Idx) 1) : S1024x1024.Idx) from eq_ix2 (y : S1024x1024.Idx)] at h
  refine h.trans ?_
  generalize pleOf _ _ _ _ = G
  blk_ext! [idx t, row, col]

end Embed

end Cert.TailIdeal.Whole

end
-- ==== Proof.TailValue.lean ====
module

public import proofs.«01_k».proof.Defs
public import proofs.«01_k».proof.Proof.Gen.Tail.Frame
public import proofs.«01_k».proof.Proof.TailStages
public import Idealize.ShloMosaic.Lib.Quiescent
public import Idealize.ShloMosaic.Lib.Claim

@[expose] public section

set_option maxRecDepth 16384

noncomputable section

namespace Cert.TailIdeal.Whole

open Idealize.ShloMosaic Idealize.ShloMosaic.TcCoe Idealize.SL.Sem
open Cert.TailIdeal Cert.TailIdeal.Gen

/-! The layer's tail as one program: each call finds what the calls before it left. -/

section run
open Idealize.SL Idealize.SL.RA Idealize.SL.BI
open scoped Idealize.SL.BI
open Idealize.SL.BI.BIBase Idealize.SL.BI.Laws Idealize.SL.ProofMode
open Idealize.ShloMosaic.Rounds
variable {F : FTy → Type} [FloatOps F]
set_option backward.isDefEq.respectTransparency.types false in
/-- What the whole run leaves: the result at the contents of the last boundary, the arguments as launched. -/
theorem run_held (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v12) = W10 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => fun c =>
      ⟨h c _ (mem_uc main_v12 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c)⟩)

end run

variable (m : (ℓ : Loc nD τ sig) → Buf (Elt Ideal) ℓ) (ρ : Dev nD → PrngReg)

/-- The mLSTM's output, the mixers' projected output, the residual stream after it, the gated embedding, and the layer's last residual. -/
def gated (c : Dev nD) : FVec Ideal S16384x1024 .f32 := mlOf (m ((c : Thread nD τ).loc main_arg1)) (m ((c : Thread nD τ).loc main_arg2)) (m ((c : Thread nD τ).loc main_arg3)) (m ((c : Thread nD τ).loc main_arg7))
def mixed (c : Dev nD) : FVec Ideal S16384x4096 .f32 := outOf (m ((c : Thread nD τ).loc main_arg4)) (gated m c) (m ((c : Thread nD τ).loc main_arg5)) (m ((c : Thread nD τ).loc main_arg8))
def stream (c : Dev nD) : FVec Ideal S16384x4096 .f32 := normOf (m ((c : Thread nD τ).loc main_arg0)) (mixed m c) (m ((c : Thread nD τ).loc main_arg9))
def embedded (c : Dev nD) : FVec Ideal S16384x4096 .f32 := pleOf (m ((c : Thread nD τ).loc main_arg6)) (stream m c) (m ((c : Thread nD τ).loc main_arg10)) (m ((c : Thread nD τ).loc main_arg11))
def last (c : Dev nD) : FVec Ideal S16384x4096 .f32 := normOf (stream m c) (embedded m c) (m ((c : Thread nD τ).loc main_arg12))

theorem cast_at (g : FVec Ideal S4096 .f32) (e : Fin 4096) : shapeCast S1x4096 g shapeCasts_S4096_S1x4096 (ix2 0 e) = g (ix1 e) := by
  pointwise
theorem cast_at_heads (g : FVec Ideal S1024 .f32) (e : Fin 1024) : shapeCast S1x1024 g shapeCasts_S1024_S1x1024 (ix2 0 e) = g (ix1 e) := by
  pointwise

theorem V1_g (c : Dev nD) : V1 m ρ c main_v0 = shapeCast S1x1024 (m ((c : Thread nD τ).loc main_arg7)) shapeCasts_S1024_S1x1024 := by
  simp only [V1, W1, hostOps0]; after_results_simp <;> rfl
theorem V1_at (c : Dev nD) (e : Fin 1024) : V1 m ρ c main_v0 (ix2 0 e) = (m ((c : Thread nD τ).loc main_arg7)) (ix1 e) := by
  rw [V1_g]; exact cast_at_heads (m ((c : Thread nD τ).loc main_arg7)) e
theorem V1_arg1 (c : Dev nD) : V1 m ρ c main_arg1 = (m ((c : Thread nD τ).loc main_arg1)) := W1_args m ρ c main_arg1 (by decide +kernel)
theorem V1_arg2 (c : Dev nD) : V1 m ρ c main_arg2 = (m ((c : Thread nD τ).loc main_arg2)) := W1_args m ρ c main_arg2 (by decide +kernel)
theorem V1_arg3 (c : Dev nD) : V1 m ρ c main_arg3 = (m ((c : Thread nD τ).loc main_arg3)) := W1_args m ρ c main_arg3 (by decide +kernel)

theorem W2_gated (c : Dev nD) : W2 m ρ c (Proc.devRef .tc main_v1) = gated m c := by
  refine (W2_arr m ρ c 5).trans ((Mix.array (V1 m ρ) c (m ((c : Thread nD τ).loc main_arg7)) (V1_at m ρ c)).trans ?_)
  rw [V1_arg1, V1_arg2, V1_arg3]; rfl

theorem V3_v1 (c : Dev nD) : V3 m ρ c main_v1 = gated m c := (W3_of m ρ c main_v1 (by decide +kernel)).trans (W2_gated m ρ c)
theorem V3_v2 (c : Dev nD) : V3 m ρ c main_v2 = truncf (F := Ideal) .bf16 (m ((c : Thread nD τ).loc main_arg4)) bitsLt_bf16_f32 := by
  rw [← W2_args m ρ c main_arg4 (by decide +kernel)]
  simp only [V3, W3, hostOps1]; after_results_simp <;> rfl
theorem V3_v3 (c : Dev nD) : V3 m ρ c main_v3 = truncf (F := Ideal) .bf16 (m ((c : Thread nD τ).loc main_arg5)) bitsLt_bf16_f32 := by
  rw [← W2_args m ρ c main_arg5 (by decide +kernel)]
  simp only [V3, W3, hostOps1]; after_results_simp <;> rfl
theorem V3_v4 (c : Dev nD) : V3 m ρ c main_v4 = truncf (F := Ideal) .bf16 (m ((c : Thread nD τ).loc main_arg8)) bitsLt_bf16_f32 := by
  rw [← W2_args m ρ c main_arg8 (by decide +kernel)]
  simp only [V3, W3, hostOps1]; after_results_simp <;> rfl

theorem W4_mixed (c : Dev nD) : W4 m ρ c (Proc.devRef .tc main_v5) = mixed m c := by
  refine (W4_arr m ρ c 6).trans ((Out.array (V3 m ρ) c).trans ?_)
  rw [V3_v1, V3_v2, V3_v3, V3_v4]; rfl

theorem V5_g (c : Dev nD) : V5 m ρ c main_v6 = shapeCast S1x4096 (m ((c : Thread nD τ).loc main_arg9)) shapeCasts_S4096_S1x4096 := by
  rw [← W4_args m ρ c main_arg9 (by decide +kernel)]
  simp only [V5, W5, hostOps2]; after_results_simp <;> rfl
theorem V5_at (c : Dev nD) (e : Fin 4096) : V5 m ρ c main_v6 (ix2 0 e) = (m ((c : Thread nD τ).loc main_arg9)) (ix1 e) := by
  rw [V5_g]; exact cast_at (m ((c : Thread nD τ).loc main_arg9)) e
theorem V5_arg0 (c : Dev nD) : V5 m ρ c main_arg0 = (m ((c : Thread nD τ).loc main_arg0)) := W5_args m ρ c main_arg0 (by decide +kernel)
theorem V5_y (c : Dev nD) : V5 m ρ c main_v5 = mixed m c := (W5_of m ρ c main_v5 (by decide +kernel)).trans (W4_mixed m ρ c)

theorem W6_stream (c : Dev nD) : W6 m ρ c (Proc.devRef .tc main_v7_0) = stream m c := by
  refine (W6_arr m ρ c 3).trans ((Norm.array (V5 m ρ) c (m ((c : Thread nD τ).loc main_arg9)) (V5_at m ρ c)).trans ?_)
  rw [V5_arg0, V5_y]; rfl
theorem W6_copy (c : Dev nD) : W6 m ρ c (Proc.devRef .tc main_v7_1) = stream m c := by
  refine (W6_arr m ρ c 4).trans ((Norm.array_copy (V5 m ρ) c (m ((c : Thread nD τ).loc main_arg9)) (V5_at m ρ c)).trans ?_)
  rw [V5_arg0, V5_y]; rfl

theorem V7_arg6 (c : Dev nD) : V7 m ρ c main_arg6 = (m ((c : Thread nD τ).loc main_arg6)) := W7_args m ρ c main_arg6 (by decide +kernel)
theorem V7_x (c : Dev nD) : V7 m ρ c main_v7_1 = stream m c := (W7_of m ρ c main_v7_1 (by decide +kernel)).trans (W6_copy m ρ c)
theorem V7_v8 (c : Dev nD) : V7 m ρ c main_v8 = truncf (F := Ideal) .bf16 (m ((c : Thread nD τ).loc main_arg10)) bitsLt_bf16_f32 := by
  rw [← W6_args m ρ c main_arg10 (by decide +kernel)]
  simp only [V7, W7, hostOps3]; after_results_simp <;> rfl
theorem V7_v9 (c : Dev nD) : V7 m ρ c main_v9 = truncf (F := Ideal) .bf16 (m ((c : Thread nD τ).loc main_arg11)) bitsLt_bf16_f32 := by
  rw [← W6_args m ρ c main_arg11 (by decide +kernel)]
  simp only [V7, W7, hostOps3]; after_results_simp <;> rfl

theorem W8_embedded (c : Dev nD) : W8 m ρ c (Proc.devRef .tc main_v10) = embedded m c := by
  refine (W8_arr m ρ c 4).trans ((Embed.array (V7 m ρ) c).trans ?_)
  rw [V7_arg6, V7_x, V7_v8, V7_v9]; rfl

theorem V9_g (c : Dev nD) : V9 m ρ c main_v11 = shapeCast S1x4096 (m ((c : Thread nD τ).loc main_arg12)) shapeCasts_S4096_S1x4096 := by
  rw [← W8_args m ρ c main_arg12 (by decide +kernel)]
  simp only [V9, W9, hostOps4]; after_results_simp <;> rfl
theorem V9_at (c : Dev nD) (e : Fin 4096) : V9 m ρ c main_v11 (ix2 0 e) = (m ((c : Thread nD τ).loc main_arg12)) (ix1 e) := by
  rw [V9_g]; exact cast_at (m ((c : Thread nD τ).loc main_arg12)) e
theorem V9_x (c : Dev nD) : V9 m ρ c main_v7_0 = stream m c :=
  (W9_of m ρ c main_v7_0 (by decide +kernel)).trans ((W8_of m ρ c main_v7_0 (by decide +kernel)).trans
    ((W7_of m ρ c main_v7_0 (by decide +kernel)).trans (W6_stream m ρ c)))
theorem V9_y (c : Dev nD) : V9 m ρ c main_v10 = embedded m c := (W9_of m ρ c main_v10 (by decide +kernel)).trans (W8_embedded m ρ c)

theorem W10_result (c : Dev nD) : W10 m ρ c (Proc.devRef .tc main_v12) = last m c := by
  refine (W10_arr m ρ c 3).trans ((Last.array (V9 m ρ) c (m ((c : Thread nD τ).loc main_arg12)) (V9_at m ρ c)).trans ?_)
  rw [V9_x, V9_y]; rfl

theorem frame_kernel : Cert.quiescent_Tail := fun m ρ _ => Cert.Tail.Gen.frame m ρ
theorem frame_ideal : Cert.quiescent_TailIdeal := fun m ρ _ => Cert.TailIdeal.Gen.frame m ρ
theorem frame_reference : Cert.quiescent_TailReferenceIdeal := fun m ρ _ =>
  (θ_run Cert.TailReferenceIdeal.defs _ _).mono (fun r h => ⟨fun c => (h c).2, sem_eq_zero_of_no_sems (by decide) r.2⟩)
    (Cert.TailReferenceIdeal.Value.run (F := Ideal) m ρ)

theorem algebraic : Cert.algebraic_TailIdeal_TailReferenceIdeal := fun m ρ m' ρ' _ hargs => by
  refine ⟨fun c => last m c, ?_, ?_⟩
  · exact (θ_run defs _ _).mono (fun r h c => ⟨(h c).1.trans (W10_result m ρ c), (h c).2⟩) (run_held m ρ)
  · refine (θ_run Cert.TailReferenceIdeal.defs _ _).mono (fun r h c => ⟨(h c).1.trans ?_, (h c).2⟩) (Cert.TailReferenceIdeal.Value.run (F := Ideal) m' ρ')
    unfold Cert.TailReferenceIdeal.Value.res_main_v65
    rw [(hargs c).1, (hargs c).2.1, (hargs c).2.2.1, (hargs c).2.2.2.1, (hargs c).2.2.2.2.1, (hargs c).2.2.2.2.2.1, (hargs c).2.2.2.2.2.2.1, (hargs c).2.2.2.2.2.2.2.1, (hargs c).2.2.2.2.2.2.2.2.1, (hargs c).2.2.2.2.2.2.2.2.2.1, (hargs c).2.2.2.2.2.2.2.2.2.2.1, (hargs c).2.2.2.2.2.2.2.2.2.2.2.1, (hargs c).2.2.2.2.2.2.2.2.2.2.2.2]
    rfl

end Cert.TailIdeal.Whole

end
-- ==== Proof.HeadOrder.lean ====
module

public import proofs.«01_k».proof.Proof.Gen.HeadIdeal.Frame
public import proofs.«01_k».proof.Proof.Gen.HeadReferenceIdeal.Run
public import Idealize.ShloMosaic.Lib.Pointwise

@[expose] public section

set_option maxRecDepth 16384

noncomputable section

namespace Cert.HeadIdeal.Order

open Idealize.ShloMosaic Idealize.ShloMosaic.TcCoe Idealize.SL.Sem

/-! The order of the projection's columns: the kernel takes the weight's columns in it, the reference the product's. -/

/-- The lane a lane of the output holds. -/
def lane (x : ℕ) : ℕ := x / 128 * 128 + x / 32 % 2 * 64 + x / 64 % 2 * 32 + x % 32

/-- The column of the weight a column of the output holds. -/
def column (e : ℕ) : ℕ :=
  if e < 2048 then 7184 + lane e else if e < 4096 then 8208 + e else if e < 11264 then e - 4096
  else if e < 11776 then 9232 + lane (e - 11264) else e - 2032

theorem column_queries {e : ℕ} (x : ℕ) (hx : x < 2048) (he : e = x) : column e = 7184 + lane x := by
  unfold column
  rw [if_pos (show e < 2048 by omega), he]
theorem column_gates {e : ℕ} (x : ℕ) (hx : x < 2048) (he : e = 2048 + x) : column e = 10256 + x := by
  unfold column
  rw [if_neg (show ¬ e < 2048 by omega), if_pos (show e < 4096 by omega)]
  omega
theorem column_mixers {e : ℕ} (x : ℕ) (hx : x < 7168) (he : e = 4096 + x) : column e = x := by
  unfold column
  rw [if_neg (show ¬ e < 2048 by omega), if_neg (show ¬ e < 4096 by omega), if_pos (show e < 11264 by omega)]
  omega
theorem column_keys {e : ℕ} (x : ℕ) (hx : x < 512) (he : e = 11264 + x) : column e = 9232 + lane x := by
  unfold column
  rw [if_neg (show ¬ e < 2048 by omega), if_neg (show ¬ e < 4096 by omega), if_neg (show ¬ e < 11264 by omega), if_pos (show e < 11776 by omega), he,
    Nat.add_sub_cancel_left]
theorem column_values {e : ℕ} (x : ℕ) (hx : x < 512) (he : e = 11776 + x) : column e = 9744 + x := by
  unfold column
  rw [if_neg (show ¬ e < 2048 by omega), if_neg (show ¬ e < 4096 by omega), if_neg (show ¬ e < 11264 by omega), if_neg (show ¬ e < 11776 by omega)]
  omega

/-- A choice is `R` when both of its sides are. -/
theorem pick {q : Prop} [Decidable q] {x : q → EReal} {y : ¬ q → EReal} {R : EReal} (hx : ∀ h, x h = R) (hy : ∀ h, y h = R) : dite q x y = R := by
  split
  · exact hx _
  · exact hy _

theorem column_lt (e : Fin 12288) : column e.1 < 12304 := by
  unfold column lane
  split_ifs <;> omega

section Weights

open Cert.HeadIdeal Cert.HeadIdeal.Gen

/-- The queries' and the keys' columns of the weight, in the output's order. -/
def queries (w : FVec Ideal S4096x12304 .f32) : FVec Ideal S4096x2048 .f32 :=
  shapeCast S4096x2048 (transpose S4096x16x2x2x32 [0, 1, 3, 2, 4]
    (shapeCast S4096x16x2x2x32 (extractStridedSlice S4096x2048 ![0, 7184] w slices_S4096x12304_S4096x2048_0_7184) shapeCasts_S4096x2048_S4096x16x2x2x32)
    transposes_S4096x16x2x2x32_S4096x16x2x2x32_0_1_3_2_4) shapeCasts_S4096x16x2x2x32_S4096x2048
def keys (w : FVec Ideal S4096x12304 .f32) : FVec Ideal S4096x512 .f32 :=
  shapeCast S4096x512 (transpose S4096x4x2x2x32 [0, 1, 3, 2, 4]
    (shapeCast S4096x4x2x2x32 (extractStridedSlice S4096x512 ![0, 9232] w slices_S4096x12304_S4096x512_0_9232) shapeCasts_S4096x512_S4096x4x2x2x32)
    transposes_S4096x4x2x2x32_S4096x4x2x2x32_0_1_3_2_4) shapeCasts_S4096x4x2x2x32_S4096x512

theorem queries_at (w : FVec Ideal S4096x12304 .f32) (k : Fin 4096) (x : Fin 2048) (j : Fin 12304) (hj : j.1 = 7184 + lane x.1) :
    queries w (ix2 k x) = w (ix2 k j) := by
  pointwise [queries]
  exact congrArg (fun c => w (ix2 k c)) (Fin.ext hj.symm)
theorem keys_at (w : FVec Ideal S4096x12304 .f32) (k : Fin 4096) (x : Fin 512) (j : Fin 12304) (hj : j.1 = 9232 + lane x.1) :
    keys w (ix2 k x) = w (ix2 k j) := by
  pointwise [keys]
  exact congrArg (fun c => w (ix2 k c)) (Fin.ext hj.symm)
/-- Five arrays side by side. -/
def beside (q z : FVec Ideal S4096x2048 .f32) (u : FVec Ideal S4096x7168 .f32) (n v : FVec Ideal S4096x512 .f32) : FVec Ideal S4096x12288 .f32 :=
  concatenate S4096x12288 1
    [⟨S4096x2048, (q : (⟨S4096x2048, .f32⟩ : BufTy).Contents (Elt Ideal))⟩, ⟨S4096x2048, (z : (⟨S4096x2048, .f32⟩ : BufTy).Contents (Elt Ideal))⟩,
     ⟨S4096x7168, (u : (⟨S4096x7168, .f32⟩ : BufTy).Contents (Elt Ideal))⟩, ⟨S4096x512, (n : (⟨S4096x512, .f32⟩ : BufTy).Contents (Elt Ideal))⟩,
     ⟨S4096x512, (v : (⟨S4096x512, .f32⟩ : BufTy).Contents (Elt Ideal))⟩]
    concatenates_S4096x2048_S4096x2048_S4096x7168_S4096x512_S4096x512_S4096x12288_d1
/-- The weight's columns in the output's order. -/
def ordered (w : FVec Ideal S4096x12304 .f32) : FVec Ideal S4096x12288 .f32 :=
  beside (queries w) (extractStridedSlice S4096x2048 ![0, 10256] w slices_S4096x12304_S4096x2048_0_10256)
    (extractStridedSlice S4096x7168 ![0, 0] w slices_S4096x12304_S4096x7168_0_0) (keys w)
    (extractStridedSlice S4096x512 ![0, 9744] w slices_S4096x12304_S4096x512_0_9744)

theorem gates_at (w : FVec Ideal S4096x12304 .f32) (k : Fin 4096) (x : Fin 2048) (j : Fin 12304) (hj : j.1 = 10256 + x.1) :
    extractStridedSlice S4096x2048 ![0, 10256] w slices_S4096x12304_S4096x2048_0_10256 (ix2 k x) = w (ix2 k j) := by
  pointwise
  exact congrArg (fun c => w (ix2 k c)) (Fin.ext (by simp only; omega))
theorem mixers_at (w : FVec Ideal S4096x12304 .f32) (k : Fin 4096) (x : Fin 7168) (j : Fin 12304) (hj : j.1 = x.1) :
    extractStridedSlice S4096x7168 ![0, 0] w slices_S4096x12304_S4096x7168_0_0 (ix2 k x) = w (ix2 k j) := by
  pointwise
  exact congrArg (fun c => w (ix2 k c)) (Fin.ext (by simp only; omega))
theorem values_at (w : FVec Ideal S4096x12304 .f32) (k : Fin 4096) (x : Fin 512) (j : Fin 12304) (hj : j.1 = 9744 + x.1) :
    extractStridedSlice S4096x512 ![0, 9744] w slices_S4096x12304_S4096x512_0_9744 (ix2 k x) = w (ix2 k j) := by
  pointwise
  exact congrArg (fun c => w (ix2 k c)) (Fin.ext (by simp only; omega))

theorem beside_at (q z : FVec Ideal S4096x2048 .f32) (u : FVec Ideal S4096x7168 .f32) (n v : FVec Ideal S4096x512 .f32) (k : Fin 4096) (e : Fin 12288) (R : EReal)
    (hq : ∀ x : Fin 2048, e.1 = x.1 → q (ix2 k x) = R) (hz : ∀ x : Fin 2048, e.1 = 2048 + x.1 → z (ix2 k x) = R)
    (hu : ∀ x : Fin 7168, e.1 = 4096 + x.1 → u (ix2 k x) = R) (hn : ∀ x : Fin 512, e.1 = 11264 + x.1 → n (ix2 k x) = R)
    (hv : ∀ x : Fin 512, e.1 = 11776 + x.1 → v (ix2 k x) = R) :
    beside q z u n v (ix2 k e) = R := by
  pointwise [beside]
  exact pick (fun _ => hq _ rfl) fun _ => pick (fun _ => hz _ (by simp only; omega)) fun _ => pick (fun _ => hu _ (by simp only; omega)) fun _ => pick (fun _ => hn _ (by simp only; omega)) fun _ =>
    hv _ (by simp only; omega)

theorem ordered_at (w : FVec Ideal S4096x12304 .f32) (k : Fin 4096) (e : Fin 12288) (j : Fin 12304) (hj : j.1 = column e.1) :
    ordered w (ix2 k e) = w (ix2 k j) := by
  exact beside_at _ _ _ _ _ k e _ (fun x hx => queries_at w k x j (hj.trans (column_queries _ x.2 hx)))
    (fun x hx => gates_at w k x j (hj.trans (column_gates _ x.2 hx))) (fun x hx => mixers_at w k x j (hj.trans (column_mixers _ x.2 hx)))
    (fun x hx => keys_at w k x j (hj.trans (column_keys _ x.2 hx))) (fun x hx => values_at w k x j (hj.trans (column_values _ x.2 hx)))

end Weights

section Product

open Cert.HeadReferenceIdeal Cert.HeadReferenceIdeal.Gen

/-- The queries' and the keys' columns of the product, in the output's order. -/
def product_queries (p : FVec Ideal S16384x12304 .f32) : FVec Ideal S16384x2048 .f32 :=
  shapeCast _ (transpose S16384x16x2x2x32 [0, 1, 3, 2, 4] (shapeCast _ (extractStridedSlice S16384x2048 ![0, 7184] p slices_S16384x12304_S16384x2048_0_7184)
    shapeCasts_S16384x2048_S16384x16x2x2x32) transposes_S16384x16x2x2x32_S16384x16x2x2x32_0_1_3_2_4) shapeCasts_S16384x16x2x2x32_S16384x2048
def product_keys (p : FVec Ideal S16384x12304 .f32) : FVec Ideal S16384x512 .f32 :=
  shapeCast _ (transpose S16384x4x2x2x32 [0, 1, 3, 2, 4] (shapeCast _ (extractStridedSlice S16384x512 ![0, 9232] p slices_S16384x12304_S16384x512_0_9232)
    shapeCasts_S16384x512_S16384x4x2x2x32) transposes_S16384x4x2x2x32_S16384x4x2x2x32_0_1_3_2_4) shapeCasts_S16384x4x2x2x32_S16384x512

theorem product_queries_of (p : FVec Ideal S16384x12304 .f32) (k : Fin 16384) (x : Fin 2048) (j : Fin 12304) (hj : j.1 = 7184 + lane x.1) :
    product_queries p (ix2 k x) = p (ix2 k j) := by
  pointwise [product_queries]
  exact congrArg (fun c => p (ix2 k c)) (Fin.ext hj.symm)
theorem product_keys_of (p : FVec Ideal S16384x12304 .f32) (k : Fin 16384) (x : Fin 512) (j : Fin 12304) (hj : j.1 = 9232 + lane x.1) :
    product_keys p (ix2 k x) = p (ix2 k j) := by
  pointwise [product_keys]
  exact congrArg (fun c => p (ix2 k c)) (Fin.ext hj.symm)

/-- Eleven arrays side by side. -/
def row11 (q z : FVec Ideal S16384x2048 .f32) (u0 u1 u2 u3 u4 u5 u6 : FVec Ideal S16384x1024 .f32) (n v : FVec Ideal S16384x512 .f32) : FVec Ideal S16384x12288 .f32 :=
  concatenate S16384x12288 1
    [⟨S16384x2048, (q : (⟨S16384x2048, .f32⟩ : BufTy).Contents (Elt Ideal))⟩, ⟨S16384x2048, (z : (⟨S16384x2048, .f32⟩ : BufTy).Contents (Elt Ideal))⟩,
     ⟨S16384x1024, (u0 : (⟨S16384x1024, .f32⟩ : BufTy).Contents (Elt Ideal))⟩,
     ⟨S16384x1024, (u1 : (⟨S16384x1024, .f32⟩ : BufTy).Contents (Elt Ideal))⟩,
     ⟨S16384x1024, (u2 : (⟨S16384x1024, .f32⟩ : BufTy).Contents (Elt Ideal))⟩,
     ⟨S16384x1024, (u3 : (⟨S16384x1024, .f32⟩ : BufTy).Contents (Elt Ideal))⟩,
     ⟨S16384x1024, (u4 : (⟨S16384x1024, .f32⟩ : BufTy).Contents (Elt Ideal))⟩,
     ⟨S16384x1024, (u5 : (⟨S16384x1024, .f32⟩ : BufTy).Contents (Elt Ideal))⟩,
     ⟨S16384x1024, (u6 : (⟨S16384x1024, .f32⟩ : BufTy).Contents (Elt Ideal))⟩,
     ⟨S16384x512, (n : (⟨S16384x512, .f32⟩ : BufTy).Contents (Elt Ideal))⟩, ⟨S16384x512, (v : (⟨S16384x512, .f32⟩ : BufTy).Contents (Elt Ideal))⟩]
    concatenates_S16384x2048_S16384x2048_S16384x1024_S16384x1024_S16384x1024_S16384x1024_S16384x1024_S16384x1024_S16384x1024_S16384x512_S16384x512_S16384x12288_d1

/-- The product's columns in the output's order. -/
def arranged (p : FVec Ideal S16384x12304 .f32) : FVec Ideal S16384x12288 .f32 :=
  row11 (product_queries p) (extractStridedSlice S16384x2048 ![0, 10256] p slices_S16384x12304_S16384x2048_0_10256)
    (extractStridedSlice S16384x1024 ![0, 0] p slices_S16384x12304_S16384x1024_0_0)
    (extractStridedSlice S16384x1024 ![0, 1024] p slices_S16384x12304_S16384x1024_0_1024)
    (extractStridedSlice S16384x1024 ![0, 2048] p slices_S16384x12304_S16384x1024_0_2048)
    (extractStridedSlice S16384x1024 ![0, 3072] p slices_S16384x12304_S16384x1024_0_3072)
    (extractStridedSlice S16384x1024 ![0, 4096] p slices_S16384x12304_S16384x1024_0_4096)
    (extractStridedSlice S16384x1024 ![0, 5120] p slices_S16384x12304_S16384x1024_0_5120)
    (extractStridedSlice S16384x1024 ![0, 6144] p slices_S16384x12304_S16384x1024_0_6144)
    (product_keys p) (extractStridedSlice S16384x512 ![0, 9744] p slices_S16384x12304_S16384x512_0_9744)

theorem gates_of (p : FVec Ideal S16384x12304 .f32) (k : Fin 16384) (x : Fin 2048) (j : Fin 12304) (hj : j.1 = 10256 + x.1) :
    extractStridedSlice S16384x2048 ![0, 10256] p slices_S16384x12304_S16384x2048_0_10256 (ix2 k x) = p (ix2 k j) := by
  pointwise
  exact congrArg (fun c => p (ix2 k c)) (Fin.ext (by simp only; omega))
theorem mixer0_of (p : FVec Ideal S16384x12304 .f32) (k : Fin 16384) (x : Fin 1024) (j : Fin 12304) (hj : j.1 = 0 + x.1) :
    extractStridedSlice S16384x1024 ![0, 0] p slices_S16384x12304_S16384x1024_0_0 (ix2 k x) = p (ix2 k j) := by
  pointwise
  exact congrArg (fun c => p (ix2 k c)) (Fin.ext (by simp only; omega))
theorem mixer1_of (p : FVec Ideal S16384x12304 .f32) (k : Fin 16384) (x : Fin 1024) (j : Fin 12304) (hj : j.1 = 1024 + x.1) :
    extractStridedSlice S16384x1024 ![0, 1024] p slices_S16384x12304_S16384x1024_0_1024 (ix2 k x) = p (ix2 k j) := by
  pointwise
  exact congrArg (fun c => p (ix2 k c)) (Fin.ext (by simp only; omega))
theorem mixer2_of (p : FVec Ideal S16384x12304 .f32) (k : Fin 16384) (x : Fin 1024) (j : Fin 12304) (hj : j.1 = 2048 + x.1) :
    extractStridedSlice S16384x1024 ![0, 2048] p slices_S16384x12304_S16384x1024_0_2048 (ix2 k x) = p (ix2 k j) := by
  pointwise
  exact congrArg (fun c => p (ix2 k c)) (Fin.ext (by simp only; omega))
theorem mixer3_of (p : FVec Ideal S16384x12304 .f32) (k : Fin 16384) (x : Fin 1024) (j : Fin 12304) (hj : j.1 = 3072 + x.1) :
    extractStridedSlice S16384x1024 ![0, 3072] p slices_S16384x12304_S16384x1024_0_3072 (ix2 k x) = p (ix2 k j) := by
  pointwise
  exact congrArg (fun c => p (ix2 k c)) (Fin.ext (by simp only; omega))
theorem mixer4_of (p : FVec Ideal S16384x12304 .f32) (k : Fin 16384) (x : Fin 1024) (j : Fin 12304) (hj : j.1 = 4096 + x.1) :
    extractStridedSlice S16384x1024 ![0, 4096] p slices_S16384x12304_S16384x1024_0_4096 (ix2 k x) = p (ix2 k j) := by
  pointwise
  exact congrArg (fun c => p (ix2 k c)) (Fin.ext (by simp only; omega))
theorem mixer5_of (p : FVec Ideal S16384x12304 .f32) (k : Fin 16384) (x : Fin 1024) (j : Fin 12304) (hj : j.1 = 5120 + x.1) :
    extractStridedSlice S16384x1024 ![0, 5120] p slices_S16384x12304_S16384x1024_0_5120 (ix2 k x) = p (ix2 k j) := by
  pointwise
  exact congrArg (fun c => p (ix2 k c)) (Fin.ext (by simp only; omega))
theorem mixer6_of (p : FVec Ideal S16384x12304 .f32) (k : Fin 16384) (x : Fin 1024) (j : Fin 12304) (hj : j.1 = 6144 + x.1) :
    extractStridedSlice S16384x1024 ![0, 6144] p slices_S16384x12304_S16384x1024_0_6144 (ix2 k x) = p (ix2 k j) := by
  pointwise
  exact congrArg (fun c => p (ix2 k c)) (Fin.ext (by simp only; omega))
theorem values_of (p : FVec Ideal S16384x12304 .f32) (k : Fin 16384) (x : Fin 512) (j : Fin 12304) (hj : j.1 = 9744 + x.1) :
    extractStridedSlice S16384x512 ![0, 9744] p slices_S16384x12304_S16384x512_0_9744 (ix2 k x) = p (ix2 k j) := by
  pointwise
  exact congrArg (fun c => p (ix2 k c)) (Fin.ext (by simp only; omega))

theorem row11_at (q z : FVec Ideal S16384x2048 .f32) (u0 u1 u2 u3 u4 u5 u6 : FVec Ideal S16384x1024 .f32) (n v : FVec Ideal S16384x512 .f32)
    (k : Fin 16384) (e : Fin 12288) (R : EReal)
    (hq : ∀ x : Fin 2048, e.1 = x.1 → q (ix2 k x) = R) (hz : ∀ x : Fin 2048, e.1 = 2048 + x.1 → z (ix2 k x) = R)
    (h0 : ∀ x : Fin 1024, e.1 = 4096 + x.1 → u0 (ix2 k x) = R)
    (h1 : ∀ x : Fin 1024, e.1 = 5120 + x.1 → u1 (ix2 k x) = R)
    (h2 : ∀ x : Fin 1024, e.1 = 6144 + x.1 → u2 (ix2 k x) = R)
    (h3 : ∀ x : Fin 1024, e.1 = 7168 + x.1 → u3 (ix2 k x) = R)
    (h4 : ∀ x : Fin 1024, e.1 = 8192 + x.1 → u4 (ix2 k x) = R)
    (h5 : ∀ x : Fin 1024, e.1 = 9216 + x.1 → u5 (ix2 k x) = R)
    (h6 : ∀ x : Fin 1024, e.1 = 10240 + x.1 → u6 (ix2 k x) = R)
    (hn : ∀ x : Fin 512, e.1 = 11264 + x.1 → n (ix2 k x) = R) (hv : ∀ x : Fin 512, e.1 = 11776 + x.1 → v (ix2 k x) = R) :
    row11 q z u0 u1 u2 u3 u4 u5 u6 n v (ix2 k e) = R := by
  pointwise [row11]
  exact pick (fun _ => hq _ rfl) fun _ => pick (fun _ => hz _ (by simp only; omega)) fun _ => pick (fun _ => h0 _ (by simp only; omega)) fun _ => pick (fun _ => h1 _ (by simp only; omega)) fun _ =>
    pick (fun _ => h2 _ (by simp only; omega)) fun _ => pick (fun _ => h3 _ (by simp only; omega)) fun _ => pick (fun _ => h4 _ (by simp only; omega)) fun _ => pick (fun _ => h5 _ (by simp only; omega)) fun _ =>
    pick (fun _ => h6 _ (by simp only; omega)) fun _ => pick (fun _ => hn _ (by simp only; omega)) fun _ => hv _ (by simp only; omega)

theorem arranged_at (p : FVec Ideal S16384x12304 .f32) (k : Fin 16384) (e : Fin 12288) (j : Fin 12304) (hj : j.1 = column e.1) :
    arranged p (ix2 k e) = p (ix2 k j) := by
  exact row11_at _ _ _ _ _ _ _ _ _ _ _ k e _ (fun x hx => product_queries_of p k x j (hj.trans (column_queries _ x.2 hx)))
    (fun x hx => gates_of p k x j (hj.trans (column_gates _ x.2 hx)))
    (fun x hx => mixer0_of p k x j (hj.trans (column_mixers (0 + x.1) (by omega) (by omega))))
    (fun x hx => mixer1_of p k x j (hj.trans (column_mixers (1024 + x.1) (by omega) (by omega))))
    (fun x hx => mixer2_of p k x j (hj.trans (column_mixers (2048 + x.1) (by omega) (by omega))))
    (fun x hx => mixer3_of p k x j (hj.trans (column_mixers (3072 + x.1) (by omega) (by omega))))
    (fun x hx => mixer4_of p k x j (hj.trans (column_mixers (4096 + x.1) (by omega) (by omega))))
    (fun x hx => mixer5_of p k x j (hj.trans (column_mixers (5120 + x.1) (by omega) (by omega))))
    (fun x hx => mixer6_of p k x j (hj.trans (column_mixers (6144 + x.1) (by omega) (by omega))))
    (fun x hx => product_keys_of p k x j (hj.trans (column_keys _ x.2 hx))) (fun x hx => values_of p k x j (hj.trans (column_values _ x.2 hx)))

end Product

end Cert.HeadIdeal.Order

end
-- ==== Proof.HeadStages.lean ====
module

public import proofs.«01_k».proof.Defs
public import proofs.«01_k».proof.Proof.Gen.HeadIdeal.Frame
public import proofs.«01_k».proof.Proof.HeadOrder
public import Idealize.ShloMosaic.Lib.Pipeline.ValueKit

@[expose] public section

set_option maxRecDepth 16384

noncomputable section

namespace Cert.HeadIdeal.Whole

open Idealize.ShloMosaic Idealize.ShloMosaic.TcCoe Idealize.SL.Sem
open Cert.HeadIdeal Cert.HeadIdeal.Gen Cert.HeadIdeal.Order

/-! The norm before the projection, and the projection of what it leaves. -/

/-- The reference's product, and its projOf. -/
def product (h : FVec Ideal Cert.HeadReferenceIdeal.S16384x4096 .f32) (w : FVec Ideal Cert.HeadReferenceIdeal.S4096x12304 .f32) :
    FVec Ideal Cert.HeadReferenceIdeal.S16384x12304 .f32 :=
  Host.dotGeneral Cert.HeadReferenceIdeal.dot_S16384x4096_S4096x12304_S16384x12304_1_0_0_1_n_n none h w
def projOf (h : FVec Ideal Cert.HeadReferenceIdeal.S16384x4096 .f32) (w : FVec Ideal Cert.HeadReferenceIdeal.S4096x12304 .f32) :
    FVec Ideal Cert.HeadReferenceIdeal.S16384x12288 .f32 := arranged (product h w)

theorem product_at (h : FVec Ideal S16384x4096 .f32) (w : FVec Ideal S4096x12304 .f32) (r : Fin 16384) (j : Fin 12304) :
    product h w (ix2 r j) = ∑ k : Fin 4096, h (ix2 r k) * w (ix2 k j) := by
  pointwise [product]
theorem projOf_at (h : FVec Ideal S16384x4096 .f32) (w : FVec Ideal S4096x12304 .f32) (r : Fin 16384) (e : Fin 12288) :
    projOf h w (ix2 r e) = ∑ k : Fin 4096, h (ix2 r k) * ordered w (ix2 k e) := by
  refine (arranged_at (product h w) r e ⟨column e.1, column_lt e⟩ rfl).trans ((product_at h w r _).trans (Finset.sum_congr rfl fun k _ => ?_))
  rw [ordered_at w k e ⟨column e.1, column_lt e⟩ rfl]

theorem proj_body (h : FVec Ideal S1024x4096 .bf16) (w : FVec Ideal S4096x1024 .bf16) (r e : Fin 1024) :
    k1_pay1 (F := Ideal) h w (ix2 r e) = ∑ k : Fin 4096, h (ix2 r k) * w (ix2 k e) := by
  pointwise [k1_pay1]

/-- The reference's norm of the rows. -/
def normed (x : FVec Ideal Cert.HeadReferenceIdeal.S16384x4096 .f32) (g : FVec Ideal Cert.HeadReferenceIdeal.S4096 .f32) : FVec Ideal Cert.HeadReferenceIdeal.S16384x4096 .f32 :=
  mulf (mulf x (broadcastInDim Cert.HeadReferenceIdeal.S16384x4096 ![0, 1] Cert.HeadReferenceIdeal.Gen.bcast_S16384x1_S16384x4096_0_1
      (Host.rsqrt (addf (Host.divf (broadcastInDim Cert.HeadReferenceIdeal.S16384x1 ![0] Cert.HeadReferenceIdeal.Gen.bcast_S16384_S16384x1_0
          (Host.reduceAdd (mulf x x) (constant Cert.HeadReferenceIdeal.S_ .f32 0x00000000#32)
            Cert.HeadReferenceIdeal.Gen.reducesTo_S16384x4096_S16384_d1 Cert.HeadReferenceIdeal.Gen.h_S_))
          (broadcastInDim Cert.HeadReferenceIdeal.S16384x1 ![] Cert.HeadReferenceIdeal.Gen.bcast_S_S16384x1 (constant Cert.HeadReferenceIdeal.S_ .f32 0x45800000#32)))
        (broadcastInDim Cert.HeadReferenceIdeal.S16384x1 ![] Cert.HeadReferenceIdeal.Gen.bcast_S_S16384x1 (constant Cert.HeadReferenceIdeal.S_ .f32 0x358637BD#32))))))
    (broadcastInDim Cert.HeadReferenceIdeal.S16384x4096 ![0, 1] Cert.HeadReferenceIdeal.Gen.bcast_S1x4096_S16384x4096_0_1
      (broadcastInDim Cert.HeadReferenceIdeal.S1x4096 ![1] Cert.HeadReferenceIdeal.Gen.bcast_S4096_S1x4096_1 g))

theorem normed_at (x : FVec Ideal S16384x4096 .f32) (g : FVec Ideal S4096 .f32) (r : Fin 16384) (e : Fin 4096) :
    normed x g (ix2 r e) = x (ix2 r e)
      * Ideal.rsqrt (Ideal.div (∑ k : Fin 4096, x (ix2 r k) * x (ix2 r k)) (Ideal.ofBits .f32 0x45800000#32) + Ideal.ofBits .f32 0x358637BD#32) * g (ix1 e) := by
  pointwise [normed]
theorem norm_body (x : FVec Ideal S256x4096 .f32) (g : FVec Ideal S1x4096 .f32) (r : Fin 256) (e : Fin 4096) :
    k0_pay1 (F := Ideal) x g (ix2 r e) = x (ix2 r e)
      * Ideal.rsqrt (Ideal.div (∑ k : Fin 4096, x (ix2 r k) * x (ix2 r k)) (Ideal.ofBits .f32 0x45800000#32) + Ideal.ofBits .f32 0x358637BD#32) * g (ix2 0 e) := by
  pointwise [k0_pay1]

variable (V : (c : Dev nD) → (b : Ref sig .tc) → Buf (Elt Ideal) ((c : Thread nD τ).loc b))

namespace Norm

/-- Each window's block at a point of the grid. -/
theorem idx : ∀ t : Fin cfg0.N, win0_0.index t = ![t.1, 0] ∧ win0_1.index t = ![0, 0] ∧ win0_2.index t = ![t.1, 0] :=
  (by decide +kernel : ∀ t : Fin grid0.N, _)

def row (t : Fin cfg0.N) (r : Fin 256) : Fin 16384 := ⟨t.1 * 256 + r.1, by have h : t.1 < 64 := t.2; omega⟩

theorem x_at (c : Dev nD) (t : Fin cfg0.N) (r : Fin 256) (k : Fin 4096) :
    iblk0 V c 0 t (ix2 r k) = V c main_arg0 (ix2 (row t r) k) := by
  refine (show iblk0 V c 0 t (ix2 r k) = V c main_arg0 ((win0_0.blk t).view.emb (ix2 r k)) from rfl).trans ?_
  blk_ext! [idx t, row]
theorem g_at (c : Dev nD) (t : Fin cfg0.N) (e : Fin 4096) : iblk0 V c 1 t (ix2 0 e) = V c main_v13 (ix2 0 e) := by
  refine (show iblk0 V c 1 t (ix2 0 e) = V c main_v13 ((win0_1.blk t).view.emb (ix2 0 e)) from rfl).trans ?_
  refine congrArg (V c main_v13) ?_
  blk_ext! [idx t]

theorem block (c : Dev nD) (g : FVec Ideal S4096 .f32) (hg : ∀ e : Fin 4096, V c main_v13 (ix2 0 e) = g (ix1 e)) (t : Fin cfg0.N) (r : Fin 256) (e : Fin 4096) :
    k0_pay1 (F := Ideal) (iblk0 V c 0 t) (iblk0 V c 1 t) (ix2 r e) = normed (V c main_arg0) g (ix2 (row t r) e) := by
  refine (norm_body _ _ r e).trans (Eq.trans ?_ (normed_at _ _ (row t r) e).symm)
  refine congrArg₂ (· * ·) (congrArg₂ (· * ·) (x_at V c t r e) ?_) ((g_at V c t e).trans (hg e))
  exact congrArg (fun s => Ideal.rsqrt (Ideal.div s _ + _)) (Finset.sum_congr rfl fun k _ => congrArg₂ (· * ·) (x_at V c t r k) (x_at V c t r k))

/-- The array the call leaves. -/
theorem array (c : Dev nD) (g : FVec Ideal S4096 .f32) (hg : ∀ e : Fin 4096, V c main_v13 (ix2 0 e) = g (ix1 e)) : (dat0 V c).arrAt 2 cfg0.N = normed (V c main_arg0) g := by
  refine (dat0 V c).arrAt_eq_of_covers 2 _ (by decide +kernel) fun t _ y => ?_
  blk_simp
  rw [after0_2]; frame_out
  have h := block V c g hg t ((y : S256x4096.Idx) 0) ((y : S256x4096.Idx) 1)
  rw [← show y = (ix2 ((y : S256x4096.Idx) 0) ((y : S256x4096.Idx) 1) : S256x4096.Idx) from eq_ix2 (y : S256x4096.Idx)] at h
  refine h.trans ?_
  generalize normed _ _ = G
  blk_ext! [idx t, row]

end Norm

namespace Proj

/-- Each window's block at a point of the grid. -/
theorem idx : ∀ t : Fin cfg1.N, win1_0.index t = ![t.1 / 12, 0] ∧ win1_1.index t = ![0, t.1 % 12] ∧ win1_2.index t = ![t.1 / 12, t.1 % 12] :=
  (by decide +kernel : ∀ t : Fin grid1.N, _)

def row (t : Fin cfg1.N) (r : Fin 1024) : Fin 16384 := ⟨t.1 / 12 * 1024 + r.1, by have h : t.1 < 192 := t.2; omega⟩
def col (t : Fin cfg1.N) (e : Fin 1024) : Fin 12288 := ⟨t.1 % 12 * 1024 + e.1, by omega⟩

theorem h_at (c : Dev nD) (t : Fin cfg1.N) (r : Fin 1024) (k : Fin 4096) :
    iblk1 V c 0 t (ix2 r k) = V c main_v14 (ix2 (row t r) k) := by
  refine (show iblk1 V c 0 t (ix2 r k) = V c main_v14 ((win1_0.blk t).view.emb (ix2 r k)) from rfl).trans ?_
  blk_ext! [idx t, row]
theorem w_at (c : Dev nD) (t : Fin cfg1.N) (r : Fin 4096) (k : Fin 1024) :
    iblk1 V c 1 t (ix2 r k) = V c main_v12 (ix2 r (col t k)) := by
  refine (show iblk1 V c 1 t (ix2 r k) = V c main_v12 ((win1_1.blk t).view.emb (ix2 r k)) from rfl).trans ?_
  blk_ext! [idx t, col]

theorem block (c : Dev nD) (w : FVec Ideal S4096x12304 .f32) (hw : V c main_v12 = truncf (F := Ideal) .bf16 (ordered w) bitsLt_bf16_f32) (t : Fin cfg1.N) (r e : Fin 1024) :
    k1_pay1 (F := Ideal) (iblk1 V c 0 t) (iblk1 V c 1 t) (ix2 r e) = projOf (V c main_v14) w (ix2 (row t r) (col t e)) := by
  refine (proj_body _ _ r e).trans (Eq.trans ?_ (projOf_at _ _ (row t r) (col t e)).symm)
  refine Finset.sum_congr rfl fun k _ => congrArg₂ (· * ·) (h_at V c t r k) ((w_at V c t k e).trans ?_)
  rw [hw]; rfl

/-- The array the call leaves. -/
theorem array (c : Dev nD) (w : FVec Ideal S4096x12304 .f32) (hw : V c main_v12 = truncf (F := Ideal) .bf16 (ordered w) bitsLt_bf16_f32) : (dat1 V c).arrAt 2 cfg1.N = projOf (V c main_v14) w := by
  refine (dat1 V c).arrAt_eq_of_covers 2 _ (by decide +kernel) fun t _ y => ?_
  blk_simp
  rw [after1_2]; frame_out
  have h := block V c w hw t ((y : S1024x1024.Idx) 0) ((y : S1024x1024.Idx) 1)
  rw [← show y = (ix2 ((y : S1024x1024.Idx) 0) ((y : S1024x1024.Idx) 1) : S1024x1024.Idx) from eq_ix2 (y : S1024x1024.Idx)] at h
  refine h.trans ?_
  generalize projOf _ _ = G
  blk_ext! [idx t, row, col]

end Proj

end Cert.HeadIdeal.Whole

end
-- ==== Proof.HeadValue.lean ====
module

public import proofs.«01_k».proof.Defs
public import proofs.«01_k».proof.Proof.Gen.Head.Frame
public import proofs.«01_k».proof.Proof.HeadStages
public import Idealize.ShloMosaic.Lib.Quiescent
public import Idealize.ShloMosaic.Lib.Claim

@[expose] public section

set_option maxRecDepth 16384

noncomputable section

namespace Cert.HeadIdeal.Whole

open Idealize.ShloMosaic Idealize.ShloMosaic.TcCoe Idealize.SL.Sem
open Cert.HeadIdeal Cert.HeadIdeal.Gen

/-! The layer's head as one program: the projection finds the normalised rows. -/

section run
open Idealize.SL Idealize.SL.RA Idealize.SL.BI
open scoped Idealize.SL.BI
open Idealize.SL.BI.BIBase Idealize.SL.BI.Laws Idealize.SL.ProofMode
open Idealize.ShloMosaic.Rounds
variable {F : FTy → Type} [FloatOps F]
set_option backward.isDefEq.respectTransparency.types false in
/-- What the whole run leaves: the result at the contents of the last boundary, the arguments as launched. -/
theorem run_held (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v15) = W3 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => fun c =>
      ⟨h c _ (mem_uc main_v15 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end run

variable (m : (ℓ : Loc nD τ sig) → Buf (Elt Ideal) ℓ) (ρ : Dev nD → PrngReg)

/-- The normalised rows, and their projection. -/
def rows (c : Dev nD) : FVec Ideal S16384x4096 .f32 := normed (m ((c : Thread nD τ).loc main_arg0)) (m ((c : Thread nD τ).loc main_arg1))
def projected (c : Dev nD) : FVec Ideal S16384x12288 .f32 := projOf (rows m c) (m ((c : Thread nD τ).loc main_arg2))

theorem cast_at (g : FVec Ideal S4096 .f32) (e : Fin 4096) : shapeCast S1x4096 g shapeCasts_S4096_S1x4096 (ix2 0 e) = g (ix1 e) := by
  pointwise

theorem V1_g (c : Dev nD) : V1 m ρ c main_v13 = shapeCast S1x4096 (m ((c : Thread nD τ).loc main_arg1)) shapeCasts_S4096_S1x4096 := by
  simp only [V1, W1, hostOps0]; after_results_simp <;> rfl
theorem V1_w (c : Dev nD) : V1 m ρ c main_v12 = truncf (F := Ideal) .bf16 (Order.ordered (m ((c : Thread nD τ).loc main_arg2))) bitsLt_bf16_f32 := by
  simp only [V1, W1, hostOps0]; after_results_simp <;> rfl
theorem V1_x (c : Dev nD) : V1 m ρ c main_arg0 = (m ((c : Thread nD τ).loc main_arg0)) := W1_args m ρ c main_arg0 (by decide +kernel)
theorem V1_at (c : Dev nD) (e : Fin 4096) : V1 m ρ c main_v13 (ix2 0 e) = (m ((c : Thread nD τ).loc main_arg1)) (ix1 e) := by
  rw [V1_g]; exact cast_at (m ((c : Thread nD τ).loc main_arg1)) e

theorem W2_rows (c : Dev nD) : W2 m ρ c (Proc.devRef .tc main_v14) = rows m c := by
  refine (W2_arr m ρ c 2).trans ((Norm.array (V1 m ρ) c (m ((c : Thread nD τ).loc main_arg1)) (V1_at m ρ c)).trans ?_)
  rw [V1_x]; rfl
theorem V2_w (c : Dev nD) : V2 m ρ c main_v12 = truncf (F := Ideal) .bf16 (Order.ordered (m ((c : Thread nD τ).loc main_arg2))) bitsLt_bf16_f32 :=
  (W2_of m ρ c main_v12 (by decide +kernel)).trans (V1_w m ρ c)
theorem V2_h (c : Dev nD) : V2 m ρ c main_v14 = rows m c := W2_rows m ρ c

theorem W3_result (c : Dev nD) : W3 m ρ c (Proc.devRef .tc main_v15) = projected m c := by
  refine (W3_arr m ρ c 2).trans ((Proj.array (V2 m ρ) c (m ((c : Thread nD τ).loc main_arg2)) (V2_w m ρ c)).trans ?_)
  rw [V2_h]; rfl

theorem frame_kernel : Cert.quiescent_Head := fun m ρ _ => Cert.Head.Gen.frame m ρ
theorem frame_ideal : Cert.quiescent_HeadIdeal := fun m ρ _ => Cert.HeadIdeal.Gen.frame m ρ
theorem frame_reference : Cert.quiescent_HeadReferenceIdeal := fun m ρ _ =>
  (θ_run Cert.HeadReferenceIdeal.defs _ _).mono (fun r h => ⟨fun c => (h c).2, sem_eq_zero_of_no_sems (by decide) r.2⟩)
    (Cert.HeadReferenceIdeal.Value.run (F := Ideal) m ρ)

theorem algebraic : Cert.algebraic_HeadIdeal_HeadReferenceIdeal := fun m ρ m' ρ' _ hargs => by
  refine ⟨fun c => projected m c, ?_, ?_⟩
  · exact (θ_run defs _ _).mono (fun r h c => ⟨(h c).1.trans (W3_result m ρ c), (h c).2⟩) (run_held m ρ)
  · refine (θ_run Cert.HeadReferenceIdeal.defs _ _).mono (fun r h c => ⟨(h c).1.trans ?_, (h c).2⟩) (Cert.HeadReferenceIdeal.Value.run (F := Ideal) m' ρ')
    unfold Cert.HeadReferenceIdeal.Value.res_main_v32
    rw [(hargs c).1, (hargs c).2.1, (hargs c).2.2]
    rfl

end Cert.HeadIdeal.Whole

end
-- ==== Proof.lean ====
module

public import proofs.«01_k».proof.Defs
public import proofs.«01_k».proof.Proof.Frames
public import proofs.«01_k».proof.Proof.Claims
public import proofs.«01_k».proof.Proof.InValue
public import proofs.«01_k».proof.Proof.OutValue
public import proofs.«01_k».proof.Proof.PleValue
public import proofs.«01_k».proof.Proof.ResidualValue
public import proofs.«01_k».proof.Proof.TailValue
public import proofs.«01_k».proof.Proof.HeadValue
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.InProj.Frame
public import proofs.«01_k».proof.Proof.Gen.OutProj.Frame
public import proofs.«01_k».proof.Proof.Gen.Ple.Frame
public import proofs.«01_k».proof.Proof.Gen.Residual.Frame
public import proofs.«01_k».proof.Proof.Gen.InProjIdeal.Value
public import proofs.«01_k».proof.Proof.Gen.InProjReferenceIdeal.Run
public import proofs.«01_k».proof.Proof.Gen.OutProjIdeal.Value
public import proofs.«01_k».proof.Proof.Gen.OutProjReferenceIdeal.Run
public import proofs.«01_k».proof.Proof.Gen.PleIdeal.Value
public import proofs.«01_k».proof.Proof.Gen.PleReferenceIdeal.Run
public import proofs.«01_k».proof.Proof.Gen.ResidualIdeal.Value
public import proofs.«01_k».proof.Proof.Gen.ResidualReferenceIdeal.Run
public import proofs.«01_k».proof.Proof.Gen.Tail.Frame
public import proofs.«01_k».proof.Proof.Gen.TailIdeal.Frame
public import proofs.«01_k».proof.Proof.Gen.TailReferenceIdeal.Run
public import proofs.«01_k».proof.Proof.Gen.Head.Frame
public import proofs.«01_k».proof.Proof.Gen.HeadIdeal.Frame
public import proofs.«01_k».proof.Proof.Gen.HeadReferenceIdeal.Run
public import Idealize.ShloMosaic.Adequacy
public import Idealize.ShloMosaic.Init

@[expose] public section

noncomputable section

namespace Cert.Proof

open Cert.KernelIdeal

theorem claim : Cert.Claim :=
  ⟨Cert.Kernel.Gen.facts, Cert.KernelIdeal.Gen.facts, Cert.ReferenceIdeal.Gen.facts,
    Cert.InProj.Gen.facts, Cert.InProjIdeal.Gen.facts, Cert.InProjReferenceIdeal.Gen.facts,
    Cert.OutProj.Gen.facts, Cert.OutProjIdeal.Gen.facts, Cert.OutProjReferenceIdeal.Gen.facts,
    Cert.Ple.Gen.facts, Cert.PleIdeal.Gen.facts, Cert.PleReferenceIdeal.Gen.facts,
    Cert.Residual.Gen.facts, Cert.ResidualIdeal.Gen.facts, Cert.ResidualReferenceIdeal.Gen.facts,
    Cert.Tail.Gen.facts, Cert.TailIdeal.Gen.facts, Cert.TailReferenceIdeal.Gen.facts,
    Cert.Head.Gen.facts, Cert.HeadIdeal.Gen.facts, Cert.HeadReferenceIdeal.Gen.facts,
    Flash.pre_facts,
    Flash.frame_kernel, Flash.frame_ideal, Flash.frame_ideal_finite (hPre := Flash.pre_facts), Flash.frame_reference,
    Flash.frame_reference_finite (hPre := Flash.pre_facts),
    Cert.InProjIdeal.Order.frame_kernel, Cert.InProjIdeal.Order.frame_ideal, Cert.InProjIdeal.Order.frame_reference,
    Cert.OutProjIdeal.Joined.frame_kernel, Cert.OutProjIdeal.Joined.frame_ideal, Cert.OutProjIdeal.Joined.frame_reference,
    Cert.PleIdeal.Gated.frame_kernel, Cert.PleIdeal.Gated.frame_ideal, Cert.PleIdeal.Gated.frame_reference,
    Cert.ResidualIdeal.Normed.frame_kernel, Cert.ResidualIdeal.Normed.frame_ideal, Cert.ResidualIdeal.Normed.frame_reference,
    Cert.TailIdeal.Whole.frame_kernel, Cert.TailIdeal.Whole.frame_ideal, Cert.TailIdeal.Whole.frame_reference,
    Cert.HeadIdeal.Whole.frame_kernel, Cert.HeadIdeal.Whole.frame_ideal, Cert.HeadIdeal.Whole.frame_reference,
    Flash.preserves, Flash.algebraic (hPre := Flash.pre_facts),
    trivial, Cert.InProjIdeal.Order.algebraic,
    trivial, Cert.OutProjIdeal.Joined.algebraic,
    trivial, Cert.PleIdeal.Gated.algebraic,
    trivial, Cert.ResidualIdeal.Normed.algebraic,
    trivial, Cert.TailIdeal.Whole.algebraic,
    trivial, Cert.HeadIdeal.Whole.algebraic⟩

end Cert.Proof

end
